-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleReferenceIdeal (m : (ℓ : Loc Cert.OutSampleReferenceIdeal.nD Cert.OutSampleReferenceIdeal.τ Cert.OutSampleReferenceIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleReferenceIdeal (m : (ℓ : Loc Cert.MixSampleReferenceIdeal.nD Cert.MixSampleReferenceIdeal.τ Cert.MixSampleReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4)
      ∧ r.2.mem ((c.tc : Thread Cert.OutSample.nD Cert.OutSample.τ).loc Cert.OutSample.main_arg5) = m ((c.tc : Thread Cert.OutSample.nD Cert.OutSample.τ).loc Cert.OutSample.main_arg5)
      ∧ r.2.mem ((c.tc : Thread Cert.OutSample.nD Cert.OutSample.τ).loc Cert.OutSample.main_arg6) = m ((c.tc : Thread Cert.OutSample.nD Cert.OutSample.τ).loc Cert.OutSample.main_arg6)
      ∧ r.2.mem ((c.tc : Thread Cert.OutSample.nD Cert.OutSample.τ).loc Cert.OutSample.main_arg7) = m ((c.tc : Thread Cert.OutSample.nD Cert.OutSample.τ).loc Cert.OutSample.main_arg7))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
      ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
      ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
      ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7))
      ∧ r.2.sem = fun _ => 0)

def quiescent_OutSampleReferenceIdeal [hOutSampleReferenceIdeal : Cert.OutSampleReferenceIdeal.Facts] : Prop :=
  ∀ (m : (ℓ : Loc Cert.OutSampleReferenceIdeal.nD Cert.OutSampleReferenceIdeal.τ Cert.OutSampleReferenceIdeal.sig) → Buf (Elt Ideal) ℓ) (g : Dev Cert.OutSampleReferenceIdeal.nD → PrngReg), Pre_OutSampleReferenceIdeal m →
    θ_run (Cert.OutSampleReferenceIdeal.defs (F := Ideal)) (onTc (τ := Cert.OutSampleReferenceIdeal.τ) (Cert.OutSampleReferenceIdeal.main (F := Ideal))) ⟨m, fun _ => 0, g⟩ (fun r => (∀ c : Dev Cert.OutSampleReferenceIdeal.nD,
      r.2.mem ((c.tc : Thread Cert.OutSampleReferenceIdeal.nD Cert.OutSampleReferenceIdeal.τ).loc Cert.OutSampleReferenceIdeal.main_arg0) = m ((c.tc : Thread Cert.OutSampleReferenceIdeal.nD Cert.OutSampleReferenceIdeal.τ).loc Cert.OutSampleReferenceIdeal.main_arg0)
      ∧ r.2.mem ((c.tc : Thread Cert.OutSampleReferenceIdeal.nD Cert.OutSampleReferenceIdeal.τ).loc Cert.OutSampleReferenceIdeal.main_arg1) = m ((c.tc : Thread Cert.OutSampleReferenceIdeal.nD Cert.OutSampleReferenceIdeal.τ).loc Cert.OutSampleReferenceIdeal.main_arg1)
      ∧ r.2.mem ((c.tc : Thread Cert.OutSampleReferenceIdeal.nD Cert.OutSampleReferenceIdeal.τ).loc Cert.OutSampleReferenceIdeal.main_arg2) = m ((c.tc : Thread Cert.OutSampleReferenceIdeal.nD Cert.OutSampleReferenceIdeal.τ).loc Cert.OutSampleReferenceIdeal.main_arg2)
      ∧ r.2.mem ((c.tc : Thread Cert.OutSampleReferenceIdeal.nD Cert.OutSampleReferenceIdeal.τ).loc Cert.OutSampleReferenceIdeal.main_arg3) = m ((c.tc : Thread Cert.OutSampleReferenceIdeal.nD Cert.OutSampleReferenceIdeal.τ).loc Cert.OutSampleReferenceIdeal.main_arg3)
      ∧ r.2.mem ((c.tc : Thread Cert.OutSampleReferenceIdeal.nD Cert.OutSampleReferenceIdeal.τ).loc Cert.OutSampleReferenceIdeal.main_arg4) = m ((c.tc : Thread Cert.OutSampleReferenceIdeal.nD Cert.OutSampleReferenceIdeal.τ).loc Cert.OutSampleReferenceIdeal.main_arg4)
      ∧ r.2.mem ((c.tc : Thread Cert.OutSampleReferenceIdeal.nD Cert.OutSampleReferenceIdeal.τ).loc Cert.OutSampleReferenceIdeal.main_arg5) = m ((c.tc : Thread Cert.OutSampleReferenceIdeal.nD Cert.OutSampleReferenceIdeal.τ).loc Cert.OutSampleReferenceIdeal.main_arg5)
      ∧ r.2.mem ((c.tc : Thread Cert.OutSampleReferenceIdeal.nD Cert.OutSampleReferenceIdeal.τ).loc Cert.OutSampleReferenceIdeal.main_arg6) = m ((c.tc : Thread Cert.OutSampleReferenceIdeal.nD Cert.OutSampleReferenceIdeal.τ).loc Cert.OutSampleReferenceIdeal.main_arg6)
      ∧ r.2.mem ((c.tc : Thread Cert.OutSampleReferenceIdeal.nD Cert.OutSampleReferenceIdeal.τ).loc Cert.OutSampleReferenceIdeal.main_arg7) = m ((c.tc : Thread Cert.OutSampleReferenceIdeal.nD Cert.OutSampleReferenceIdeal.τ).loc Cert.OutSampleReferenceIdeal.main_arg7))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9))
      ∧ r.2.sem = fun _ => 0)

def quiescent_MixSampleReferenceIdeal [hMixSampleReferenceIdeal : Cert.MixSampleReferenceIdeal.Facts] : Prop :=
  ∀ (m : (ℓ : Loc Cert.MixSampleReferenceIdeal.nD Cert.MixSampleReferenceIdeal.τ Cert.MixSampleReferenceIdeal.sig) → Buf (Elt Ideal) ℓ) (g : Dev Cert.MixSampleReferenceIdeal.nD → PrngReg), Pre_MixSampleReferenceIdeal m →
    θ_run (Cert.MixSampleReferenceIdeal.defs (F := Ideal)) (onTc (τ := Cert.MixSampleReferenceIdeal.τ) (Cert.MixSampleReferenceIdeal.main (F := Ideal))) ⟨m, fun _ => 0, g⟩ (fun r => (∀ c : Dev Cert.MixSampleReferenceIdeal.nD,
      r.2.mem ((c.tc : Thread Cert.MixSampleReferenceIdeal.nD Cert.MixSampleReferenceIdeal.τ).loc Cert.MixSampleReferenceIdeal.main_arg0) = m ((c.tc : Thread Cert.MixSampleReferenceIdeal.nD Cert.MixSampleReferenceIdeal.τ).loc Cert.MixSampleReferenceIdeal.main_arg0)
      ∧ r.2.mem ((c.tc : Thread Cert.MixSampleReferenceIdeal.nD Cert.MixSampleReferenceIdeal.τ).loc Cert.MixSampleReferenceIdeal.main_arg1) = m ((c.tc : Thread Cert.MixSampleReferenceIdeal.nD Cert.MixSampleReferenceIdeal.τ).loc Cert.MixSampleReferenceIdeal.main_arg1)
      ∧ r.2.mem ((c.tc : Thread Cert.MixSampleReferenceIdeal.nD Cert.MixSampleReferenceIdeal.τ).loc Cert.MixSampleReferenceIdeal.main_arg2) = m ((c.tc : Thread Cert.MixSampleReferenceIdeal.nD Cert.MixSampleReferenceIdeal.τ).loc Cert.MixSampleReferenceIdeal.main_arg2)
      ∧ r.2.mem ((c.tc : Thread Cert.MixSampleReferenceIdeal.nD Cert.MixSampleReferenceIdeal.τ).loc Cert.MixSampleReferenceIdeal.main_arg3) = m ((c.tc : Thread Cert.MixSampleReferenceIdeal.nD Cert.MixSampleReferenceIdeal.τ).loc Cert.MixSampleReferenceIdeal.main_arg3)
      ∧ r.2.mem ((c.tc : Thread Cert.MixSampleReferenceIdeal.nD Cert.MixSampleReferenceIdeal.τ).loc Cert.MixSampleReferenceIdeal.main_arg4) = m ((c.tc : Thread Cert.MixSampleReferenceIdeal.nD Cert.MixSampleReferenceIdeal.τ).loc Cert.MixSampleReferenceIdeal.main_arg4)
      ∧ r.2.mem ((c.tc : Thread Cert.MixSampleReferenceIdeal.nD Cert.MixSampleReferenceIdeal.τ).loc Cert.MixSampleReferenceIdeal.main_arg5) = m ((c.tc : Thread Cert.MixSampleReferenceIdeal.nD Cert.MixSampleReferenceIdeal.τ).loc Cert.MixSampleReferenceIdeal.main_arg5)
      ∧ r.2.mem ((c.tc : Thread Cert.MixSampleReferenceIdeal.nD Cert.MixSampleReferenceIdeal.τ).loc Cert.MixSampleReferenceIdeal.main_arg6) = m ((c.tc : Thread Cert.MixSampleReferenceIdeal.nD Cert.MixSampleReferenceIdeal.τ).loc Cert.MixSampleReferenceIdeal.main_arg6)
      ∧ r.2.mem ((c.tc : Thread Cert.MixSampleReferenceIdeal.nD Cert.MixSampleReferenceIdeal.τ).loc Cert.MixSampleReferenceIdeal.main_arg7) = m ((c.tc : Thread Cert.MixSampleReferenceIdeal.nD Cert.MixSampleReferenceIdeal.τ).loc Cert.MixSampleReferenceIdeal.main_arg7)
      ∧ r.2.mem ((c.tc : Thread Cert.MixSampleReferenceIdeal.nD Cert.MixSampleReferenceIdeal.τ).loc Cert.MixSampleReferenceIdeal.main_arg8) = m ((c.tc : Thread Cert.MixSampleReferenceIdeal.nD Cert.MixSampleReferenceIdeal.τ).loc Cert.MixSampleReferenceIdeal.main_arg8)
      ∧ r.2.mem ((c.tc : Thread Cert.MixSampleReferenceIdeal.nD Cert.MixSampleReferenceIdeal.τ).loc Cert.MixSampleReferenceIdeal.main_arg9) = m ((c.tc : Thread Cert.MixSampleReferenceIdeal.nD Cert.MixSampleReferenceIdeal.τ).loc Cert.MixSampleReferenceIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def preserves_Kernel_KernelIdeal : Prop :=
  True

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_OutSample_OutSampleIdeal : Prop :=
  True

def algebraic_OutSampleIdeal_OutSampleReferenceIdeal [hOutSampleIdeal : Cert.OutSampleIdeal.Facts] [hOutSampleReferenceIdeal : Cert.OutSampleReferenceIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleReferenceIdeal.nD Cert.OutSampleReferenceIdeal.τ Cert.OutSampleReferenceIdeal.sig) → Buf (Elt Ideal) ℓ) (g' : Dev Cert.OutSampleReferenceIdeal.nD → PrngReg), Pre_OutSampleIdeal m →
    (∀ c : Dev Cert.OutSampleIdeal.nD,
      m' ((c.tc : Thread Cert.OutSampleReferenceIdeal.nD Cert.OutSampleReferenceIdeal.τ).loc Cert.OutSampleReferenceIdeal.main_arg0) = m ((c.tc : Thread Cert.OutSampleIdeal.nD Cert.OutSampleIdeal.τ).loc Cert.OutSampleIdeal.main_arg0)
      ∧ m' ((c.tc : Thread Cert.OutSampleReferenceIdeal.nD Cert.OutSampleReferenceIdeal.τ).loc Cert.OutSampleReferenceIdeal.main_arg1) = m ((c.tc : Thread Cert.OutSampleIdeal.nD Cert.OutSampleIdeal.τ).loc Cert.OutSampleIdeal.main_arg1)
      ∧ m' ((c.tc : Thread Cert.OutSampleReferenceIdeal.nD Cert.OutSampleReferenceIdeal.τ).loc Cert.OutSampleReferenceIdeal.main_arg2) = m ((c.tc : Thread Cert.OutSampleIdeal.nD Cert.OutSampleIdeal.τ).loc Cert.OutSampleIdeal.main_arg2)
      ∧ m' ((c.tc : Thread Cert.OutSampleReferenceIdeal.nD Cert.OutSampleReferenceIdeal.τ).loc Cert.OutSampleReferenceIdeal.main_arg3) = m ((c.tc : Thread Cert.OutSampleIdeal.nD Cert.OutSampleIdeal.τ).loc Cert.OutSampleIdeal.main_arg3)
      ∧ m' ((c.tc : Thread Cert.OutSampleReferenceIdeal.nD Cert.OutSampleReferenceIdeal.τ).loc Cert.OutSampleReferenceIdeal.main_arg4) = m ((c.tc : Thread Cert.OutSampleIdeal.nD Cert.OutSampleIdeal.τ).loc Cert.OutSampleIdeal.main_arg4)
      ∧ m' ((c.tc : Thread Cert.OutSampleReferenceIdeal.nD Cert.OutSampleReferenceIdeal.τ).loc Cert.OutSampleReferenceIdeal.main_arg5) = m ((c.tc : Thread Cert.OutSampleIdeal.nD Cert.OutSampleIdeal.τ).loc Cert.OutSampleIdeal.main_arg5)
      ∧ m' ((c.tc : Thread Cert.OutSampleReferenceIdeal.nD Cert.OutSampleReferenceIdeal.τ).loc Cert.OutSampleReferenceIdeal.main_arg6) = m ((c.tc : Thread Cert.OutSampleIdeal.nD Cert.OutSampleIdeal.τ).loc Cert.OutSampleIdeal.main_arg6)
      ∧ m' ((c.tc : Thread Cert.OutSampleReferenceIdeal.nD Cert.OutSampleReferenceIdeal.τ).loc Cert.OutSampleReferenceIdeal.main_arg7) = m ((c.tc : Thread Cert.OutSampleIdeal.nD Cert.OutSampleIdeal.τ).loc Cert.OutSampleIdeal.main_arg7)) →
    ∃ (v0 : (c : Dev Cert.OutSampleIdeal.nD) → Buf (Elt Ideal) ((c.tc : Thread Cert.OutSampleIdeal.nD Cert.OutSampleIdeal.τ).loc Cert.OutSampleIdeal.main_v12)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v12) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
          ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
          ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
          ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7))
      ∧ θ_run (Cert.OutSampleReferenceIdeal.defs (F := Ideal)) (onTc (τ := Cert.OutSampleReferenceIdeal.τ) (Cert.OutSampleReferenceIdeal.main (F := Ideal))) ⟨m', fun _ => 0, g'⟩ (fun r => ∀ c : Dev Cert.OutSampleReferenceIdeal.nD,
          r.2.mem ((c.tc : Thread Cert.OutSampleReferenceIdeal.nD Cert.OutSampleReferenceIdeal.τ).loc Cert.OutSampleReferenceIdeal.main_v28) = v0 c
          ∧ r.2.mem ((c.tc : Thread Cert.OutSampleReferenceIdeal.nD Cert.OutSampleReferenceIdeal.τ).loc Cert.OutSampleReferenceIdeal.main_arg0) = m' ((c.tc : Thread Cert.OutSampleReferenceIdeal.nD Cert.OutSampleReferenceIdeal.τ).loc Cert.OutSampleReferenceIdeal.main_arg0)
          ∧ r.2.mem ((c.tc : Thread Cert.OutSampleReferenceIdeal.nD Cert.OutSampleReferenceIdeal.τ).loc Cert.OutSampleReferenceIdeal.main_arg1) = m' ((c.tc : Thread Cert.OutSampleReferenceIdeal.nD Cert.OutSampleReferenceIdeal.τ).loc Cert.OutSampleReferenceIdeal.main_arg1)
          ∧ r.2.mem ((c.tc : Thread Cert.OutSampleReferenceIdeal.nD Cert.OutSampleReferenceIdeal.τ).loc Cert.OutSampleReferenceIdeal.main_arg2) = m' ((c.tc : Thread Cert.OutSampleReferenceIdeal.nD Cert.OutSampleReferenceIdeal.τ).loc Cert.OutSampleReferenceIdeal.main_arg2)
          ∧ r.2.mem ((c.tc : Thread Cert.OutSampleReferenceIdeal.nD Cert.OutSampleReferenceIdeal.τ).loc Cert.OutSampleReferenceIdeal.main_arg3) = m' ((c.tc : Thread Cert.OutSampleReferenceIdeal.nD Cert.OutSampleReferenceIdeal.τ).loc Cert.OutSampleReferenceIdeal.main_arg3)
          ∧ r.2.mem ((c.tc : Thread Cert.OutSampleReferenceIdeal.nD Cert.OutSampleReferenceIdeal.τ).loc Cert.OutSampleReferenceIdeal.main_arg4) = m' ((c.tc : Thread Cert.OutSampleReferenceIdeal.nD Cert.OutSampleReferenceIdeal.τ).loc Cert.OutSampleReferenceIdeal.main_arg4)
          ∧ r.2.mem ((c.tc : Thread Cert.OutSampleReferenceIdeal.nD Cert.OutSampleReferenceIdeal.τ).loc Cert.OutSampleReferenceIdeal.main_arg5) = m' ((c.tc : Thread Cert.OutSampleReferenceIdeal.nD Cert.OutSampleReferenceIdeal.τ).loc Cert.OutSampleReferenceIdeal.main_arg5)
          ∧ r.2.mem ((c.tc : Thread Cert.OutSampleReferenceIdeal.nD Cert.OutSampleReferenceIdeal.τ).loc Cert.OutSampleReferenceIdeal.main_arg6) = m' ((c.tc : Thread Cert.OutSampleReferenceIdeal.nD Cert.OutSampleReferenceIdeal.τ).loc Cert.OutSampleReferenceIdeal.main_arg6)
          ∧ r.2.mem ((c.tc : Thread Cert.OutSampleReferenceIdeal.nD Cert.OutSampleReferenceIdeal.τ).loc Cert.OutSampleReferenceIdeal.main_arg7) = m' ((c.tc : Thread Cert.OutSampleReferenceIdeal.nD Cert.OutSampleReferenceIdeal.τ).loc Cert.OutSampleReferenceIdeal.main_arg7))

def preserves_MixSample_MixSampleIdeal : Prop :=
  True

def algebraic_MixSampleIdeal_MixSampleReferenceIdeal [hMixSampleIdeal : Cert.MixSampleIdeal.Facts] [hMixSampleReferenceIdeal : Cert.MixSampleReferenceIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleReferenceIdeal.nD Cert.MixSampleReferenceIdeal.τ Cert.MixSampleReferenceIdeal.sig) → Buf (Elt Ideal) ℓ) (g' : Dev Cert.MixSampleReferenceIdeal.nD → PrngReg), Pre_MixSampleIdeal m →
    (∀ c : Dev Cert.MixSampleIdeal.nD,
      m' ((c.tc : Thread Cert.MixSampleReferenceIdeal.nD Cert.MixSampleReferenceIdeal.τ).loc Cert.MixSampleReferenceIdeal.main_arg0) = m ((c.tc : Thread Cert.MixSampleIdeal.nD Cert.MixSampleIdeal.τ).loc Cert.MixSampleIdeal.main_arg0)
      ∧ m' ((c.tc : Thread Cert.MixSampleReferenceIdeal.nD Cert.MixSampleReferenceIdeal.τ).loc Cert.MixSampleReferenceIdeal.main_arg1) = m ((c.tc : Thread Cert.MixSampleIdeal.nD Cert.MixSampleIdeal.τ).loc Cert.MixSampleIdeal.main_arg1)
      ∧ m' ((c.tc : Thread Cert.MixSampleReferenceIdeal.nD Cert.MixSampleReferenceIdeal.τ).loc Cert.MixSampleReferenceIdeal.main_arg2) = m ((c.tc : Thread Cert.MixSampleIdeal.nD Cert.MixSampleIdeal.τ).loc Cert.MixSampleIdeal.main_arg2)
      ∧ m' ((c.tc : Thread Cert.MixSampleReferenceIdeal.nD Cert.MixSampleReferenceIdeal.τ).loc Cert.MixSampleReferenceIdeal.main_arg3) = m ((c.tc : Thread Cert.MixSampleIdeal.nD Cert.MixSampleIdeal.τ).loc Cert.MixSampleIdeal.main_arg3)
      ∧ m' ((c.tc : Thread Cert.MixSampleReferenceIdeal.nD Cert.MixSampleReferenceIdeal.τ).loc Cert.MixSampleReferenceIdeal.main_arg4) = m ((c.tc : Thread Cert.MixSampleIdeal.nD Cert.MixSampleIdeal.τ).loc Cert.MixSampleIdeal.main_arg4)
      ∧ m' ((c.tc : Thread Cert.MixSampleReferenceIdeal.nD Cert.MixSampleReferenceIdeal.τ).loc Cert.MixSampleReferenceIdeal.main_arg5) = m ((c.tc : Thread Cert.MixSampleIdeal.nD Cert.MixSampleIdeal.τ).loc Cert.MixSampleIdeal.main_arg5)
      ∧ m' ((c.tc : Thread Cert.MixSampleReferenceIdeal.nD Cert.MixSampleReferenceIdeal.τ).loc Cert.MixSampleReferenceIdeal.main_arg6) = m ((c.tc : Thread Cert.MixSampleIdeal.nD Cert.MixSampleIdeal.τ).loc Cert.MixSampleIdeal.main_arg6)
      ∧ m' ((c.tc : Thread Cert.MixSampleReferenceIdeal.nD Cert.MixSampleReferenceIdeal.τ).loc Cert.MixSampleReferenceIdeal.main_arg7) = m ((c.tc : Thread Cert.MixSampleIdeal.nD Cert.MixSampleIdeal.τ).loc Cert.MixSampleIdeal.main_arg7)
      ∧ m' ((c.tc : Thread Cert.MixSampleReferenceIdeal.nD Cert.MixSampleReferenceIdeal.τ).loc Cert.MixSampleReferenceIdeal.main_arg8) = m ((c.tc : Thread Cert.MixSampleIdeal.nD Cert.MixSampleIdeal.τ).loc Cert.MixSampleIdeal.main_arg8)
      ∧ m' ((c.tc : Thread Cert.MixSampleReferenceIdeal.nD Cert.MixSampleReferenceIdeal.τ).loc Cert.MixSampleReferenceIdeal.main_arg9) = m ((c.tc : Thread Cert.MixSampleIdeal.nD Cert.MixSampleIdeal.τ).loc Cert.MixSampleIdeal.main_arg9)) →
    ∃ (v0 : (c : Dev Cert.MixSampleIdeal.nD) → Buf (Elt Ideal) ((c.tc : Thread Cert.MixSampleIdeal.nD Cert.MixSampleIdeal.τ).loc Cert.MixSampleIdeal.main_v46)) (v1 : (c : Dev Cert.MixSampleIdeal.nD) → Buf (Elt Ideal) ((c.tc : Thread Cert.MixSampleIdeal.nD Cert.MixSampleIdeal.τ).loc Cert.MixSampleIdeal.main_v49)) (v2 : (c : Dev Cert.MixSampleIdeal.nD) → Buf (Elt Ideal) ((c.tc : Thread Cert.MixSampleIdeal.nD Cert.MixSampleIdeal.τ).loc Cert.MixSampleIdeal.main_v42)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v46) = v0 c
          ∧ r.2.mem ((c.tc : Thread Cert.MixSampleIdeal.nD Cert.MixSampleIdeal.τ).loc Cert.MixSampleIdeal.main_v49) = v1 c
          ∧ r.2.mem ((c.tc : Thread Cert.MixSampleIdeal.nD Cert.MixSampleIdeal.τ).loc Cert.MixSampleIdeal.main_v42) = v2 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
          ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9))
      ∧ θ_run (Cert.MixSampleReferenceIdeal.defs (F := Ideal)) (onTc (τ := Cert.MixSampleReferenceIdeal.τ) (Cert.MixSampleReferenceIdeal.main (F := Ideal))) ⟨m', fun _ => 0, g'⟩ (fun r => ∀ c : Dev Cert.MixSampleReferenceIdeal.nD,
          r.2.mem ((c.tc : Thread Cert.MixSampleReferenceIdeal.nD Cert.MixSampleReferenceIdeal.τ).loc Cert.MixSampleReferenceIdeal.main_v34) = v0 c
          ∧ r.2.mem ((c.tc : Thread Cert.MixSampleReferenceIdeal.nD Cert.MixSampleReferenceIdeal.τ).loc Cert.MixSampleReferenceIdeal.main_v57) = v1 c
          ∧ r.2.mem ((c.tc : Thread Cert.MixSampleReferenceIdeal.nD Cert.MixSampleReferenceIdeal.τ).loc Cert.MixSampleReferenceIdeal.main_v33) = v2 c
          ∧ r.2.mem ((c.tc : Thread Cert.MixSampleReferenceIdeal.nD Cert.MixSampleReferenceIdeal.τ).loc Cert.MixSampleReferenceIdeal.main_arg0) = m' ((c.tc : Thread Cert.MixSampleReferenceIdeal.nD Cert.MixSampleReferenceIdeal.τ).loc Cert.MixSampleReferenceIdeal.main_arg0)
          ∧ r.2.mem ((c.tc : Thread Cert.MixSampleReferenceIdeal.nD Cert.MixSampleReferenceIdeal.τ).loc Cert.MixSampleReferenceIdeal.main_arg1) = m' ((c.tc : Thread Cert.MixSampleReferenceIdeal.nD Cert.MixSampleReferenceIdeal.τ).loc Cert.MixSampleReferenceIdeal.main_arg1)
          ∧ r.2.mem ((c.tc : Thread Cert.MixSampleReferenceIdeal.nD Cert.MixSampleReferenceIdeal.τ).loc Cert.MixSampleReferenceIdeal.main_arg2) = m' ((c.tc : Thread Cert.MixSampleReferenceIdeal.nD Cert.MixSampleReferenceIdeal.τ).loc Cert.MixSampleReferenceIdeal.main_arg2)
          ∧ r.2.mem ((c.tc : Thread Cert.MixSampleReferenceIdeal.nD Cert.MixSampleReferenceIdeal.τ).loc Cert.MixSampleReferenceIdeal.main_arg3) = m' ((c.tc : Thread Cert.MixSampleReferenceIdeal.nD Cert.MixSampleReferenceIdeal.τ).loc Cert.MixSampleReferenceIdeal.main_arg3)
          ∧ r.2.mem ((c.tc : Thread Cert.MixSampleReferenceIdeal.nD Cert.MixSampleReferenceIdeal.τ).loc Cert.MixSampleReferenceIdeal.main_arg4) = m' ((c.tc : Thread Cert.MixSampleReferenceIdeal.nD Cert.MixSampleReferenceIdeal.τ).loc Cert.MixSampleReferenceIdeal.main_arg4)
          ∧ r.2.mem ((c.tc : Thread Cert.MixSampleReferenceIdeal.nD Cert.MixSampleReferenceIdeal.τ).loc Cert.MixSampleReferenceIdeal.main_arg5) = m' ((c.tc : Thread Cert.MixSampleReferenceIdeal.nD Cert.MixSampleReferenceIdeal.τ).loc Cert.MixSampleReferenceIdeal.main_arg5)
          ∧ r.2.mem ((c.tc : Thread Cert.MixSampleReferenceIdeal.nD Cert.MixSampleReferenceIdeal.τ).loc Cert.MixSampleReferenceIdeal.main_arg6) = m' ((c.tc : Thread Cert.MixSampleReferenceIdeal.nD Cert.MixSampleReferenceIdeal.τ).loc Cert.MixSampleReferenceIdeal.main_arg6)
          ∧ r.2.mem ((c.tc : Thread Cert.MixSampleReferenceIdeal.nD Cert.MixSampleReferenceIdeal.τ).loc Cert.MixSampleReferenceIdeal.main_arg7) = m' ((c.tc : Thread Cert.MixSampleReferenceIdeal.nD Cert.MixSampleReferenceIdeal.τ).loc Cert.MixSampleReferenceIdeal.main_arg7)
          ∧ r.2.mem ((c.tc : Thread Cert.MixSampleReferenceIdeal.nD Cert.MixSampleReferenceIdeal.τ).loc Cert.MixSampleReferenceIdeal.main_arg8) = m' ((c.tc : Thread Cert.MixSampleReferenceIdeal.nD Cert.MixSampleReferenceIdeal.τ).loc Cert.MixSampleReferenceIdeal.main_arg8)
          ∧ r.2.mem ((c.tc : Thread Cert.MixSampleReferenceIdeal.nD Cert.MixSampleReferenceIdeal.τ).loc Cert.MixSampleReferenceIdeal.main_arg9) = m' ((c.tc : Thread Cert.MixSampleReferenceIdeal.nD Cert.MixSampleReferenceIdeal.τ).loc Cert.MixSampleReferenceIdeal.main_arg9))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v29)) (v1 : (c : Dev Cert.MixIdeal.nD) → Buf (Elt Ideal) ((c.tc : Thread Cert.MixIdeal.nD Cert.MixIdeal.τ).loc Cert.MixIdeal.main_v30)) (v2 : (c : Dev Cert.MixIdeal.nD) → Buf (Elt Ideal) ((c.tc : Thread Cert.MixIdeal.nD Cert.MixIdeal.τ).loc Cert.MixIdeal.main_v27)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v29) = v0 c
          ∧ r.2.mem ((c.tc : Thread Cert.MixIdeal.nD Cert.MixIdeal.τ).loc Cert.MixIdeal.main_v30) = v1 c
          ∧ r.2.mem ((c.tc : Thread Cert.MixIdeal.nD Cert.MixIdeal.τ).loc Cert.MixIdeal.main_v27) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v34) = v0 c
          ∧ r.2.mem ((c.tc : Thread Cert.MixReferenceIdeal.nD Cert.MixReferenceIdeal.τ).loc Cert.MixReferenceIdeal.main_v57) = v1 c
          ∧ r.2.mem ((c.tc : Thread Cert.MixReferenceIdeal.nD Cert.MixReferenceIdeal.τ).loc Cert.MixReferenceIdeal.main_v33) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hOutSample : Cert.OutSample.Facts) (hOutSampleIdeal : Cert.OutSampleIdeal.Facts) (hOutSampleReferenceIdeal : Cert.OutSampleReferenceIdeal.Facts) (hMixSample : Cert.MixSample.Facts) (hMixSampleIdeal : Cert.MixSampleIdeal.Facts) (hMixSampleReferenceIdeal : Cert.MixSampleReferenceIdeal.Facts) (hMix : Cert.Mix.Facts) (hMixIdeal : Cert.MixIdeal.Facts) (hMixReferenceIdeal : Cert.MixReferenceIdeal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Out (hOut := hOut)
    ∧ quiescent_OutIdeal (hOutIdeal := hOutIdeal)
    ∧ quiescent_OutReferenceIdeal (hOutReferenceIdeal := hOutReferenceIdeal)
    ∧ quiescent_OutSample (hOutSample := hOutSample)
    ∧ quiescent_OutSampleIdeal (hOutSampleIdeal := hOutSampleIdeal)
    ∧ quiescent_OutSampleReferenceIdeal (hOutSampleReferenceIdeal := hOutSampleReferenceIdeal)
    ∧ quiescent_MixSample (hMixSample := hMixSample)
    ∧ quiescent_MixSampleIdeal (hMixSampleIdeal := hMixSampleIdeal)
    ∧ quiescent_MixSampleReferenceIdeal (hMixSampleReferenceIdeal := hMixSampleReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Out_OutIdeal
    ∧ algebraic_OutIdeal_OutReferenceIdeal (hOutIdeal := hOutIdeal) (hOutReferenceIdeal := hOutReferenceIdeal)
    ∧ preserves_OutSample_OutSampleIdeal
    ∧ algebraic_OutSampleIdeal_OutSampleReferenceIdeal (hOutSampleIdeal := hOutSampleIdeal) (hOutSampleReferenceIdeal := hOutSampleReferenceIdeal)
    ∧ preserves_MixSample_MixSampleIdeal
    ∧ algebraic_MixSampleIdeal_MixSampleReferenceIdeal (hMixSampleIdeal := hMixSampleIdeal) (hMixSampleReferenceIdeal := hMixSampleReferenceIdeal)
    ∧ preserves_Mix_MixIdeal
    ∧ algebraic_MixIdeal_MixReferenceIdeal (hMixIdeal := hMixIdeal) (hMixReferenceIdeal := hMixReferenceIdeal)
-- ==== Pre_pages_in_pool.lean ====
abbrev S32x128 : Shape := ⟨2, ![32, 128]⟩
abbrev S32x4x8x64 : Shape := ⟨4, ![32, 4, 8, 64]⟩
abbrev S32x4x8 : Shape := ⟨3, ![32, 4, 8]⟩
abbrev S32x4x64 : Shape := ⟨3, ![32, 4, 64]⟩
abbrev S1x5120x128x64 : Shape := ⟨4, ![1, 5120, 128, 64]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : IVec S32x128 32) (main_arg1 : FVec F S32x4x8x64 .f32) (main_arg2 : FVec F S32x4x8 .f32) (main_arg3 : FVec F S32x4x64 .f32) (main_arg4 : FVec F S1x5120x128x64 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 5120#32
  let main_v2 : IVec S32x128 32 := broadcastInDim S32x128 ![] bcast_S_S32x128 main_c_0
  let main_v3 : IVec S32x128 1 := cmpi .slt main_arg0 main_v2
  let main_v4 : IVec S32x128 1 := andi main_v1 main_v3
  main_v4
-- ==== Kernel.lean ====
abbrev S32x128 : Shape := ⟨2, ![32, 128]⟩
abbrev S32x4x8x64 : Shape := ⟨4, ![32, 4, 8, 64]⟩
abbrev S32x4x8 : Shape := ⟨3, ![32, 4, 8]⟩
abbrev S32x4x64 : Shape := ⟨3, ![32, 4, 64]⟩
abbrev S1x5120x128x64 : Shape := ⟨4, ![1, 5120, 128, 64]⟩
abbrev S32x8x4x64 : Shape := ⟨4, ![32, 8, 4, 64]⟩
abbrev S_ : Shape := ⟨0, ![]⟩
abbrev S32x8x8x64 : Shape := ⟨4, ![32, 8, 8, 64]⟩
abbrev S32x64x64 : Shape := ⟨3, ![32, 64, 64]⟩
abbrev S32x4x8x1 : Shape := ⟨4, ![32, 4, 8, 1]⟩
abbrev S32x8x4x1 : Shape := ⟨4, ![32, 8, 4, 1]⟩
abbrev S32x8x8x1 : Shape := ⟨4, ![32, 8, 8, 1]⟩
abbrev S32x64x1 : Shape := ⟨3, ![32, 64, 1]⟩
abbrev S32x64x4 : Shape := ⟨3, ![32, 64, 4]⟩
abbrev S32x64x128 : Shape := ⟨3, ![32, 64, 128]⟩
abbrev S5120x128x64 : Shape := ⟨3, ![5120, 128, 64]⟩
abbrev S5120x64x128 : Shape := ⟨3, ![5120, 64, 128]⟩
abbrev S32x4x16512 : Shape := ⟨3, ![32, 4, 16512]⟩
abbrev S1x64x64 : Shape := ⟨3, ![1, 64, 64]⟩
abbrev S1x64x1 : Shape := ⟨3, ![1, 64, 1]⟩
abbrev S1x64x128 : Shape := ⟨3, ![1, 64, 128]⟩
abbrev S1x4x16512 : Shape := ⟨3, ![1, 4, 16512]⟩
abbrev S2x64x16512 : Shape := ⟨3, ![2, 64, 16512]⟩
abbrev S2 : Shape := ⟨1, ![2]⟩
abbrev S1x1 : Shape := ⟨2, ![1, 1]⟩
abbrev S1 : Shape := ⟨1, ![1]⟩
abbrev S64x128 : Shape := ⟨2, ![64, 128]⟩
abbrev S1x64x16384 : Shape := ⟨3, ![1, 64, 16384]⟩
abbrev S64x16384 : Shape := ⟨2, ![64, 16384]⟩
abbrev S64x64 : Shape := ⟨2, ![64, 64]⟩
abbrev S64x1 : Shape := ⟨2, ![64, 1]⟩
abbrev S1x64x4096 : Shape := ⟨3, ![1, 64, 4096]⟩
abbrev S64x4096 : Shape := ⟨2, ![64, 4096]⟩
abbrev S8x4096 : Shape := ⟨2, ![8, 4096]⟩
abbrev S4x4096 : Shape := ⟨2, ![4, 4096]⟩
abbrev S1x4x4096 : Shape := ⟨3, ![1, 4, 4096]⟩
abbrev S8x128 : Shape := ⟨2, ![8, 128]⟩
abbrev S4x128 : Shape := ⟨2, ![4, 128]⟩
abbrev S1x4x128 : Shape := ⟨3, ![1, 4, 128]⟩

abbrev nBuf : Space → Nat
  | .hbm => 26
  | .vmem => 9
  | .smem => 1
  | _ => 0

abbrev bufTy : (tb : Table) → Fin (tcTables nBuf tb) → BufTy
  | .hbm, ⟨0, _⟩ => ⟨S32x4x8x64, .f32⟩
  | .hbm, ⟨1, _⟩ => ⟨S32x4x8, .f32⟩
  | .hbm, ⟨2, _⟩ => ⟨S32x4x64, .f32⟩
  | .hbm, ⟨3, _⟩ => ⟨S1x5120x128x64, .f32⟩
  | .hbm, ⟨4, _⟩ => ⟨S32x4x8x64, .bf16⟩
  | .hbm, ⟨5, _⟩ => ⟨S32x8x4x64, .bf16⟩
  | .hbm, ⟨6, _⟩ => ⟨S_, .i32⟩
  | .hbm, ⟨7, _⟩ => ⟨S_, .bf16⟩
  | .hbm, ⟨8, _⟩ => ⟨S32x8x8x64, .bf16⟩
  | .hbm, ⟨9, _⟩ => ⟨S32x64x64, .bf16⟩
  | .hbm, ⟨10, _⟩ => ⟨S_, .f32⟩
  | .hbm, ⟨11, _⟩ => ⟨S32x4x8, .f32⟩
  | .hbm, ⟨12, _⟩ => ⟨S32x4x8, .f32⟩
  | .hbm, ⟨13, _⟩ => ⟨S32x4x8x1, .f32⟩
  | .hbm, ⟨14, _⟩ => ⟨S32x8x4x1, .f32⟩
  | .hbm, ⟨15, _⟩ => ⟨S_, .i32⟩
  | .hbm, ⟨16, _⟩ => ⟨S_, .f32⟩
  | .hbm, ⟨17, _⟩ => ⟨S32x8x8x1, .f32⟩
  | .hbm, ⟨18, _⟩ => ⟨S32x64x1, .f32⟩
  | .hbm, ⟨19, _⟩ => ⟨S32x64x4, .f32⟩
  | .hbm, ⟨20, _⟩ => ⟨S_, .i32⟩
  | .hbm, ⟨21, _⟩ => ⟨S_, .f32⟩
  | .hbm, ⟨22, _⟩ => ⟨S32x64x128, .f32⟩
  | .hbm, ⟨23, _⟩ => ⟨S5120x128x64, .f32⟩
  | .hbm, ⟨24, _⟩ => ⟨S5120x64x128, .f32⟩
  | .hbm, ⟨25, _⟩ => ⟨S32x4x16512, .f32⟩
  | .local _ .vmem, ⟨0, _⟩ => ⟨S1x64x64, .bf16⟩
  | .local _ .vmem, ⟨1, _⟩ => ⟨S1x64x64, .bf16⟩
  | .local _ .vmem, ⟨2, _⟩ => ⟨S1x64x1, .f32⟩
  | .local _ .vmem, ⟨3, _⟩ => ⟨S1x64x1, .f32⟩
  | .local _ .vmem, ⟨4, _⟩ => ⟨S1x64x128, .f32⟩
  | .local _ .vmem, ⟨5, _⟩ => ⟨S1x64x128, .f32⟩
  | .local _ .vmem, ⟨6, _⟩ => ⟨S1x4x16512, .f32⟩
  | .local _ .vmem, ⟨7, _⟩ => ⟨S1x4x16512, .f32⟩
  | .local _ .vmem, ⟨8, _⟩ => ⟨S2x64x16512, .f32⟩
  | .local _ .smem, ⟨0, _⟩ => ⟨S32x128, .i32⟩
  | _, _ => ⟨S32x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_62 : BitVec 32 := 0#32
  let c128_i32 : BitVec 32 := 128#32
  let v218 : BitVec 32 := Scalar.addi c0_i32_62 c128_i32
  let c1_i32_63 : BitVec 32 := 1#32
  ⟨c0_i32_62, v218, c1_i32_63⟩
def k0_off1 (k0_t1 : Fin k0_t1_loop.trips) : Fin 2 → Nat :=
  let c0_65 : Index := 0#32
  let c0_i32_62 : BitVec 32 := 0#32
  let c1_i32_63 : BitVec 32 := 1#32
  let arg9 : BitVec 32 := Scf.iv c0_i32_62 c1_i32_63 k0_t1
  let v219 : Index := Scalar.indexCast arg9
  ![0, v219.toNat]
def k0_mult1 (k0_t1 : Fin k0_t1_loop.trips) : BitVec 32 :=
  let c0_i32_62 : BitVec 32 := 0#32
  let c1_i32_63 : BitVec 32 := 1#32
  let arg9 : BitVec 32 := Scf.iv c0_i32_62 c1_i32_63 k0_t1
  let c128_i32_66 : BitVec 32 := 128#32
  let v221 : BitVec 32 := Scalar.muli arg9 c128_i32_66
  v221
def k0_off2 (k0_t1 : Fin k0_t1_loop.trips) : Fin 3 → Nat :=
  let c0_i32_67 : BitVec 32 := 0#32
  let c0_i32_69 : BitVec 32 := 0#32
  let c0_i32_62 : BitVec 32 := 0#32
  let c1_i32_63 : BitVec 32 := 1#32
  let arg9 : BitVec 32 := Scf.iv c0_i32_62 c1_i32_63 k0_t1
  let c128_i32_66 : BitVec 32 := 128#32
  let v221 : BitVec 32 := Scalar.muli arg9 c128_i32_66
  let v222 : BitVec 32 := v221
  ![0, 0, v222.toNat]
def k0_off3 (v220 : BitVec 32) : Fin 3 → Nat :=
  let c0_i32_70 : BitVec 32 := 0#32
  let c0_i32_71 : BitVec 32 := 0#32
  ![v220.toNat, 0, 0]

def k0_chk1 (i : grid0.Coords) (v220 : BitVec 32) : Prop :=
  (∀ (k0_h1 : k0_cond1 i = 1#1), ∀ a, (k0_off3 v220) a + S1x64x128.size a ≤ S5120x64x128.size a)
theorem k0_off3_inb : ∀ (i : grid0.Coords) (v220 : BitVec 32) (k0_hw1 : k0_chk1 i v220), ∀ (k0_h1 : k0_cond1 i = 1#1), ∀ a, (k0_off3 v220) a + S1x64x128.size a ≤ S5120x64x128.size a := fun i v220 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c32_i32 : BitVec 32 := 32#32
  let v14 : BitVec 1 := Scalar.cmpi .slt v13 c32_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_62 : BitVec 32 := 0#32
  let c128_i32 : BitVec 32 := 128#32
  let v218 : BitVec 32 := Scalar.addi c0_i32_62 c128_i32
  let c1_i32_63 : BitVec 32 := 1#32
  ⟨c0_i32_62, v218, c1_i32_63⟩
def k0_off4 (i : grid0.Coords) (k0_t2 : Fin k0_t2_loop.trips) : Fin 2 → Nat :=
  let arg0 : BitVec 32 := BitVec.ofNat 32 (i 0).val
  let c1_i32_65 : BitVec 32 := 1#32
  let v219 : BitVec 32 := Scalar.addi arg0 c1_i32_65
  let v221 : Index := Scalar.indexCast v219
  let c0_i32_62 : BitVec 32 := 0#32
  let c1_i32_63 : BitVec 32 := 1#32
  let arg9 : BitVec 32 := Scf.iv c0_i32_62 c1_i32_63 k0_t2
  let v222 : Index := Scalar.indexCast arg9
  ![v221.toNat, v222.toNat]
def k0_mult2 (k0_t2 : Fin k0_t2_loop.trips) : BitVec 32 :=
  let c0_i32_62 : BitVec 32 := 0#32
  let c1_i32_63 : BitVec 32 := 1#32
  let arg9 : BitVec 32 := Scf.iv c0_i32_62 c1_i32_63 k0_t2
  let c128_i32_67 : BitVec 32 := 128#32
  let v224 : BitVec 32 := Scalar.muli arg9 c128_i32_67
  v224
def k0_off5 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v220 : BitVec 32 := Scalar.subi c1_i32_66 v9
  ![v220.toNat]
def k0_off6 (i : grid0.Coords) (k0_t2 : Fin k0_t2_loop.trips) : Fin 3 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v220 : BitVec 32 := Scalar.subi c1_i32_66 v9
  let c0_i32_68 : BitVec 32 := 0#32
  let c0_i32_62 : BitVec 32 := 0#32
  let c1_i32_63 : BitVec 32 := 1#32
  let arg9 : BitVec 32 := Scf.iv c0_i32_62 c1_i32_63 k0_t2
  let c128_i32_67 : BitVec 32 := 128#32
  let v224 : BitVec 32 := Scalar.muli arg9 c128_i32_67
  let v225 : BitVec 32 := v224
  ![v220.toNat, 0, v225.toNat]
def k0_off7 (v223 : BitVec 32) : Fin 3 → Nat :=
  let c0_i32_69 : BitVec 32 := 0#32
  let c0_i32_70 : BitVec 32 := 0#32
  ![v223.toNat, 0, 0]

def k0_chk2 (i : grid0.Coords) (v223 : BitVec 32) : Prop :=
  (∀ (k0_h2 : k0_cond2 i = 1#1), ∀ a, (k0_off7 v223) a + S1x64x128.size a ≤ S5120x64x128.size a)
theorem k0_off7_inb : ∀ (i : grid0.Coords) (v223 : BitVec 32) (k0_hw2 : k0_chk2 i v223), ∀ (k0_h2 : k0_cond2 i = 1#1), ∀ a, (k0_off7 v223) a + S1x64x128.size a ≤ S5120x64x128.size a := fun i v223 k0_hw2 k0_h2 => k0_hw2 k0_h2

def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v19 : Index := Scalar.indexCast v9
  let c0_9 : Index := 0#32
  let c16384 : Index := 16384#32
  ![v19.toNat, 0, 16384]
def k0_off9 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_10 : BitVec 32 := 0#32
  let c0_i32_11 : BitVec 32 := 0#32
  ![v9.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_20 : Index := 0#32
  let c0_21 : Index := 0#32
  ![v33.toNat, 0, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v70 : Index := Scalar.indexCast v9
  let c0_28 : Index := 0#32
  let c4096 : Index := 4096#32
  ![v70.toNat, 0, 4096]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v107 : Index := Scalar.indexCast v9
  let c0_36 : Index := 0#32
  let c8192 : Index := 8192#32
  ![v107.toNat, 0, 8192]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v144 : Index := Scalar.indexCast v9
  let c0_44 : Index := 0#32
  let c12288 : Index := 12288#32
  ![v144.toNat, 0, 12288]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x16512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x128 : Shape := ⟨2, ![32, 128]⟩
abbrev S32x4x8x64 : Shape := ⟨4, ![32, 4, 8, 64]⟩
abbrev S32x4x8 : Shape := ⟨3, ![32, 4, 8]⟩
abbrev S32x4x64 : Shape := ⟨3, ![32, 4, 64]⟩
abbrev S1x5120x128x64 : Shape := ⟨4, ![1, 5120, 128, 64]⟩
abbrev S5120x128x64 : Shape := ⟨3, ![5120, 128, 64]⟩
abbrev S_ : Shape := ⟨0, ![]⟩
abbrev S32x128x1 : Shape := ⟨3, ![32, 128, 1]⟩
abbrev S32x128x128x64 : Shape := ⟨4, ![32, 128, 128, 64]⟩
abbrev S32x16384x64 : Shape := ⟨3, ![32, 16384, 64]⟩
abbrev S32x16388x64 : Shape := ⟨3, ![32, 16388, 64]⟩
abbrev S4 : Shape := ⟨1, ![4]⟩
abbrev S32x4x8x16388 : Shape := ⟨4, ![32, 4, 8, 16388]⟩
abbrev S32x4x16388 : Shape := ⟨3, ![32, 4, 16388]⟩
abbrev S16388 : Shape := ⟨1, ![16388]⟩
abbrev S1x1x16388 : Shape := ⟨3, ![1, 1, 16388]⟩
abbrev S1x4x1 : Shape := ⟨3, ![1, 4, 1]⟩
abbrev S1x4x16388 : Shape := ⟨3, ![1, 4, 16388]⟩
abbrev S32x4x16512 : Shape := ⟨3, ![32, 4, 16512]⟩

abbrev nBuf : Space → Nat
  | .hbm => 43
  | .vmem => 0
  | .smem => 0
  | _ => 0

abbrev bufTy : (tb : Table) → Fin (tcTables nBuf tb) → BufTy
  | .hbm, ⟨0, _⟩ => ⟨S32x128, .i32⟩
  | .hbm, ⟨1, _⟩ => ⟨S32x4x8x64, .f32⟩
  | .hbm, ⟨2, _⟩ => ⟨S32x4x8, .f32⟩
  | .hbm, ⟨3, _⟩ => ⟨S32x4x64, .f32⟩
  | .hbm, ⟨4, _⟩ => ⟨S1x5120x128x64, .f32⟩
  | .hbm, ⟨5, _⟩ => ⟨S5120x128x64, .f32⟩
  | .hbm, ⟨6, _⟩ => ⟨S_, .i32⟩
  | .hbm, ⟨7, _⟩ => ⟨S32x128, .i32⟩
  | .hbm, ⟨8, _⟩ => ⟨S32x128, .i1⟩
  | .hbm, ⟨9, _⟩ => ⟨S_, .i32⟩
  | .hbm, ⟨10, _⟩ => ⟨S32x128, .i32⟩
  | .hbm, ⟨11, _⟩ => ⟨S32x128, .i32⟩
  | .hbm, ⟨12, _⟩ => ⟨S32x128, .i32⟩
  | .hbm, ⟨13, _⟩ => ⟨S32x128x1, .i32⟩
  | .hbm, ⟨14, _⟩ => ⟨S32x128x128x64, .f32⟩
  | .hbm, ⟨15, _⟩ => ⟨S32x16384x64, .f32⟩
  | .hbm, ⟨16, _⟩ => ⟨S32x16388x64, .f32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S32x4x8x16388, .f32⟩
  | .hbm, ⟨22, _⟩ => ⟨S_, .f32⟩
  | .hbm, ⟨23, _⟩ => ⟨S32x4x8x16388, .f32⟩
  | .hbm, ⟨24, _⟩ => ⟨S32x4x8x16388, .f32⟩
  | .hbm, ⟨25, _⟩ => ⟨S32x4x16388, .f32⟩
  | .hbm, ⟨26, _⟩ => ⟨S_, .f32⟩
  | .hbm, ⟨27, _⟩ => ⟨S32x4x16388, .f32⟩
  | .hbm, ⟨28, _⟩ => ⟨S32x4x16388, .f32⟩
  | .hbm, ⟨29, _⟩ => ⟨S16388, .i32⟩
  | .hbm, ⟨30, _⟩ => ⟨S1x1x16388, .i32⟩
  | .hbm, ⟨31, _⟩ => ⟨S1x4x1, .i32⟩
  | .hbm, ⟨32, _⟩ => ⟨S1x4x16388, .i32⟩
  | .hbm, ⟨33, _⟩ => ⟨S1x4x16388, .i32⟩
  | .hbm, ⟨34, _⟩ => ⟨S1x4x16388, .i1⟩
  | .hbm, ⟨35, _⟩ => ⟨S_, .f32⟩
  | .hbm, ⟨36, _⟩ => ⟨S_, .f32⟩
  | .hbm, ⟨37, _⟩ => ⟨S32x4x16388, .i1⟩
  | .hbm, ⟨38, _⟩ => ⟨S32x4x16388, .f32⟩
  | .hbm, ⟨39, _⟩ => ⟨S32x4x16388, .f32⟩
  | .hbm, ⟨40, _⟩ => ⟨S_, .f32⟩
  | .hbm, ⟨41, _⟩ => ⟨S_, .f32⟩
  | .hbm, ⟨42, _⟩ => ⟨S32x4x16512, .f32⟩
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v24 : Ref sig .tc := ⟨.hbm, 39, rfl⟩
abbrev main_cst_3 : Ref sig .tc := ⟨.hbm, 40, rfl⟩
abbrev main_call2_v0 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Ffn.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S32768x1024 : Shape := ⟨2, ![32768, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .f32⟩
  | .hbm, ⟨10, _⟩ => ⟨S2816x1024, .bf16⟩
  | .hbm, ⟨11, _⟩ => ⟨S32768x1024, .f32⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Out.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S32768x512, .bf16⟩
  | .hbm, ⟨17, _⟩ => ⟨S32768x512, .bf16⟩
  | .hbm, ⟨18, _⟩ => ⟨S1024, .f32⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S32768x1024 : Shape := ⟨2, ![32768, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== OutSample.lean ====
abbrev S128x1024 : Shape := ⟨2, ![128, 1024]⟩
abbrev S128x512 : Shape := ⟨2, ![128, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S128 : Shape := ⟨1, ![128]⟩
abbrev S128x1 : Shape := ⟨2, ![128, 1]⟩
abbrev S128x2816 : Shape := ⟨2, ![128, 2816]⟩

abbrev nBuf : Space → Nat
  | .hbm => 21
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S128x512, .bf16⟩
  | .hbm, ⟨17, _⟩ => ⟨S128x512, .bf16⟩
  | .hbm, ⟨18, _⟩ => ⟨S1024, .f32⟩
  | .hbm, ⟨19, _⟩ => ⟨S1x1024, .f32⟩
  | .hbm, ⟨20, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1024x1024, .bf16⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutSampleReferenceIdeal.lean ====
abbrev S128x1024 : Shape := ⟨2, ![128, 1024]⟩
abbrev S128x512 : Shape := ⟨2, ![128, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x2816 : Shape := ⟨2, ![1024, 2816]⟩
abbrev S2816x1024 : Shape := ⟨2, ![2816, 1024]⟩
abbrev S128x2816 : Shape := ⟨2, ![128, 2816]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S128x1024, .f32⟩
  | .hbm, ⟨9, _⟩ => ⟨S1024x1024, .f32⟩
  | .hbm, ⟨10, _⟩ => ⟨S128x1024, .f32⟩
  | .hbm, ⟨11, _⟩ => ⟨S128x1024, .f32⟩
  | .hbm, ⟨12, _⟩ => ⟨S1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S128x2816, .f32⟩
  | .hbm, ⟨33, _⟩ => ⟨S128x2816, .f32⟩
  | .hbm, ⟨34, _⟩ => ⟨S128x2816, .f32⟩
  | .hbm, ⟨35, _⟩ => ⟨S_, .f32⟩
  | .hbm, ⟨36, _⟩ => ⟨S128x2816, .f32⟩
  | .hbm, ⟨37, _⟩ => ⟨S128x2816, .f32⟩
  | .hbm, ⟨38, _⟩ => ⟨S_, .f32⟩
  | .hbm, ⟨39, _⟩ => ⟨S128x2816, .f32⟩
  | .hbm, ⟨40, _⟩ => ⟨S128x2816, .f32⟩
  | .hbm, ⟨41, _⟩ => ⟨S128x2816, .f32⟩
  | .hbm, ⟨42, _⟩ => ⟨S128x2816, .f32⟩
  | .hbm, ⟨43, _⟩ => ⟨S128x2816, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== MixSample.lean ====
abbrev S128x1024 : Shape := ⟨2, ![128, 1024]⟩
abbrev S1x32x2x512 : Shape := ⟨4, ![1, 32, 2, 512]⟩
abbrev S1x1024 : Shape := ⟨2, ![1, 1024]⟩
abbrev S1x1024x2888 : Shape := ⟨3, ![1, 1024, 2888]⟩
abbrev S1x3x512 : Shape := ⟨3, ![1, 3, 512]⟩
abbrev S1x512 : Shape := ⟨2, ![1, 512]⟩
abbrev S1x64 : Shape := ⟨2, ![1, 64]⟩
abbrev S4x8 : Shape := ⟨2, ![4, 8]⟩
abbrev S128x128 : Shape := ⟨2, ![128, 128]⟩
abbrev S1x4x1x8 : Shape := ⟨4, ![1, 4, 1, 8]⟩
abbrev S32x4x1x8 : Shape := ⟨4, ![32, 4, 1, 8]⟩
abbrev S128x8 : Shape := ⟨2, ![128, 8]⟩
abbrev S_ : Shape := ⟨0, ![]⟩
abbrev S128x48 : Shape := ⟨2, ![128, 48]⟩
abbrev S128x64 : Shape := ⟨2, ![128, 64]⟩
abbrev S32x2x512 : Shape := ⟨3, ![32, 2, 512]⟩
abbrev S32x1x512 : Shape := ⟨3, ![32, 1, 512]⟩
abbrev S32x4x512 : Shape := ⟨3, ![32, 4, 512]⟩
abbrev S128x512 : Shape := ⟨2, ![128, 512]⟩
abbrev S1024x2888 : Shape := ⟨2, ![1024, 2888]⟩
abbrev S1024x2944 : Shape := ⟨2, ![1024, 2944]⟩
abbrev S1024 : Shape := ⟨1, ![1024]⟩
abbrev S3x512 : Shape := ⟨2, ![3, 512]⟩
abbrev S512 : Shape := ⟨1, ![512]⟩
abbrev S64 : Shape := ⟨1, ![64]⟩
abbrev S128 : Shape := ⟨1, ![128]⟩
abbrev S1x128 : Shape := ⟨2, ![1, 128]⟩
abbrev S128x256 : Shape := ⟨2, ![128, 256]⟩
abbrev S8x128 : Shape := ⟨2, ![8, 128]⟩
abbrev S1x128x128 : Shape := ⟨3, ![1, 128, 128]⟩
abbrev S1x64x128 : Shape := ⟨3, ![1, 64, 128]⟩
abbrev S136x512 : Shape := ⟨2, ![136, 512]⟩
abbrev S8x512 : Shape := ⟨2, ![8, 512]⟩
abbrev S128x1 : Shape := ⟨2, ![128, 1]⟩
abbrev S128x2944 : Shape := ⟨2, ![128, 2944]⟩
abbrev S64x128 : Shape := ⟨2, ![64, 128]⟩
abbrev S32x4x128 : Shape := ⟨3, ![32, 4, 128]⟩
abbrev S32x4x2x64 : Shape := ⟨4, ![32, 4, 2, 64]⟩
abbrev S32x4x64 : Shape := ⟨3, ![32, 4, 64]⟩

abbrev nBuf : Space → Nat
  | .hbm => 78
  | .vmem => 25
  | .smem => 0
  | _ => 0

abbrev bufTy : (tb : Table) → Fin (tcTables nBuf tb) → BufTy
  | .hbm, ⟨0, _⟩ => ⟨S128x1024, .f32⟩
  | .hbm, ⟨1, _⟩ => ⟨S1x32x2x512, .f32⟩
  | .hbm, ⟨2, _⟩ => ⟨S1x1024, .f32⟩
  | .hbm, ⟨3, _⟩ => ⟨S1x1024x2888, .f32⟩
  | .hbm, ⟨4, _⟩ => ⟨S1x3x512, .f32⟩
  | .hbm, ⟨5, _⟩ => ⟨S1x512, .f32⟩
  | .hbm, ⟨6, _⟩ => ⟨S1x64, .f32⟩
  | .hbm, ⟨7, _⟩ => ⟨S1x64, .f32⟩
  | .hbm, ⟨8, _⟩ => ⟨S4x8, .f32⟩
  | .hbm, ⟨9, _⟩ => ⟨S4x8, .f32⟩
  | .hbm, ⟨10, _⟩ => ⟨S128x128, .bf16⟩
  | .hbm, ⟨11, _⟩ => ⟨S1x4x1x8, .f32⟩
  | .hbm, ⟨12, _⟩ => ⟨S32x4x1x8, .f32⟩
  | .hbm, ⟨13, _⟩ => ⟨S128x8, .f32⟩
  | .hbm, ⟨14, _⟩ => ⟨S1x4x1x8, .f32⟩
  | .hbm, ⟨15, _⟩ => ⟨S32x4x1x8, .f32⟩
  | .hbm, ⟨16, _⟩ => ⟨S128x8, .f32⟩
  | .hbm, ⟨17, _⟩ => ⟨S_, .f32⟩
  | .hbm, ⟨18, _⟩ => ⟨S128x8, .f32⟩
  | .hbm, ⟨19, _⟩ => ⟨S_, .f32⟩
  | .hbm, ⟨20, _⟩ => ⟨S128x48, .f32⟩
  | .hbm, ⟨21, _⟩ => ⟨S_, .f32⟩
  | .hbm, ⟨22, _⟩ => ⟨S128x48, .f32⟩
  | .hbm, ⟨23, _⟩ => ⟨S128x64, .f32⟩
  | .hbm, ⟨24, _⟩ => ⟨S128x8, .f32⟩
  | .hbm, ⟨25, _⟩ => ⟨S128x64, .f32⟩
  | .hbm, ⟨26, _⟩ => ⟨S128x64, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S32x2x512, .f32⟩
  | .hbm, ⟨31, _⟩ => ⟨S_, .f32⟩
  | .hbm, ⟨32, _⟩ => ⟨S32x1x512, .f32⟩
  | .hbm, ⟨33, _⟩ => ⟨S_, .f32⟩
  | .hbm, ⟨34, _⟩ => ⟨S32x2x512, .f32⟩
  | .hbm, ⟨35, _⟩ => ⟨S32x1x512, .f32⟩
  | .hbm, ⟨36, _⟩ => ⟨S32x4x512, .f32⟩
  | .hbm, ⟨37, _⟩ => ⟨S128x512, .f32⟩
  | .hbm, ⟨38, _⟩ => ⟨S32x1x512, .f32⟩
  | .hbm, ⟨39, _⟩ => ⟨S32x1x512, .f32⟩
  | .hbm, ⟨40, _⟩ => ⟨S32x4x512, .f32⟩
  | .hbm, ⟨41, _⟩ => ⟨S128x512, .f32⟩
  | .hbm, ⟨42, _⟩ => ⟨S1024x2888, .f32⟩
  | .hbm, ⟨43, _⟩ => ⟨S_, .i32⟩
  | .hbm, ⟨44, _⟩ => ⟨S_, .f32⟩
  | .hbm, ⟨45, _⟩ => ⟨S1024x2944, .f32⟩
  | .hbm, ⟨46, _⟩ => ⟨S1024x2944, .bf16⟩
  | .hbm, ⟨47, _⟩ => ⟨S1024, .f32⟩
  | .hbm, ⟨48, _⟩ => ⟨S1x1024, .f32⟩
  | .hbm, ⟨49, _⟩ => ⟨S3x512, .f32⟩
  | .hbm, ⟨50, _⟩ => ⟨S512, .f32⟩
  | .hbm, ⟨51, _⟩ => ⟨S1x512, .f32⟩
  | .hbm, ⟨52, _⟩ => ⟨S64, .f32⟩
  | .hbm, ⟨53, _⟩ => ⟨S128, .f32⟩
  | .hbm, ⟨54, _⟩ => ⟨S1x128, .f32⟩
  | .hbm, ⟨55, _⟩ => ⟨S64, .f32⟩
  | .hbm, ⟨56, _⟩ => ⟨S128, .f32⟩
  | .hbm, ⟨57, _⟩ => ⟨S1x128, .f32⟩
  | .hbm, ⟨58, _⟩ => ⟨S128x512, .bf16⟩
  | .hbm, ⟨59, _⟩ => ⟨S128x512, .bf16⟩
  | .hbm, ⟨60, _⟩ => ⟨S128x256, .bf16⟩
  | .hbm, ⟨61, _⟩ => ⟨S128x128, .bf16⟩
  | .hbm, ⟨62, _⟩ => ⟨S128x128, .bf16⟩
  | .hbm, ⟨63, _⟩ => ⟨S128x512, .bf16⟩
  | .hbm, ⟨64, _⟩ => ⟨S8x128, .f32⟩
  | .hbm, ⟨65, _⟩ => ⟨S128x512, .f32⟩
  | .hbm, ⟨66, _⟩ => ⟨S1x128x128, .f32⟩
  | .hbm, ⟨67, _⟩ => ⟨S1x128x128, .f32⟩
  | .hbm, ⟨68, _⟩ => ⟨S1x64x128, .f32⟩
  | .hbm, ⟨69, _⟩ => ⟨S32x4x512, .f32⟩
  | .hbm, ⟨70, _⟩ => ⟨S32x2x512, .f32⟩
  | .hbm, ⟨71, _⟩ => ⟨S128x128, .f32⟩
  | .hbm, ⟨72, _⟩ => ⟨S128x128, .f32⟩
  | .hbm, ⟨73, _⟩ => ⟨S32x4x128, .f32⟩
  | .hbm, ⟨74, _⟩ => ⟨S32x4x2x64, .f32⟩
  | .hbm, ⟨75, _⟩ => ⟨S64x128, .f32⟩
  | .hbm, ⟨76, _⟩ => ⟨S128x64, .f32⟩
  | .hbm, ⟨77, _⟩ => ⟨S32x4x64, .f32⟩
  | .local _ .vmem, ⟨0, _⟩ => ⟨S128x1024, .f32⟩
  | .local _ .vmem, ⟨1, _⟩ => ⟨S1x1024, .f32⟩
  | .local _ .vmem, ⟨2, _⟩ => ⟨S1024x2944, .bf16⟩
  | .local _ .vmem, ⟨3, _⟩ => ⟨S3x512, .f32⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S128x256, .bf16⟩
  | .local _ .vmem, ⟨16, _⟩ => ⟨S128x128, .bf16⟩
  | .local _ .vmem, ⟨17, _⟩ => ⟨S128x128, .bf16⟩
  | .local _ .vmem, ⟨18, _⟩ => ⟨S128x512, .bf16⟩
  | .local _ .vmem, ⟨19, _⟩ => ⟨S8x128, .f32⟩
  | .local _ .vmem, ⟨20, _⟩ => ⟨S128x512, .f32⟩
  | .local _ .vmem, ⟨21, _⟩ => ⟨S1x128x128, .f32⟩
  | .local _ .vmem, ⟨22, _⟩ => ⟨S1x128x128, .f32⟩
  | .local _ .vmem, ⟨23, _⟩ => ⟨S1x64x128, .f32⟩
  | .local _ .vmem, ⟨24, _⟩ => ⟨S136x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v40_2 : Ref sig .tc := ⟨.hbm, 60, rfl⟩
abbrev main_v40_3 : Ref sig .tc := ⟨.hbm, 61, rfl⟩
abbrev main_v40_4 : Ref sig .tc := ⟨.hbm, 62, rfl⟩
abbrev main_v40_5 : Ref sig .tc := ⟨.hbm, 63, rfl⟩
abbrev main_v40_6 : Ref sig .tc := ⟨.hbm, 64, rfl⟩
abbrev main_v40_7 : Ref sig .tc := ⟨.hbm, 65, rfl⟩
abbrev main_v40_8 : Ref sig .tc := ⟨.hbm, 66, rfl⟩
abbrev main_v40_9 : Ref sig .tc := ⟨.hbm, 67, rfl⟩
abbrev main_v40_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_22 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_23 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1x64x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== MixSampleReferenceIdeal.lean ====
abbrev S128x1024 : Shape := ⟨2, ![128, 1024]⟩
abbrev S1x32x2x512 : Shape := ⟨4, ![1, 32, 2, 512]⟩
abbrev S1x1024 : Shape := ⟨2, ![1, 1024]⟩
abbrev S1x1024x2888 : Shape := ⟨3, ![1, 1024, 2888]⟩
abbrev S1x3x512 : Shape := ⟨3, ![1, 3, 512]⟩
abbrev S1x512 : Shape := ⟨2, ![1, 512]⟩
abbrev S1x64 : Shape := ⟨2, ![1, 64]⟩
abbrev S4x8 : Shape := ⟨2, ![4, 8]⟩
abbrev S32x4x1024 : Shape := ⟨3, ![32, 4, 1024]⟩
abbrev S32x2x512 : Shape := ⟨3, ![32, 2, 512]⟩
abbrev S1024 : Shape := ⟨1, ![1024]⟩
abbrev S1024x2888 : Shape := ⟨2, ![1024, 2888]⟩
abbrev S3x512 : Shape := ⟨2, ![3, 512]⟩
abbrev S512 : Shape := ⟨1, ![512]⟩
abbrev S64 : Shape := ⟨1, ![64]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2888 : Shape := ⟨3, ![32, 4, 2888]⟩
abbrev S32x4x512 : Shape := ⟨3, ![32, 4, 512]⟩
abbrev S32x4x128 : Shape := ⟨3, ![32, 4, 128]⟩
abbrev S32x4x64 : Shape := ⟨3, ![32, 4, 64]⟩
abbrev S32x4x8 : Shape := ⟨3, ![32, 4, 8]⟩
abbrev S32x6x512 : Shape := ⟨3, ![32, 6, 512]⟩
abbrev S32x4x2x64 : Shape := ⟨4, ![32, 4, 2, 64]⟩
abbrev S32x4x1x64 : Shape := ⟨4, ![32, 4, 1, 64]⟩
abbrev S32x4x1x8 : Shape := ⟨4, ![32, 4, 1, 8]⟩
abbrev S4x1x8 : Shape := ⟨3, ![4, 1, 8]⟩
abbrev S1x4x1x8 : Shape := ⟨4, ![1, 4, 1, 8]⟩
abbrev S32x4x1x16 : Shape := ⟨4, ![32, 4, 1, 16]⟩
abbrev S32x4x1x48 : Shape := ⟨4, ![32, 4, 1, 48]⟩

abbrev nBuf : Space → Nat
  | .hbm => 71
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x32x2x512, .f32⟩
  | .hbm, ⟨2, _⟩ => ⟨S1x1024, .f32⟩
  | .hbm, ⟨3, _⟩ => ⟨S1x1024x2888, .f32⟩
  | .hbm, ⟨4, _⟩ => ⟨S1x3x512, .f32⟩
  | .hbm, ⟨5, _⟩ => ⟨S1x512, .f32⟩
  | .hbm, ⟨6, _⟩ => ⟨S1x64, .f32⟩
  | .hbm, ⟨7, _⟩ => ⟨S1x64, .f32⟩
  | .hbm, ⟨8, _⟩ => ⟨S4x8, .f32⟩
  | .hbm, ⟨9, _⟩ => ⟨S4x8, .f32⟩
  | .hbm, ⟨10, _⟩ => ⟨S32x4x1024, .f32⟩
  | .hbm, ⟨11, _⟩ => ⟨S32x2x512, .f32⟩
  | .hbm, ⟨12, _⟩ => ⟨S1024, .f32⟩
  | .hbm, ⟨13, _⟩ => ⟨S1024x2888, .f32⟩
  | .hbm, ⟨14, _⟩ => ⟨S3x512, .f32⟩
  | .hbm, ⟨15, _⟩ => ⟨S512, .f32⟩
  | .hbm, ⟨16, _⟩ => ⟨S64, .f32⟩
  | .hbm, ⟨17, _⟩ => ⟨S64, .f32⟩
  | .hbm, ⟨18, _⟩ => ⟨S32x4x1024, .f32⟩
  | .hbm, ⟨19, _⟩ => ⟨S_, .f32⟩
  | .hbm, ⟨20, _⟩ => ⟨S32x4, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S32x4x1, .f32⟩
  | .hbm, ⟨29, _⟩ => ⟨S32x4x1024, .f32⟩
  | .hbm, ⟨30, _⟩ => ⟨S32x4x1024, .f32⟩
  | .hbm, ⟨31, _⟩ => ⟨S1x1x1024, .f32⟩
  | .hbm, ⟨32, _⟩ => ⟨S32x4x1024, .f32⟩
  | .hbm, ⟨33, _⟩ => ⟨S32x4x1024, .f32⟩
  | .hbm, ⟨34, _⟩ => ⟨S32x4x2888, .f32⟩
  | .hbm, ⟨35, _⟩ => ⟨S32x4x512, .f32⟩
  | .hbm, ⟨36, _⟩ => ⟨S32x4x512, .f32⟩
  | .hbm, ⟨37, _⟩ => ⟨S32x4x512, .f32⟩
  | .hbm, ⟨38, _⟩ => ⟨S32x4x512, .f32⟩
  | .hbm, ⟨39, _⟩ => ⟨S32x4x128, .f32⟩
  | .hbm, ⟨40, _⟩ => ⟨S32x4x128, .f32⟩
  | .hbm, ⟨41, _⟩ => ⟨S32x4x512, .f32⟩
  | .hbm, ⟨42, _⟩ => ⟨S32x4x64, .f32⟩
  | .hbm, ⟨43, _⟩ => ⟨S32x4x8, .f32⟩
  | .hbm, ⟨44, _⟩ => ⟨S32x4x512, .f32⟩
  | .hbm, ⟨45, _⟩ => ⟨S32x6x512, .f32⟩
  | .hbm, ⟨46, _⟩ => ⟨S32x2x512, .f32⟩
  | .hbm, ⟨47, _⟩ => ⟨S32x4x2x64, .f32⟩
  | .hbm, ⟨48, _⟩ => ⟨S32x4x1x64, .f32⟩
  | .hbm, ⟨49, _⟩ => ⟨S32x4x1x8, .f32⟩
  | .hbm, ⟨50, _⟩ => ⟨S32x4x1x8, .f32⟩
  | .hbm, ⟨51, _⟩ => ⟨S4x1x8, .f32⟩
  | .hbm, ⟨52, _⟩ => ⟨S4x1x8, .f32⟩
  | .hbm, ⟨53, _⟩ => ⟨S1x4x1x8, .f32⟩
  | .hbm, ⟨54, _⟩ => ⟨S32x4x1x8, .f32⟩
  | .hbm, ⟨55, _⟩ => ⟨S32x4x1x8, .f32⟩
  | .hbm, ⟨56, _⟩ => ⟨S1x4x1x8, .f32⟩
  | .hbm, ⟨57, _⟩ => ⟨S32x4x1x8, .f32⟩
  | .hbm, ⟨58, _⟩ => ⟨S32x4x1x8, .f32⟩
  | .hbm, ⟨59, _⟩ => ⟨S32x4x1x8, .f32⟩
  | .hbm, ⟨60, _⟩ => ⟨S1x4x1x8, .f32⟩
  | .hbm, ⟨61, _⟩ => ⟨S32x4x1x8, .f32⟩
  | .hbm, ⟨62, _⟩ => ⟨S32x4x1x8, .f32⟩
  | .hbm, ⟨63, _⟩ => ⟨S1x4x1x8, .f32⟩
  | .hbm, ⟨64, _⟩ => ⟨S32x4x1x8, .f32⟩
  | .hbm, ⟨65, _⟩ => ⟨S32x4x1x8, .f32⟩
  | .hbm, ⟨66, _⟩ => ⟨S32x4x1x8, .f32⟩
  | .hbm, ⟨67, _⟩ => ⟨S32x4x1x16, .f32⟩
  | .hbm, ⟨68, _⟩ => ⟨S32x4x1x48, .f32⟩
  | .hbm, ⟨69, _⟩ => ⟨S32x4x1x64, .f32⟩
  | .hbm, ⟨70, _⟩ => ⟨S32x4x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Mix.lean ====
abbrev S32768x1024 : Shape := ⟨2, ![32768, 1024]⟩
abbrev S1x1024 : Shape := ⟨2, ![1, 1024]⟩
abbrev S1x1024x2888 : Shape := ⟨3, ![1, 1024, 2888]⟩
abbrev S1x3x512 : Shape := ⟨3, ![1, 3, 512]⟩
abbrev S1x512 : Shape := ⟨2, ![1, 512]⟩
abbrev S1x64 : Shape := ⟨2, ![1, 64]⟩
abbrev S2048x8 : Shape := ⟨2, ![2048, 8]⟩
abbrev S128x128 : Shape := ⟨2, ![128, 128]⟩
abbrev S1024x2888 : Shape := ⟨2, ![1024, 2888]⟩
abbrev S_ : Shape := ⟨0, ![]⟩
abbrev S1024x2944 : Shape := ⟨2, ![1024, 2944]⟩
abbrev S1024 : Shape := ⟨1, ![1024]⟩
abbrev S3x512 : Shape := ⟨2, ![3, 512]⟩
abbrev S512 : Shape := ⟨1, ![512]⟩
abbrev S64 : Shape := ⟨1, ![64]⟩
abbrev S128 : Shape := ⟨1, ![128]⟩
abbrev S1x128 : Shape := ⟨2, ![1, 128]⟩
abbrev S2048x48 : Shape := ⟨2, ![2048, 48]⟩
abbrev S2048x64 : Shape := ⟨2, ![2048, 64]⟩
abbrev S2048x128 : Shape := ⟨2, ![2048, 128]⟩
abbrev S32768x512 : Shape := ⟨2, ![32768, 512]⟩
abbrev S32768x256 : Shape := ⟨2, ![32768, 256]⟩
abbrev S128x32768 : Shape := ⟨2, ![128, 32768]⟩
abbrev S32768x128 : Shape := ⟨2, ![32768, 128]⟩
abbrev S8x32768 : Shape := ⟨2, ![8, 32768]⟩
abbrev S512x512 : Shape := ⟨2, ![512, 512]⟩
abbrev S16x128x2048 : Shape := ⟨3, ![16, 128, 2048]⟩
abbrev S16x64x2048 : Shape := ⟨3, ![16, 64, 2048]⟩
abbrev S512x1024 : Shape := ⟨2, ![512, 1024]⟩
abbrev S512x128 : Shape := ⟨2, ![512, 128]⟩
abbrev S512x256 : Shape := ⟨2, ![512, 256]⟩
abbrev S128x512 : Shape := ⟨2, ![128, 512]⟩
abbrev S8x512 : Shape := ⟨2, ![8, 512]⟩
abbrev S1x128x512 : Shape := ⟨3, ![1, 128, 512]⟩
abbrev S1x64x512 : Shape := ⟨3, ![1, 64, 512]⟩
abbrev S520x512 : Shape := ⟨2, ![520, 512]⟩
abbrev S512x2944 : Shape := ⟨2, ![512, 2944]⟩
abbrev S512x1 : Shape := ⟨2, ![512, 1]⟩
abbrev S64x512 : Shape := ⟨2, ![64, 512]⟩
abbrev S16x4x8x512 : Shape := ⟨4, ![16, 4, 8, 512]⟩
abbrev S16x1x2x512 : Shape := ⟨4, ![16, 1, 2, 512]⟩
abbrev S16x2x512 : Shape := ⟨3, ![16, 2, 512]⟩
abbrev S16x2x64x2048 : Shape := ⟨4, ![16, 2, 64, 2048]⟩
abbrev S16x2048x2x64 : Shape := ⟨4, ![16, 2048, 2, 64]⟩
abbrev S16x2048x64 : Shape := ⟨3, ![16, 2048, 64]⟩

abbrev nBuf : Space → Nat
  | .hbm => 56
  | .vmem => 40
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2888, .f32⟩
  | .hbm, ⟨3, _⟩ => ⟨S1x3x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S2048x8, .f32⟩
  | .hbm, ⟨8, _⟩ => ⟨S2048x8, .f32⟩
  | .hbm, ⟨9, _⟩ => ⟨S128x128, .bf16⟩
  | .hbm, ⟨10, _⟩ => ⟨S1024x2888, .f32⟩
  | .hbm, ⟨11, _⟩ => ⟨S_, .i32⟩
  | .hbm, ⟨12, _⟩ => ⟨S_, .f32⟩
  | .hbm, ⟨13, _⟩ => ⟨S1024x2944, .f32⟩
  | .hbm, ⟨14, _⟩ => ⟨S1024x2944, .bf16⟩
  | .hbm, ⟨15, _⟩ => ⟨S1024, .f32⟩
  | .hbm, ⟨16, _⟩ => ⟨S1x1024, .f32⟩
  | .hbm, ⟨17, _⟩ => ⟨S3x512, .f32⟩
  | .hbm, ⟨18, _⟩ => ⟨S512, .f32⟩
  | .hbm, ⟨19, _⟩ => ⟨S1x512, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S2048x8, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x48, .f32⟩
  | .hbm, ⟨32, _⟩ => ⟨S2048x64, .f32⟩
  | .hbm, ⟨33, _⟩ => ⟨S2048x8, .f32⟩
  | .hbm, ⟨34, _⟩ => ⟨S2048x64, .f32⟩
  | .hbm, ⟨35, _⟩ => ⟨S2048x64, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S32768x512, .bf16⟩
  | .hbm, ⟨40, _⟩ => ⟨S32768x512, .bf16⟩
  | .hbm, ⟨41, _⟩ => ⟨S32768x256, .bf16⟩
  | .hbm, ⟨42, _⟩ => ⟨S128x32768, .bf16⟩
  | .hbm, ⟨43, _⟩ => ⟨S32768x128, .bf16⟩
  | .hbm, ⟨44, _⟩ => ⟨S32768x512, .bf16⟩
  | .hbm, ⟨45, _⟩ => ⟨S8x32768, .f32⟩
  | .hbm, ⟨46, _⟩ => ⟨S512x512, .f32⟩
  | .hbm, ⟨47, _⟩ => ⟨S16x128x2048, .f32⟩
  | .hbm, ⟨48, _⟩ => ⟨S16x128x2048, .f32⟩
  | .hbm, ⟨49, _⟩ => ⟨S16x64x2048, .f32⟩
  | .hbm, ⟨50, _⟩ => ⟨S16x4x8x512, .f32⟩
  | .hbm, ⟨51, _⟩ => ⟨S16x1x2x512, .f32⟩
  | .hbm, ⟨52, _⟩ => ⟨S16x2x512, .f32⟩
  | .hbm, ⟨53, _⟩ => ⟨S16x2x64x2048, .f32⟩
  | .hbm, ⟨54, _⟩ => ⟨S16x2048x2x64, .f32⟩
  | .hbm, ⟨55, _⟩ => ⟨S16x2048x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S3x512, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | .local _ .vmem, ⟨21, _⟩ => ⟨S128x512, .bf16⟩
  | .local _ .vmem, ⟨22, _⟩ => ⟨S128x512, .bf16⟩
  | .local _ .vmem, ⟨23, _⟩ => ⟨S512x128, .bf16⟩
  | .local _ .vmem, ⟨24, _⟩ => ⟨S512x128, .bf16⟩
  | .local _ .vmem, ⟨25, _⟩ => ⟨S512x512, .bf16⟩
  | .local _ .vmem, ⟨26, _⟩ => ⟨S512x512, .bf16⟩
  | .local _ .vmem, ⟨27, _⟩ => ⟨S8x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S1x128x512, .f32⟩
  | .local _ .vmem, ⟨35, _⟩ => ⟨S1x64x512, .f32⟩
  | .local _ .vmem, ⟨36, _⟩ => ⟨S1x64x512, .f32⟩
  | .local _ .vmem, ⟨37, _⟩ => ⟨S520x512, .f32⟩
  | .local _ .vmem, ⟨38, _⟩ => ⟨S512x2944, .f32⟩
  | .local _ .vmem, ⟨39, _⟩ => ⟨S512x2944, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev main_v24_5 : Ref sig .tc := ⟨.hbm, 44, rfl⟩
abbrev main_v24_6 : Ref sig .tc := ⟨.hbm, 45, rfl⟩
abbrev main_v24_7 : Ref sig .tc := ⟨.hbm, 46, rfl⟩
abbrev main_v24_8 : Ref sig .tc := ⟨.hbm, 47, rfl⟩
abbrev main_v24_9 : Ref sig .tc := ⟨.hbm, 48, rfl⟩
abbrev main_v24_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let v17 : BitVec 32 := Scalar.extui v16
  let c0_i32_8 : BitVec 32 := 0#32
  let v18 : BitVec 1 := Scalar.cmpi .ne v17 c0_i32_8
  v18

def k0_cond4 (i : grid0.Coords) : BitVec 1 :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_15 : BitVec 32 := 1#32
  let v29 : BitVec 1 := Scalar.cmpi .eq v28 c1_i32_15
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_21 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixReferenceIdeal.lean ====
abbrev S32768x1024 : Shape := ⟨2, ![32768, 1024]⟩
abbrev S1x1024 : Shape := ⟨2, ![1, 1024]⟩
abbrev S1x1024x2888 : Shape := ⟨3, ![1, 1024, 2888]⟩
abbrev S1x3x512 : Shape := ⟨3, ![1, 3, 512]⟩
abbrev S1x512 : Shape := ⟨2, ![1, 512]⟩
abbrev S1x64 : Shape := ⟨2, ![1, 64]⟩
abbrev S2048x8 : Shape := ⟨2, ![2048, 8]⟩
abbrev S_ : Shape := ⟨0, ![]⟩
abbrev S16x2x512 : Shape := ⟨3, ![16, 2, 512]⟩
abbrev S16x2048x1024 : Shape := ⟨3, ![16, 2048, 1024]⟩
abbrev S1024 : Shape := ⟨1, ![1024]⟩
abbrev S1024x2888 : Shape := ⟨2, ![1024, 2888]⟩
abbrev S3x512 : Shape := ⟨2, ![3, 512]⟩
abbrev S512 : Shape := ⟨1, ![512]⟩
abbrev S64 : Shape := ⟨1, ![64]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2888 : Shape := ⟨3, ![16, 2048, 2888]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x8 : Shape := ⟨3, ![16, 2048, 8]⟩
abbrev S16x2050x512 : Shape := ⟨3, ![16, 2050, 512]⟩
abbrev S16x2048x2x64 : Shape := ⟨4, ![16, 2048, 2, 64]⟩
abbrev S16x2048x1x64 : Shape := ⟨4, ![16, 2048, 1, 64]⟩
abbrev S16x2048x1x8 : Shape := ⟨4, ![16, 2048, 1, 8]⟩
abbrev S2048x1x8 : Shape := ⟨3, ![2048, 1, 8]⟩
abbrev S1x2048x1x8 : Shape := ⟨4, ![1, 2048, 1, 8]⟩
abbrev S16x2048x1x16 : Shape := ⟨4, ![16, 2048, 1, 16]⟩
abbrev S16x2048x1x48 : Shape := ⟨4, ![16, 2048, 1, 48]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2888, .f32⟩
  | .hbm, ⟨3, _⟩ => ⟨S1x3x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S2048x8, .f32⟩
  | .hbm, ⟨8, _⟩ => ⟨S2048x8, .f32⟩
  | .hbm, ⟨9, _⟩ => ⟨S_, .f32⟩
  | .hbm, ⟨10, _⟩ => ⟨S16x2x512, .f32⟩
  | .hbm, ⟨11, _⟩ => ⟨S16x2048x1024, .f32⟩
  | .hbm, ⟨12, _⟩ => ⟨S1024, .f32⟩
  | .hbm, ⟨13, _⟩ => ⟨S1024x2888, .f32⟩
  | .hbm, ⟨14, _⟩ => ⟨S3x512, .f32⟩
  | .hbm, ⟨15, _⟩ => ⟨S512, .f32⟩
  | .hbm, ⟨16, _⟩ => ⟨S64, .f32⟩
  | .hbm, ⟨17, _⟩ => ⟨S64, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S16x2048x2888, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x128, .f32⟩
  | .hbm, ⟨40, _⟩ => ⟨S16x2048x128, .f32⟩
  | .hbm, ⟨41, _⟩ => ⟨S16x2048x512, .f32⟩
  | .hbm, ⟨42, _⟩ => ⟨S16x2048x64, .f32⟩
  | .hbm, ⟨43, _⟩ => ⟨S16x2048x8, .f32⟩
  | .hbm, ⟨44, _⟩ => ⟨S16x2048x512, .f32⟩
  | .hbm, ⟨45, _⟩ => ⟨S16x2050x512, .f32⟩
  | .hbm, ⟨46, _⟩ => ⟨S16x2x512, .f32⟩
  | .hbm, ⟨47, _⟩ => ⟨S16x2048x2x64, .f32⟩
  | .hbm, ⟨48, _⟩ => ⟨S16x2048x1x64, .f32⟩
  | .hbm, ⟨49, _⟩ => ⟨S16x2048x1x8, .f32⟩
  | .hbm, ⟨50, _⟩ => ⟨S16x2048x1x8, .f32⟩
  | .hbm, ⟨51, _⟩ => ⟨S2048x1x8, .f32⟩
  | .hbm, ⟨52, _⟩ => ⟨S2048x1x8, .f32⟩
  | .hbm, ⟨53, _⟩ => ⟨S1x2048x1x8, .f32⟩
  | .hbm, ⟨54, _⟩ => ⟨S16x2048x1x8, .f32⟩
  | .hbm, ⟨55, _⟩ => ⟨S16x2048x1x8, .f32⟩
  | .hbm, ⟨56, _⟩ => ⟨S1x2048x1x8, .f32⟩
  | .hbm, ⟨57, _⟩ => ⟨S16x2048x1x8, .f32⟩
  | .hbm, ⟨58, _⟩ => ⟨S16x2048x1x8, .f32⟩
  | .hbm, ⟨59, _⟩ => ⟨S16x2048x1x8, .f32⟩
  | .hbm, ⟨60, _⟩ => ⟨S1x2048x1x8, .f32⟩
  | .hbm, ⟨61, _⟩ => ⟨S16x2048x1x8, .f32⟩
  | .hbm, ⟨62, _⟩ => ⟨S16x2048x1x8, .f32⟩
  | .hbm, ⟨63, _⟩ => ⟨S1x2048x1x8, .f32⟩
  | .hbm, ⟨64, _⟩ => ⟨S16x2048x1x8, .f32⟩
  | .hbm, ⟨65, _⟩ => ⟨S16x2048x1x8, .f32⟩
  | .hbm, ⟨66, _⟩ => ⟨S16x2048x1x8, .f32⟩
  | .hbm, ⟨67, _⟩ => ⟨S16x2048x1x16, .f32⟩
  | .hbm, ⟨68, _⟩ => ⟨S16x2048x1x48, .f32⟩
  | .hbm, ⟨69, _⟩ => ⟨S16x2048x1x64, .f32⟩
  | .hbm, ⟨70, _⟩ => ⟨S16x2048x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Proof.IdxOffsets.lean ====
/-
  The offsets the indexer kernel computes, in numbers: at grid point `i` the current slot of the key ring is `i % 2`,
  the other one `1 - i % 2`; trip `t` of either loop reads page-table word `t` of a row and names columns
  `128 t … 128 t + 127` of a slot.
-/
module

public import proofs.«01_k».proof.Proof.Gen.KernelIdeal.Launch
public import proofs.«01_k».proof.Proof.Gen.KernelIdeal.Skeleton
public import Idealize.ShloMosaic.Lib.Tactic

@[expose] public section

namespace Cert.KernelIdeal.Idx

open Cert.KernelIdeal Cert.KernelIdeal.Gen
open Idealize.ShloMosaic Idealize.ShloMosaic.TcCoe

theorem trips1 : k0_t1_loop.trips = 128 := by decide
theorem trips2 : k0_t2_loop.trips = 128 := by decide

theorem coords_val (t : Fin grid0.N) : (grid0.coords t 0).val = t.val := by
  revert t; decide

theorem off1_eq (t : Fin k0_t1_loop.trips) : k0_off1 t = ![0, t.val] := by
  revert t; decide +kernel
theorem off2_eq (t : Fin k0_t1_loop.trips) : k0_off2 t = ![0, 0, 128 * t.val] := by
  revert t; decide +kernel

theorem cond1_iff (t : Fin grid0.N) : k0_cond1 (grid0.coords t) = 1#1 ↔ t.val = 0 := by
  revert t; decide +kernel
theorem cond2_iff (t : Fin grid0.N) : k0_cond2 (grid0.coords t) = 1#1 ↔ t.val + 1 < 32 := by
  revert t; decide +kernel

theorem off4_row (t : Fin grid0.N) (h : t.val + 1 < 32) : (Scalar.addi (BitVec.ofNat 32 (grid0.coords t 0).val) 1#32).toNat = t.val + 1 := by
  revert t; decide +kernel
theorem iv_toNat (j : Fin k0_t2_loop.trips) : (Scf.iv 0#32 1#32 j).toNat = j.val := by
  revert j; decide +kernel
theorem off4_eq (t : Fin grid0.N) (h : t.val + 1 < 32) (j : Fin k0_t2_loop.trips) :
    k0_off4 (grid0.coords t) j = ![t.val + 1, j.val] := by
  show ![(Scalar.addi (BitVec.ofNat 32 (grid0.coords t 0).val) 1#32).toNat, (Scf.iv 0#32 1#32 j).toNat] = _
  rw [off4_row t h, iv_toNat]
theorem off5_eq (t : Fin grid0.N) : k0_off5 (grid0.coords t) = ![(t.val + 1) % 2] := by
  revert t; decide +kernel
theorem col_toNat (j : Fin k0_t2_loop.trips) : (Scalar.muli (Scf.iv 0#32 1#32 j) 128#32).toNat = 128 * j.val := by
  revert j; decide +kernel
theorem off6_eq (t : Fin grid0.N) (j : Fin k0_t2_loop.trips) :
    k0_off6 (grid0.coords t) j = ![(t.val + 1) % 2, 0, 128 * j.val] := by
  have h5 := congrFun (off5_eq t) 0
  show ![(k0_off5 (grid0.coords t)) 0, 0, (Scalar.muli (Scf.iv 0#32 1#32 j) 128#32).toNat] = _
  rw [h5, col_toNat]; rfl

theorem off8_eq (t : Fin grid0.N) : k0_off8 (grid0.coords t) = ![t.val % 2, 0, 16384] := by
  revert t; decide +kernel
theorem off9_eq (t : Fin grid0.N) : k0_off9 (grid0.coords t) = ![t.val % 2] := by
  revert t; decide +kernel
theorem off10_eq (t : Fin grid0.N) : k0_off10 (grid0.coords t) = ![t.val % 2, 0, 0] := by
  revert t; decide +kernel
theorem off11_eq (t : Fin grid0.N) : k0_off11 (grid0.coords t) = ![t.val % 2, 0, 0] := by
  revert t; decide +kernel
theorem off12_eq (t : Fin grid0.N) : k0_off12 (grid0.coords t) = ![t.val % 2, 0, 4096] := by
  revert t; decide +kernel
theorem off13_eq (t : Fin grid0.N) : k0_off13 (grid0.coords t) = ![t.val % 2, 0, 8192] := by
  revert t; decide +kernel
theorem off14_eq (t : Fin grid0.N) : k0_off14 (grid0.coords t) = ![t.val % 2, 0, 12288] := by
  revert t; decide +kernel

end Cert.KernelIdeal.Idx

end
-- ==== Proof.IdxRing.lean ====
/-
  The key ring of the indexer kernel and the pool it is filled from, by indices: which elements a page of a slot
  holds, which a page of the pool, and what the ring holds on a slot's pages once the pages the page table's row names
  have been copied there.
-/
module

public import proofs.«01_k».proof.Proof.IdxOffsets
public import Idealize.ShloMosaic.Lib.ValueLayout
public import Idealize.ShloMosaic.Lib.Pipeline.ValueKit.Geometry
public import Idealize.ShloMosaic.Lib.Pipeline.FrameBody
public import Idealize.ShloMosaic.Lib.Batch

@[expose] public section

noncomputable section

namespace Cert.KernelIdeal.Idx

open Cert.KernelIdeal Cert.KernelIdeal.Gen
open Idealize.ShloMosaic Idealize.ShloMosaic.TcCoe

variable {F : FTy → Type} [FloatOps F]

/-- The ring, the pool and the page table as the kernel is given them. -/
abbrev ring : Memref sig .tc .vmem S2x64x16512 .f32 := Memref.whole cc0_scratch0
abbrev pool : Memref sig .tc .hbm S5120x64x128 .f32 := Memref.whole main_v13
abbrev table : Memref sig .tc .smem S32x128 .i32 := Memref.whole main_arg0

/-- A 64 × 128 page of the ring, of the pool. -/
abbrev ringPage (o : Fin 3 → ℕ) (h : ∀ a, o a + S1x64x128.size a ≤ S2x64x16512.size a) : Memref sig .tc .vmem S64x128 .f32 :=
  (ring.slice (Rect.unit (s := S2x64x16512) o S1x64x128.size h) (fun _ => rfl)).squeeze S64x128 squeezes_S1x64x128_S64x128
abbrev poolPage (o : Fin 3 → ℕ) (h : ∀ a, o a + S1x64x128.size a ≤ S5120x64x128.size a) : Memref sig .tc .hbm S64x128 .f32 :=
  (pool.slice (Rect.unit (s := S5120x64x128) o S1x64x128.size h) (fun _ => rfl)).squeeze S64x128 squeezes_S1x64x128_S64x128

theorem ringPage_emb (o : Fin 3 → ℕ) (h) (y : S64x128.Idx) (a : Fin 3) :
    (((ringPage o h).view.emb y : S2x64x16512.Idx) a).val = o a + (![0, (y 0).val, (y 1).val] a) := by
  have e : (ringPage o h).view.emb y
      = (Rect.unit (s := S2x64x16512) o S1x64x128.size h).emb (Shape.reshapeEquiv squeezes_S1x64x128_S64x128.numel_eq y) := rfl
  have e2 : Shape.reshapeEquiv squeezes_S1x64x128_S64x128.numel_eq y = ValueIdx.ix3 (⟨0, Nat.one_pos⟩ : Fin 1) (y 0) (y 1) := by
    conv_lhs => rw [ValueIdx.eq_ix2 y]
    exact ValueIdx.reshapeEquiv_ix2_1ab _ _ _
  rw [e, e2]
  refine (ValueKit.rect_emb_unit_val _ _ _ _ _).trans ?_
  congr 1
  match a with | 0 => rfl | 1 => rfl | 2 => rfl

theorem poolPage_emb (o : Fin 3 → ℕ) (h) (y : S64x128.Idx) (a : Fin 3) :
    (((poolPage o h).view.emb y : S5120x64x128.Idx) a).val = o a + (![0, (y 0).val, (y 1).val] a) := by
  have e : (poolPage o h).view.emb y
      = (Rect.unit (s := S5120x64x128) o S1x64x128.size h).emb (Shape.reshapeEquiv squeezes_S1x64x128_S64x128.numel_eq y) := rfl
  have e2 : Shape.reshapeEquiv squeezes_S1x64x128_S64x128.numel_eq y = ValueIdx.ix3 (⟨0, Nat.one_pos⟩ : Fin 1) (y 0) (y 1) := by
    conv_lhs => rw [ValueIdx.eq_ix2 y]
    exact ValueIdx.reshapeEquiv_ix2_1ab _ _ _
  rw [e, e2]
  refine (ValueKit.rect_emb_unit_val _ _ _ _ _).trans ?_
  congr 1
  match a with | 0 => rfl | 1 => rfl | 2 => rfl

/-- The elements of page `j` of slot `s`; of the pages of slot `s`; of its tail; of the slot. -/
def pageSet (s j : ℕ) : Finset S2x64x16512.Idx := Finset.univ.filter fun x => (x 0).val = s ∧ (x 2).val / 128 = j
def rowSet (s : ℕ) : Finset S2x64x16512.Idx := Finset.univ.filter fun x => (x 0).val = s ∧ (x 2).val < 16384
def tailSet (s : ℕ) : Finset S2x64x16512.Idx := Finset.univ.filter fun x => (x 0).val = s ∧ 16384 ≤ (x 2).val
def slotSet (s : ℕ) : Finset S2x64x16512.Idx := Finset.univ.filter fun x => (x 0).val = s
/-- The elements of page `p` of the pool. -/
def srcSet (p : ℕ) : Finset S5120x64x128.Idx := Finset.univ.filter fun x => (x 0).val = p

theorem ringPage_set (s j : ℕ) (h) : (ringPage ![s, 0, 128 * j] h).view.set = pageSet s j := by
  ext x
  rw [View.set, Finset.mem_map, pageSet, Finset.mem_filter]
  constructor
  · rintro ⟨y, -, rfl⟩
    refine ⟨Finset.mem_univ _, ?_⟩
    have h0 := ringPage_emb ![s, 0, 128 * j] h y 0
    have h2 := ringPage_emb ![s, 0, 128 * j] h y 2
    have hy : (y 1).val < 128 := (y 1).isLt
    simp only [Matrix.cons_val] at h0 h2
    constructor
    · exact h0
    · rw [h2]; omega
  · rintro ⟨-, h0, h2⟩
    have hx1 : (x 1).val < 64 := (x 1).isLt
    refine ⟨ValueIdx.ix2 (⟨(x 1).val, hx1⟩ : Fin 64) (⟨(x 2).val % 128, Nat.mod_lt _ (by omega)⟩ : Fin 128), Finset.mem_univ _, ?_⟩
    funext a
    apply Fin.ext
    refine (ringPage_emb ![s, 0, 128 * j] h _ a).trans ?_
    match a with
    | 0 => simpa using h0.symm
    | 1 => simp
    | 2 => simp; omega

theorem poolPage_set (p : ℕ) (h) : (poolPage ![p, 0, 0] h).view.set = srcSet p := by
  ext x
  rw [View.set, Finset.mem_map, srcSet, Finset.mem_filter]
  constructor
  · rintro ⟨y, -, rfl⟩
    refine ⟨Finset.mem_univ _, ?_⟩
    have h0 := poolPage_emb ![p, 0, 0] h y 0
    simpa using h0
  · rintro ⟨-, h0⟩
    have hx1 : (x 1).val < 64 := (x 1).isLt
    have hx2 : (x 2).val < 128 := (x 2).isLt
    refine ⟨ValueIdx.ix2 (⟨(x 1).val, hx1⟩ : Fin 64) (⟨(x 2).val, hx2⟩ : Fin 128), Finset.mem_univ _, ?_⟩
    funext a
    apply Fin.ext
    refine (poolPage_emb ![p, 0, 0] h _ a).trans ?_
    match a with
    | 0 => simpa using h0.symm
    | 1 => simp
    | 2 => simp

theorem pageSet_disjoint (s : ℕ) : ∀ t ∈ (Finset.univ : Finset (Fin 128)), ∀ t' ∈ (Finset.univ : Finset (Fin 128)), t ≠ t' → Disjoint (pageSet s t.val) (pageSet s t'.val) := by
  intro t _ t' _ hne
  rw [Finset.disjoint_left]
  intro x hx hx'
  rw [pageSet, Finset.mem_filter] at hx hx'
  exact hne (Fin.ext (hx.2.2.symm.trans hx'.2.2))

theorem rowSet_eq (s : ℕ) : rowSet s = Finset.univ.biUnion fun j : Fin 128 => pageSet s j.val := by
  ext x
  rw [Finset.mem_biUnion, rowSet, Finset.mem_filter]
  constructor
  · rintro ⟨-, h0, h2⟩
    exact ⟨⟨(x 2).val / 128, by omega⟩, Finset.mem_univ _, by rw [pageSet, Finset.mem_filter]; exact ⟨Finset.mem_univ _, h0, rfl⟩⟩
  · rintro ⟨j, -, hj⟩
    rw [pageSet, Finset.mem_filter] at hj
    have := j.isLt
    exact ⟨Finset.mem_univ _, hj.2.1, by omega⟩

theorem row_tail_disjoint (s : ℕ) : Disjoint (rowSet s) (tailSet s) := by
  rw [Finset.disjoint_left]
  intro x hx hx'
  rw [rowSet, Finset.mem_filter] at hx
  rw [tailSet, Finset.mem_filter] at hx'
  omega

theorem slotSet_eq (s : ℕ) : slotSet s = rowSet s ∪ tailSet s := by
  ext x
  rw [Finset.mem_union, slotSet, rowSet, tailSet, Finset.mem_filter, Finset.mem_filter, Finset.mem_filter]
  constructor
  · rintro ⟨h, h0⟩
    rcases Nat.lt_or_ge (x 2).val 16384 with h2 | h2
    · exact .inl ⟨h, h0, h2⟩
    · exact .inr ⟨h, h0, h2⟩
  · rintro (⟨h, h0, -⟩ | ⟨h, h0, -⟩) <;> exact ⟨h, h0⟩

theorem slots_disjoint : Disjoint (slotSet 0) (slotSet 1) := by
  rw [Finset.disjoint_left]
  intro x hx hx'
  rw [slotSet, Finset.mem_filter] at hx hx'
  omega

theorem slots_univ : slotSet 0 ∪ slotSet 1 = Finset.univ := by
  ext x
  rw [Finset.mem_union, slotSet, slotSet, Finset.mem_filter, Finset.mem_filter]
  have : (x 0).val < 2 := (x 0).isLt
  have hu := Finset.mem_univ x
  constructor
  · intro _; exact hu
  · intro _
    rcases Nat.lt_or_ge (x 0).val 1 with h | h
    · exact .inl ⟨hu, by omega⟩
    · exact .inr ⟨hu, by omega⟩

/-- The page the table's word `j` of row `r` names, when it names one. -/
def pageOf (pt : S32x128.Idx → BitVec 32) (r : ℕ) (j : ℕ) : ℕ :=
  (pt (ValueIdx.ix2 (⟨r % 32, Nat.mod_lt _ (by omega)⟩ : Fin 32) (⟨j % 128, Nat.mod_lt _ (by omega)⟩ : Fin 128))).toNat

/-- Column `l` of the keys a row of the table names: column `l % 128` of the page its word `l / 128` names. -/
def gathered (pt : S32x128.Idx → BitVec 32) (P : S5120x64x128.Idx → Elt F .f32) (r : ℕ) (d : Fin 64) (l : ℕ) : Elt F .f32 :=
  P (ValueIdx.ix3 (⟨pageOf pt r (l / 128) % 5120, Nat.mod_lt _ (by omega)⟩ : Fin 5120) d (⟨l % 128, Nat.mod_lt _ (by omega)⟩ : Fin 128))

/-- A slot once row `r`'s pages have landed and its tail holds the new keys `kn`. -/
def slotBuf (pt : S32x128.Idx → BitVec 32) (P : S5120x64x128.Idx → Elt F .f32) (kn : S1x64x128.Idx → Elt F .f32) (r : ℕ) :
    S2x64x16512.Idx → Elt F .f32 := fun x =>
  if (x 2).val < 16384 then gathered pt P r (x 1) (x 2).val
  else kn (ValueIdx.ix3 (⟨0, Nat.one_pos⟩ : Fin 1) (x 1) (⟨((x 2).val - 16384) % 128, Nat.mod_lt _ (by omega)⟩ : Fin 128))

/-- The ring after row `r`'s pages have landed, on those pages. -/
def rowBuf (pt : S32x128.Idx → BitVec 32) (P : S5120x64x128.Idx → Elt F .f32) (r : ℕ) : S2x64x16512.Idx → Elt F .f32 :=
  fun x => gathered pt P r (x 1) (x 2).val

/-- Page `j` of a slot, written with the page the table names, holds that page. -/
theorem landed (pt : S32x128.Idx → BitVec 32) (P : S5120x64x128.Idx → Elt F .f32) (r : ℕ) (s j : ℕ) (hj : j < 128)
    (hp : pageOf pt r j < 5120) (h : ∀ a, (![s, 0, 128 * j] : Fin 3 → ℕ) a + S1x64x128.size a ≤ S2x64x16512.size a)
    (h' : ∀ a, (![pageOf pt r j, 0, 0] : Fin 3 → ℕ) a + S1x64x128.size a ≤ S5120x64x128.size a) (f : S2x64x16512.Idx → Elt F .f32) :
    ∀ x ∈ pageSet s j, (ringPage ![s, 0, 128 * j] h).view.write (Elt F) f
      ((poolPage ![pageOf pt r j, 0, 0] h').view.read (Elt F) P) Finset.univ x = rowBuf pt P r x := by
  intro x hx
  rw [← ringPage_set s j h, View.set, Finset.mem_map] at hx
  obtain ⟨y, -, rfl⟩ := hx
  rw [View.write_emb_of_mem _ _ (Finset.mem_univ _)]
  show P ((poolPage ![pageOf pt r j, 0, 0] h').view.emb y) = rowBuf pt P r _
  have hy : (y 1).val < 128 := (y 1).isLt
  have h1 := ringPage_emb ![s, 0, 128 * j] h y 1
  have h2 := ringPage_emb ![s, 0, 128 * j] h y 2
  simp only [Matrix.cons_val] at h1 h2
  unfold rowBuf gathered
  congr 1
  funext a
  apply Fin.ext
  refine (poolPage_emb ![pageOf pt r j, 0, 0] h' y a).trans ?_
  match a with
  | 0 =>
    show pageOf pt r j + 0 = pageOf pt r (_ / 128) % 5120
    rw [h2, show (128 * j + (y 1).val) / 128 = j by omega, Nat.mod_eq_of_lt hp, Nat.add_zero]
  | 1 => show 0 + (y 0).val = _; exact h1.symm
  | 2 =>
    show 0 + (y 1).val = _ % 128
    rw [h2]; omega

end Cert.KernelIdeal.Idx

end
-- ==== Proof.IdxFlight.lean ====
/-
  A slot of the key ring in flight: the 128 page copies of one row of the page table, issued on one DMA cell by either
  loop of the kernel. Each copy is lent its destination page at the full share and its source page at a read token of
  the pool; the cell's one wait hands all of them back.
-/
module

public import proofs.«01_k».proof.Proof.IdxRing
public import Idealize.ShloMosaic.Lib.Tactic

@[expose] public section

noncomputable section

namespace Cert.KernelIdeal.Idx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The DMA cell of slot `s`. -/
def cell (s : ℕ) : DmaSem sig := if s = 0 then 8 else 9
/-- The half of the pool slot `s`'s copies read at; the token of copy `j`. -/
def half (s : ℕ) : PosShare TreeShare := if s = 0 then fullShare.left else fullShare.right
abbrev tok (s : ℕ) (j : Fin 128) : PosShare TreeShare := Transfers.shareTok (half s) 128 j

variable (c : Dev nD) (pt : S32x128.Idx → BitVec 32) (P : S5120x64x128.Idx → Elt F .f32)

abbrev atRing (S : Finset S2x64x16512.Idx) (f : S2x64x16512.Idx → Elt F .f32) : sProp 𝕄 :=
  ring.view.loc (c : Thread nD τ) ↦[S]{fullShare} f
abbrev atPool (S : Finset S5120x64x128.Idx) (q : PosShare TreeShare) (f : S5120x64x128.Idx → Elt F .f32) : sProp 𝕄 :=
  pool.view.loc (c : Thread nD τ) ↦[S]{q} f
/-- The page table, at the half of its share the launch gives. -/
abbrev atTable : sProp 𝕄 := (table.view.loc (c : Thread nD τ) ↦{fullShare.right} pt)

/-- What copy `j` of row `r` into slot `s` delivers. -/
def D (s r : ℕ) (j : Fin 128) : sProp 𝕄 :=
  iprop(atRing c (pageSet s j.val) (rowBuf pt P r) ∗ atPool c (srcSet (pageOf pt r j.val)) (tok s j) P)

instance D_storable (s r : ℕ) : ∀ j, Storable (upEmb : UEmb _ 𝕄) (D (F := F) c pt P s r j) := fun j => by
  unfold D; infer_instance

/-- The batch of a slot's copies of row `r`, `j` of them issued. -/
abbrev batch (s r j : ℕ) : sProp 𝕄 :=
  Transfers.Batch (Lvl := ℕ) (countersEmb (U := Pipeline.UD sig nD τ)) (c : Thread nD τ) (.dma (cell s)) () 1024 (D c pt P s r) j 0

/-- What copy `j` of row `r` into slot `s` is lent, the slot at contents `f`. -/
def lent (s r : ℕ) (f : S2x64x16512.Idx → Elt F .f32) (j : Fin 128) : sProp 𝕄 :=
  iprop(atRing c (pageSet s j.val) f ∗ atPool c (srcSet (pageOf pt r j.val)) (tok s j) P)

theorem ret_bind' {E : Type → Type} {α β : Type} (a : α) (k : α → Prog E β) : (Prog.ret a).bind k = k a := rfl

/-- Issuing one copy. -/
theorem issue (s r j : ℕ) (hj : j < 128) (hp : pageOf pt r j < 5120)
    (o1 o2 : Fin 3 → ℕ) (e1 : o1 = ![s, 0, 128 * j]) (e2 : o2 = ![pageOf pt r j, 0, 0])
    (h1 : ∀ a, o1 a + S1x64x128.size a ≤ S2x64x16512.size a) (h2 : ∀ a, o2 a + S1x64x128.size a ≤ S5120x64x128.size a)
    (sm : DmaSem sig) (hsm : sm = cell s) {hsrc} {hdst} {hsem}
    {k : PUnit → Prog (TpuEff nD τ sig (Elt F) Λ₀ .tc) Unit} {Q : Unit → sProp 𝕄} (f : S2x64x16512.Idx → Elt F .f32) :
    iprop(lent c pt P s r f ⟨j, hj⟩ ∗ batch c pt P s r j)
      ⊢ iprop((batch c pt P s r (j + 1) -∗ wp frame (wpE defs₀ Variants.none (c : Thread nD τ) none) Set.univ (k ⟨⟩) Q)
          -∗ wp frame (wpE defs₀ Variants.none (c : Thread nD τ) none) Set.univ
            (.op (.enqueueDmaAs (poolPage o2 h2) (.here (ringPage o1 h1)) .same (.dma sm) hsrc hdst hsem) k) Q) := by
  subst e1; subst e2; subst hsm
  have hD : iprop(((ringPage ![s, 0, 128 * j] h1).view.loc (c : Thread nD τ) ↦[(ringPage ![s, 0, 128 * j] h1).view.set]{fullShare}
        ((ringPage ![s, 0, 128 * j] h1).view.write (Elt F) f (ReadAs.same.apply ((poolPage ![pageOf pt r j, 0, 0] h2).view.read (Elt F) P)) Finset.univ))
      ∗ ((poolPage ![pageOf pt r j, 0, 0] h2).view.loc (c : Thread nD τ) ↦[(poolPage ![pageOf pt r j, 0, 0] h2).view.set]{tok s ⟨j, hj⟩} P))
      ⊢ D c pt P s r ⟨j, hj⟩ := by
    unfold D
    rw [poolPage_set, ringPage_set]
    refine sep_mono_left (Entails.of_eq ?_)
    exact pointsTo_congr (landed pt P r s j hj hp h1 h2 f)
  unfold lent
  iintro ⟨⟨Hr, Hp⟩, HB⟩ Hk
  iapply (Transfers.wp_dmaBatch (countersEmb (U := Pipeline.UD sig nD τ)) Variants.none (c : Thread nD τ) none
    (src := poolPage ![pageOf pt r j, 0, 0] h2) (dst := ringPage ![s, 0, 128 * j] h1) (fs := P) (fd := f) (q := tok s ⟨j, hj⟩)
    () 1024 (by rfl) (Finset.Subset.refl _) (D := D c pt P s r) (j := j) (u := 0) hj (Nat.zero_le _) hD) $$ [Hr Hp HB]
  · rw [poolPage_set, ringPage_set]
    isplitl [Hp]; · iexact Hp
    isplitl [Hr]; · iexact Hr
    iexact HB
  iexact Hk

/-- A slot being filled: `j` of row `r`'s copies issued, the others' pages still in hand, the slot at contents `f` there. -/
def Issuing (s r : ℕ) (f : S2x64x16512.Idx → Elt F .f32) (j : ℕ) : sProp 𝕄 :=
  iprop(batch c pt P s r j ∗ bigSep (Transfers.pending (n := 128) j) (lent c pt P s r f) ∗ atTable c pt)

theorem cell_first (h) : (((cc0_scratch1 : DmaSems sig S2).slice (Rect.unit (s := S2) ![0] S1.size h)).squeeze S_ squeezes_S1_S_).sem = cell 0 := by unfold cell; decide +revert
theorem cell_second (h) : (((cc0_scratch1 : DmaSems sig S2).slice (Rect.unit (s := S2) ![1] S1.size h)).squeeze S_ squeezes_S1_S_).sem = cell 1 := by unfold cell; decide +revert
theorem cell_of (s : ℕ) (hs : s < 2) (o : Fin 1 → ℕ) (e : o = ![s]) (h) :
    (((cc0_scratch1 : DmaSems sig S2).slice (Rect.unit (s := S2) o S1.size h)).squeeze S_ squeezes_S1_S_).sem = cell s := by
  subst e
  match s, hs with
  | 0, _ => exact cell_first h
  | 1, _ => exact cell_second h

/-- The word of the page table at row `r`, column `j`. -/
theorem word_eq (r j : ℕ) (hr : r < 32) (hj : j < 128) (o : Fin 2 → ℕ) (e : o = ![r, j])
    (h : ∀ a, o a + S1x1.size a ≤ S32x128.size a) (x : (Rect.unit (s := S32x128) o S1x1.size h).toLoadRect.shape.Idx) :
    (table.view.readAt (Elt F) (Rect.unit (s := S32x128) o S1x1.size h).toLoadRect pt x).toNat = pageOf pt r j := by
  subst e
  unfold pageOf
  show (pt ((Rect.unit (s := S32x128) ![r, j] S1x1.size h).emb x)).toNat = _
  congr 2
  funext a
  apply Fin.ext
  refine (ValueKit.rect_emb_unit_val _ _ _ _ _).trans ?_
  match a with
  | 0 =>
    have : (x 0).val < 1 := (x 0).isLt
    show r + (x 0).val = r % 32
    omega
  | 1 =>
    have : (x 1).val < 1 := (x 1).isLt
    show j + (x 1).val = j % 128
    omega

variable (a2 : Memref sig .tc .vmem S1x64x64 .bf16) (ha2 : a2.IsWhole) (a3 : Memref sig .tc .vmem S1x64x1 .f32) (ha3 : a3.IsWhole)
  (a4 : Memref sig .tc .vmem S1x64x128 .f32) (ha4 : a4.IsWhole) (a6 : Memref sig .tc .vmem S1x4x16512 .f32) (ha6 : a6.IsWhole)

/-- One trip of the first loop: row 0 into slot 0. -/
theorem trip1 (i : grid0.Coords) (h1 : k0_cond1 i = 1#1) (hpt : ∀ x, (pt x).toNat < 5120) (f : S2x64x16512.Idx → Elt F .f32)
    (t : Fin k0_t1_loop.trips) (acc : Unit) :
    Issuing c pt P 0 0 f t.val
      ⊢ wp frame (wpE defs₀ Variants.none (c : Thread nD τ) none) Set.univ
          (k0_t1_body (F := F) i table (Memref.isWhole_whole _) a2 ha2 a3 ha3 a4 ha4 pool (Memref.isWhole_whole _) a6 ha6 ring (Memref.isWhole_whole _) cc0_scratch1 h1 t acc)
          (fun _ => Issuing c pt P 0 0 f (t.val + 1)) := by
  have ht : t.val < 128 := t.isLt
  unfold Issuing k0_t1_body
  iintro ⟨HB, HL, HT⟩
  sl_exec
  have hw : (trip1.sl.r (F := F) pt i h1 t).toNat = pageOf pt 0 t.val := by
    unfold trip1.sl.r
    exact word_eq (F := F) pt 0 t.val (by decide) ht _ (off1_eq t) _ _
  have hp : pageOf pt 0 t.val < 5120 := hpt _
  have ho : k0_off3 (trip1.sl.r (F := F) pt i h1 t) = ![pageOf pt 0 t.val, 0, 0] := by rw [← hw]; rfl
  have hk : k0_chk1 i (trip1.sl.r (F := F) pt i h1 t) := by
    unfold k0_chk1
    intro _
    rw [ho]
    intro a
    match a with
    | 0 => show pageOf pt 0 t.val + 1 ≤ 5120; omega
    | 1 => show 0 + 64 ≤ 64; omega
    | 2 => show 0 + 128 ≤ 128; omega
  iapply (wp_assume _ _ _ _ hk)
  ihave HL' := (Entails.of_eq (Transfers.bigSep_pending_step _ t.val ht)) $$ HL
  icases HL' with ⟨Hl, HL⟩
  iapply (issue c pt P 0 0 t.val ht hp _ _ (off2_eq t) ho _ _ _ (cell_of 0 (by decide) _ rfl _) f) $$ [Hl HB]
  · isplitl [Hl]; · iexact Hl
    iexact HB
  iintro HB
  simp only [ret_bind']
  sl_step
  isplitl [HB]; · iexact HB
  isplitl [HL]; · iexact HL
  iexact HT

/-- One trip of the second loop: the next row into the other slot. -/
theorem trip2 (q : Fin grid0.N) (hq : q.val + 1 < 32) (h1 : k0_cond2 (grid0.coords q) = 1#1) (hpt : ∀ x, (pt x).toNat < 5120) (f : S2x64x16512.Idx → Elt F .f32)
    (t : Fin k0_t2_loop.trips) (acc : Unit) :
    Issuing c pt P ((q.val + 1) % 2) (q.val + 1) f t.val
      ⊢ wp frame (wpE defs₀ Variants.none (c : Thread nD τ) none) Set.univ
          (k0_t2_body (F := F) (grid0.coords q) table (Memref.isWhole_whole _) a2 ha2 a3 ha3 a4 ha4 pool (Memref.isWhole_whole _) a6 ha6 ring (Memref.isWhole_whole _) cc0_scratch1 h1 t acc)
          (fun _ => Issuing c pt P ((q.val + 1) % 2) (q.val + 1) f (t.val + 1)) := by
  have ht : t.val < 128 := t.isLt
  unfold Issuing k0_t2_body
  iintro ⟨HB, HL, HT⟩
  sl_exec
  have hw : (trip2.sl.r (F := F) pt q h1 t).toNat = pageOf pt (q.val + 1) t.val := by
    unfold trip2.sl.r
    exact word_eq (F := F) pt (q.val + 1) t.val hq ht _ (off4_eq q hq t) _ _
  have hp : pageOf pt (q.val + 1) t.val < 5120 := hpt _
  have ho : k0_off7 (trip2.sl.r (F := F) pt q h1 t) = ![pageOf pt (q.val + 1) t.val, 0, 0] := by rw [← hw]; rfl
  have hk : k0_chk2 (grid0.coords q) (trip2.sl.r (F := F) pt q h1 t) := by
    unfold k0_chk2
    intro _
    rw [ho]
    intro a
    match a with
    | 0 => show pageOf pt (q.val + 1) t.val + 1 ≤ 5120; omega
    | 1 => show 0 + 64 ≤ 64; omega
    | 2 => show 0 + 128 ≤ 128; omega
  iapply (wp_assume _ _ _ _ hk)
  ihave HL' := (Entails.of_eq (Transfers.bigSep_pending_step _ t.val ht)) $$ HL
  icases HL' with ⟨Hl, HL⟩
  iapply (issue c pt P ((q.val + 1) % 2) (q.val + 1) t.val ht hp _ _ (off6_eq q t) ho _ _ _ (cell_of _ (Nat.mod_lt _ (by decide)) _ (off5_eq q) _) f) $$ [Hl HB]
  · isplitl [Hl]; · iexact Hl
    iexact HB
  iintro HB
  simp only [ret_bind']
  sl_step
  isplitl [HB]; · iexact HB
  isplitl [HL]; · iexact HL
  iexact HT

/-- The first loop. -/
theorem loop1 (i : grid0.Coords) (h1 : k0_cond1 i = 1#1) (hpt : ∀ x, (pt x).toNat < 5120) (f : S2x64x16512.Idx → Elt F .f32)
    {β : Type} {kk : Unit → Prog (TpuEff nD τ sig (Elt F) Λ₀ .tc) β} {Q : β → sProp 𝕄} :
    Issuing c pt P 0 0 f 0
      ⊢ iprop((∀ acc, Issuing c pt P 0 0 f 128 -∗ wp frame (wpE defs₀ Variants.none (c : Thread nD τ) none) Set.univ (kk acc) Q)
        -∗ wp frame (wpE defs₀ Variants.none (c : Thread nD τ) none) Set.univ
          (Scf.Loop.for k0_t1_loop (k0_t1_ok i h1) ⟨⟩ (k0_t1_body (F := F) i table (Memref.isWhole_whole _) a2 ha2 a3 ha3 a4 ha4 pool (Memref.isWhole_whole _) a6 ha6 ring (Memref.isWhole_whole _) cc0_scratch1 h1) >>= kk) Q) :=
  Scf.wp_for_bind _ _ _ _ _ _ _ _ _ (fun k _ => Issuing c pt P 0 0 f k) (fun k acc => trip1 c pt P a2 ha2 a3 ha3 a4 ha4 a6 ha6 i h1 hpt f k acc)

/-- The second loop. -/
theorem loop2 (q : Fin grid0.N) (hq : q.val + 1 < 32) (h1 : k0_cond2 (grid0.coords q) = 1#1) (hpt : ∀ x, (pt x).toNat < 5120) (f : S2x64x16512.Idx → Elt F .f32)
    {β : Type} {kk : Unit → Prog (TpuEff nD τ sig (Elt F) Λ₀ .tc) β} {Q : β → sProp 𝕄} :
    Issuing c pt P ((q.val + 1) % 2) (q.val + 1) f 0
      ⊢ iprop((∀ acc, Issuing c pt P ((q.val + 1) % 2) (q.val + 1) f 128 -∗ wp frame (wpE defs₀ Variants.none (c : Thread nD τ) none) Set.univ (kk acc) Q)
        -∗ wp frame (wpE defs₀ Variants.none (c : Thread nD τ) none) Set.univ
          (Scf.Loop.for k0_t2_loop (k0_t2_ok (grid0.coords q) h1) ⟨⟩ (k0_t2_body (F := F) (grid0.coords q) table (Memref.isWhole_whole _) a2 ha2 a3 ha3 a4 ha4 pool (Memref.isWhole_whole _) a6 ha6 ring (Memref.isWhole_whole _) cc0_scratch1 h1) >>= kk) Q) :=
  Scf.wp_for_bind _ _ _ _ _ _ _ _ _ (fun k _ => Issuing c pt P ((q.val + 1) % 2) (q.val + 1) f k) (fun k acc => trip2 c pt P a2 ha2 a3 ha3 a4 ha4 a6 ha6 q hq h1 hpt f k acc)

end Cert.KernelIdeal.Idx

end
-- ==== Proof.IdxSlot.lean ====
/-
  The states of the two slots between grid points, and how they change: an idle slot is started on a row of the page
  table, a slot whose copies have all been waited for holds the row's keys.
-/
module

public import proofs.«01_k».proof.Proof.IdxFlight

@[expose] public section

noncomputable section

namespace Cert.KernelIdeal.Idx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (pt : S32x128.Idx → BitVec 32) (P : S5120x64x128.Idx → Elt F .f32)

/-- The cell's counter at zero. -/
abbrev quiet (s : ℕ) : sProp 𝕄 := semVal ((c : Thread nD τ), SemLoc.dma (cell s)) 0

/-- An idle slot: its elements at some contents, its cell at zero, its half of the pool. -/
def Idle (s : ℕ) : sProp 𝕄 :=
  iprop((∃ f, atRing (F := F) c (slotSet s) f) ∗ quiet c s ∗ atPool c Finset.univ (half s) P)

/-- What a slot filling with row `r` keeps of its half of the pool: off each source page, and the rest of the share. -/
def Kept (s r : ℕ) : sProp 𝕄 :=
  iprop(bigSep Finset.univ (fun j : Fin 128 => atPool c (Finset.univ \ srcSet (pageOf pt r j.val)) (tok s j) P)
    ∗ atPool c Finset.univ (Transfers.shareDrop (half s) 128) P)

/-- A slot with row `r` in flight, its tail in hand. -/
def Flying (s r : ℕ) : sProp 𝕄 :=
  iprop((∃ f, atRing (F := F) c (tailSet s) f) ∗ batch c pt P s r 128 ∗ Kept c pt P s r)

theorem sep_both (Φ Ψ : Fin 128 → sProp 𝕄) :
    bigSep Finset.univ (fun j => iprop(Φ j ∗ Ψ j)) = iprop(bigSep Finset.univ Φ ∗ bigSep Finset.univ Ψ) := BI.bigSep_sep _ _ _

theorem pool_split (s r : ℕ) :
    atPool c Finset.univ (half s) P
      ⊣⊢ iprop(bigSep Finset.univ (fun j : Fin 128 => atPool c (srcSet (pageOf pt r j.val)) (tok s j) P) ∗ Kept c pt P s r) := by
  have h1 : (atPool c Finset.univ (half s) P : sProp 𝕄) ⊣⊢ _ := Transfers.pointsTo_toks (half s) 128
  have h2 : bigSep Finset.univ (fun j : Fin 128 => (atPool c Finset.univ (tok s j) P : sProp 𝕄))
      = iprop(bigSep Finset.univ (fun j : Fin 128 => atPool c (srcSet (pageOf pt r j.val)) (tok s j) P)
        ∗ bigSep Finset.univ (fun j : Fin 128 => atPool c (Finset.univ \ srcSet (pageOf pt r j.val)) (tok s j) P)) := by
    refine Eq.trans (bigSep_congr fun j _ => ?_) (BI.bigSep_sep _ _ _)
    exact Entails.antisymm (pointsTo_split_subset (Finset.subset_univ _)).1 (pointsTo_split_subset (Finset.subset_univ _)).2
  unfold Kept
  constructor
  · refine h1.1.trans ?_
    rw [h2]
    iintro ⟨Hd, Ha, Hb⟩
    isplitl [Ha]; · iexact Ha
    isplitl [Hb]; · iexact Hb
    iexact Hd
  · refine BIBase.Entails.trans ?_ h1.2
    rw [h2]
    iintro ⟨Ha, Hb, Hd⟩
    isplitl [Hd]; · iexact Hd
    isplitl [Ha]; · iexact Ha
    iexact Hb

/-- Starting an idle slot on row `r`: nothing issued yet. -/
theorem start (s r : ℕ) :
    iprop(Idle (F := F) c P s ∗ atTable (F := F) c pt)
      ⊢ |={Set.univ}=> iprop(∃ f, Issuing c pt P s r f 0 ∗ (∃ g, atRing (F := F) c (tailSet s) g) ∗ Kept c pt P s r) := by
  unfold Idle
  iintro ⟨⟨⟨%f, Hr⟩, Hq, Hp⟩, HT⟩
  imod (Transfers.batch_alloc' (Lvl := ℕ) (countersEmb (U := Pipeline.UD sig nD τ)) (c : Thread nD τ) () 1024 (D c pt P s r)
    (sm := .dma (cell s)) (E := Set.univ)) $$ Hq with HB
  imodintro
  iexists f
  ihave Hp' := (pool_split c pt P s r).1 $$ Hp
  icases Hp' with ⟨Hp, HK⟩
  ihave Hr' := (show (atRing (F := F) c (slotSet s) f : sProp 𝕄) ⊢ iprop(bigSep Finset.univ (fun j : Fin 128 => atRing (F := F) c (pageSet s j.val) f) ∗ atRing (F := F) c (tailSet s) f) from by
    rw [slotSet_eq]
    refine (pointsTo_union (row_tail_disjoint s)).1.trans (sep_mono_left (Entails.of_eq ?_))
    rw [rowSet_eq]
    exact pointsTo_biUnion _ _ (pageSet_disjoint s)) $$ Hr
  icases Hr' with ⟨Hr, Ht⟩
  isplitl [HB Hr Hp HT]
  · unfold Issuing
    isplitl [HB]; · iexact HB
    isplitl [Hr Hp]
    · rw [Transfers.pending_zero]
      unfold lent
      rw [sep_both]
      isplitl [Hr]; · iexact Hr
      iexact Hp
    iexact HT
  isplitl [Ht]; · iexists f; iexact Ht
  iexact HK

/-- Every copy issued: the slot is in flight. -/
theorem issued (s r : ℕ) (f : S2x64x16512.Idx → Elt F .f32) :
    iprop(Issuing c pt P s r f 128 ∗ (∃ g, atRing (F := F) c (tailSet s) g) ∗ Kept c pt P s r)
      ⊢ iprop(Flying c pt P s r ∗ atTable (F := F) c pt) := by
  unfold Issuing Flying
  iintro ⟨⟨HB, -, HT⟩, Ht, HK⟩
  isplitl [HB Ht HK]
  · isplitl [Ht]; · iexact Ht
    isplitl [HB]; · iexact HB
    iexact HK
  iexact HT

/-- The deliveries of a slot's copies: its pages at the row's keys, and its half of the pool back. -/
theorem arrived (s r : ℕ) :
    iprop(bigSep Finset.univ (D c pt P s r) ∗ Kept c pt P s r)
      ⊢ iprop(atRing c (rowSet s) (rowBuf pt P r) ∗ atPool c Finset.univ (half s) P) := by
  unfold D
  rw [sep_both]
  iintro ⟨⟨Hr, Hp⟩, HK⟩
  isplitl [Hr]
  · rw [rowSet_eq]
    iapply (Entails.of_eq (pointsTo_biUnion _ _ (pageSet_disjoint s)).symm)
    iexact Hr
  iapply (pool_split c pt P s r).2
  isplitl [Hp]; · iexact Hp
  iexact HK

end Cert.KernelIdeal.Idx

end
-- ==== Proof.IdxChunk.lean ====
/-
  What the kernel reads back from a filled slot of the key ring: four chunks of 4096 gathered columns, and the new keys.
-/
module

public import proofs.«01_k».proof.Proof.IdxRing

@[expose] public section

noncomputable section

namespace Cert.KernelIdeal.Idx

open Cert.KernelIdeal Cert.KernelIdeal.Gen
open Idealize.ShloMosaic Idealize.ShloMosaic.TcCoe

variable {F : FTy → Type} [FloatOps F]

/-- The new keys' columns of the ring. -/
abbrev tailRect (o : Fin 3 → ℕ) (h : ∀ a, o a + S1x64x128.size a ≤ S2x64x16512.size a) : Rect S2x64x16512 :=
  Rect.unit (s := S2x64x16512) o S1x64x128.size h
/-- A chunk of 4096 columns of the ring. -/
abbrev chunkRect (o : Fin 3 → ℕ) (h : ∀ a, o a + S1x64x4096.size a ≤ S2x64x16512.size a) : Rect S2x64x16512 :=
  Rect.unit (s := S2x64x16512) o S1x64x4096.size h

theorem tail_emb (o : Fin 3 → ℕ) (h) (y : S1x64x128.Idx) (a : Fin 3) :
    (((ring.access (tailRect o h)).emb y : S2x64x16512.Idx) a).val = o a + (y a).val :=
  ValueKit.rect_emb_unit_val _ _ _ _ _

theorem chunk_emb (o : Fin 3 → ℕ) (h) (y : S1x64x4096.Idx) (a : Fin 3) :
    (((ring.access (chunkRect o h)).emb y : S2x64x16512.Idx) a).val = o a + (y a).val :=
  ValueKit.rect_emb_unit_val _ _ _ _ _

theorem tail_set (s : ℕ) (o : Fin 3 → ℕ) (e : o = ![s, 0, 16384]) (h) : (ring.access (tailRect o h)).set = tailSet s := by
  subst e
  ext x
  rw [View.set, Finset.mem_map, tailSet, Finset.mem_filter]
  constructor
  · rintro ⟨y, -, rfl⟩
    have h0 := tail_emb ![s, 0, 16384] h y 0
    have h2 := tail_emb ![s, 0, 16384] h y 2
    have hy0 : (y 0).val < 1 := (y 0).isLt
    simp only [Matrix.cons_val] at h0 h2
    exact ⟨Finset.mem_univ _, by rw [h0]; omega, by rw [h2]; omega⟩
  · rintro ⟨-, h0, h2⟩
    have hx1 : (x 1).val < 64 := (x 1).isLt
    have hx2 : (x 2).val < 16512 := (x 2).isLt
    refine ⟨ValueIdx.ix3 (⟨0, Nat.one_pos⟩ : Fin 1) (⟨(x 1).val, hx1⟩ : Fin 64) (⟨(x 2).val - 16384, by omega⟩ : Fin 128), Finset.mem_univ _, ?_⟩
    funext a
    apply Fin.ext
    refine (tail_emb ![s, 0, 16384] h _ a).trans ?_
    match a with
    | 0 => simpa using h0.symm
    | 1 => show 0 + (x 1).val = (x 1).val; omega
    | 2 => show 16384 + ((x 2).val - 16384) = (x 2).val; omega

theorem chunk_subset (s k : ℕ) (o : Fin 3 → ℕ) (e : o = ![s, 0, k]) (h) : (ring.access (chunkRect o h)).set ⊆ slotSet s := by
  subst e
  intro x hx
  rw [View.set, Finset.mem_map] at hx
  obtain ⟨y, -, rfl⟩ := hx
  have h0 := chunk_emb ![s, 0, k] h y 0
  have hy0 : (y 0).val < 1 := (y 0).isLt
  simp only [Matrix.cons_val] at h0
  rw [slotSet, Finset.mem_filter]
  exact ⟨Finset.mem_univ _, by rw [h0]; omega⟩

theorem tail_subset (s : ℕ) (o : Fin 3 → ℕ) (e : o = ![s, 0, 16384]) (h) : (ring.access (tailRect o h)).set ⊆ slotSet s := by
  rw [tail_set s o e h, slotSet_eq]
  exact Finset.subset_union_right

/-- Chunk `k` of the keys row `r` of the table names. -/
def keyChunk (pt : S32x128.Idx → BitVec 32) (P : S5120x64x128.Idx → Elt F .f32) (r k : ℕ) : S1x64x4096.Idx → Elt F .f32 :=
  fun y => gathered pt P r (y 1) (k + (y 2).val)

theorem chunk_read (pt : S32x128.Idx → BitVec 32) (P : S5120x64x128.Idx → Elt F .f32) (kn : S1x64x128.Idx → Elt F .f32) (r s k : ℕ)
    (hk : k + 4096 ≤ 16384) (o : Fin 3 → ℕ) (e : o = ![s, 0, k]) (h) :
    (ring.access (chunkRect o h)).read (Elt F) (slotBuf pt P kn r) = keyChunk pt P r k := by
  subst e
  funext y
  have h1 := chunk_emb ![s, 0, k] h y 1
  have h2 := chunk_emb ![s, 0, k] h y 2
  have hy : (y 2).val < 4096 := (y 2).isLt
  simp only [Matrix.cons_val] at h1 h2
  show slotBuf pt P kn r ((ring.access (chunkRect ![s, 0, k] h)).emb y) = _
  unfold slotBuf keyChunk
  rw [if_pos (by rw [h2]; omega), h2]
  congr 1
  exact Fin.ext (h1.trans (Nat.zero_add _))

theorem tail_read (pt : S32x128.Idx → BitVec 32) (P : S5120x64x128.Idx → Elt F .f32) (kn : S1x64x128.Idx → Elt F .f32) (r s : ℕ)
    (o : Fin 3 → ℕ) (e : o = ![s, 0, 16384]) (h) :
    (ring.access (tailRect o h)).read (Elt F) (slotBuf pt P kn r) = kn := by
  subst e
  funext y
  have h1 := tail_emb ![s, 0, 16384] h y 1
  have h2 := tail_emb ![s, 0, 16384] h y 2
  have hy : (y 2).val < 128 := (y 2).isLt
  have hy0 : (y 0).val < 1 := (y 0).isLt
  simp only [Matrix.cons_val] at h1 h2
  show slotBuf pt P kn r ((ring.access (tailRect ![s, 0, 16384] h)).emb y) = _
  unfold slotBuf
  rw [if_neg (by rw [h2]; omega)]
  congr 1
  funext a
  apply Fin.ext
  match a with
  | 0 => show 0 = (y 0).val; omega
  | 1 => exact h1.trans (Nat.zero_add _)
  | 2 => show (_ - 16384) % 128 = (y 2).val; rw [h2]; omega

/-- A slot's tail, written with the new keys. -/
theorem tail_written (pt : S32x128.Idx → BitVec 32) (P : S5120x64x128.Idx → Elt F .f32) (kn : S1x64x128.Idx → Elt F .f32) (r s : ℕ)
    (o : Fin 3 → ℕ) (e : o = ![s, 0, 16384]) (h : ∀ a, o a + S1x64x128.size a ≤ S2x64x16512.size a) (f : S2x64x16512.Idx → Elt F .f32) :
    ∀ x ∈ tailSet s, (ring.access (tailRect o h)).write (Elt F) f kn Finset.univ x = slotBuf pt P kn r x := by
  have hr := tail_read pt P kn r s o e h
  intro x hx
  rw [← tail_set s o e h, View.set, Finset.mem_map] at hx
  obtain ⟨y, -, rfl⟩ := hx
  rw [View.write_emb_of_mem _ _ (Finset.mem_univ _)]
  exact (congrFun hr y).symm

/-- A slot's pages hold the row's keys. -/
theorem row_slot (pt : S32x128.Idx → BitVec 32) (P : S5120x64x128.Idx → Elt F .f32) (kn : S1x64x128.Idx → Elt F .f32) (r s : ℕ) :
    ∀ x ∈ rowSet s, rowBuf pt P r x = slotBuf pt P kn r x := by
  intro x hx
  rw [rowSet, Finset.mem_filter] at hx
  unfold rowBuf slotBuf
  rw [if_pos hx.2.2]

end Cert.KernelIdeal.Idx

end
-- ==== Proof.IdxBody.lean ====
/-
  One grid point of the indexer kernel: the copies it starts, the wait for its own row's, and the four 4096-column
  chunks and the 128 new columns of scores it stores.
-/
module

public import proofs.«01_k».proof.Proof.IdxSlot
public import proofs.«01_k».proof.Proof.IdxChunk
public import Idealize.ShloMosaic.Lib.Ring
public import Idealize.ShloMosaic.Lib.VecWindow

@[expose] public section

noncomputable section

namespace Cert.KernelIdeal.Idx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (pt : S32x128.Idx → BitVec 32) (P : S5120x64x128.Idx → Elt F .f32)

/-- The slots before grid point `q` (at the end, `q = 32`). -/
def State (q : ℕ) : sProp 𝕄 :=
  if q = 0 ∨ q = 32 then iprop(Idle (F := F) c P 0 ∗ Idle (F := F) c P 1)
  else iprop(Flying c pt P (q % 2) q ∗ Idle (F := F) c P ((q + 1) % 2))

/-- The other slot once grid point `q` has started its copies. -/
def Next (q : ℕ) : sProp 𝕄 :=
  if q + 1 < 32 then Flying c pt P ((q + 1) % 2) (q + 1) else Idle (F := F) c P ((q + 1) % 2)

/-- A slot idle again and the other as grid point `q` leaves it are the state before the next. -/
theorem state_next (q : ℕ) (hq : q < 32) :
    iprop(Idle (F := F) c P (q % 2) ∗ Next c pt P q) ⊢ State c pt P (q + 1) := by
  unfold Next State
  rcases Nat.lt_or_ge (q + 1) 32 with h | h
  · rw [if_pos h, if_neg (by omega), show (q + 1 + 1) % 2 = q % 2 by omega]
    iintro ⟨Ha, Hb⟩
    isplitl [Hb]; · iexact Hb
    iexact Ha
  · rw [if_neg (by omega), if_pos (.inr (by omega)), show q = 31 by omega]
    iintro ⟨Ha, Hb⟩
    isplitl [Hb]; · iexact Hb
    iexact Ha

variable (a2 : Memref sig .tc .vmem S1x64x64 .bf16) (ha2 : a2.IsWhole) (a3 : Memref sig .tc .vmem S1x64x1 .f32) (ha3 : a3.IsWhole)
  (a4 : Memref sig .tc .vmem S1x64x128 .f32) (ha4 : a4.IsWhole) (a6 : Memref sig .tc .vmem S1x4x16512 .f32) (ha6 : a6.IsWhole)

/-- The first conditional: at grid point 0 row 0 is started; at any other the point before has started this one's. -/
theorem first (q : Fin grid0.N) (hpt : ∀ x, (pt x).toNat < 5120) {β : Type} {kk : Prog (TpuEff nD τ sig (Elt F) Λ₀ .tc) β} {Q : β → sProp 𝕄} :
    iprop(State c pt P q.val ∗ atTable (F := F) c pt)
      ⊢ iprop((iprop(Flying c pt P (q.val % 2) q.val ∗ Idle (F := F) c P ((q.val + 1) % 2) ∗ atTable (F := F) c pt)
          -∗ wp frame (wpE defs₀ Variants.none (c : Thread nD τ) none) Set.univ kk Q)
        -∗ wp frame (wpE defs₀ Variants.none (c : Thread nD τ) none) Set.univ
          (if h1 : k0_cond1 (grid0.coords q) = 1#1 then
            Scf.Loop.for k0_t1_loop (k0_t1_ok (grid0.coords q) h1) ⟨⟩ (k0_t1_body (F := F) (grid0.coords q) table (Memref.isWhole_whole _) a2 ha2 a3 ha3 a4 ha4 pool (Memref.isWhole_whole _) a6 ha6 ring (Memref.isWhole_whole _) cc0_scratch1 h1) >>= fun _ => kk
          else kk) Q) := by
  have hq : q.val < 32 := q.isLt
  unfold State
  by_cases h0 : q.val = 0
  · rw [dif_pos ((cond1_iff q).mpr h0), if_pos (.inl h0),
      show Flying c pt P (q.val % 2) q.val = Flying c pt P 0 0 by rw [h0],
      show Idle (F := F) c P ((q.val + 1) % 2) = Idle (F := F) c P 1 by rw [h0]]
    iintro ⟨⟨Ha, Hb⟩, HT⟩ Hk
    imod (start c pt P 0 0) $$ [Ha HT] with ⟨%f, HI, Ht, HK⟩
    · isplitl [Ha]; · iexact Ha
      iexact HT
    iapply (loop1 c pt P a2 ha2 a3 ha3 a4 ha4 a6 ha6 (grid0.coords q) ((cond1_iff q).mpr h0) hpt f) $$ HI
    iintro %acc HI
    ihave HF := (issued c pt P 0 0 f) $$ [HI Ht HK]
    · isplitl [HI]; · iexact HI
      isplitl [Ht]; · iexact Ht
      iexact HK
    icases HF with ⟨HF, HT⟩
    iapply Hk
    isplitl [HF]; · iexact HF
    isplitl [Hb]; · iexact Hb
    iexact HT
  · rw [dif_neg (fun h => h0 ((cond1_iff q).mp h)), if_neg (by omega)]
    iintro ⟨⟨Ha, Hb⟩, HT⟩ Hk
    iapply Hk
    isplitl [Ha]; · iexact Ha
    isplitl [Hb]; · iexact Hb
    iexact HT

/-- The second conditional: at every grid point but the last, the next row is started in the other slot. -/
theorem second (q : Fin grid0.N) (hpt : ∀ x, (pt x).toNat < 5120) {β : Type} {kk : Prog (TpuEff nD τ sig (Elt F) Λ₀ .tc) β} {Q : β → sProp 𝕄} :
    iprop(Idle (F := F) c P ((q.val + 1) % 2) ∗ atTable (F := F) c pt)
      ⊢ iprop((iprop(Next c pt P q.val ∗ atTable (F := F) c pt)
          -∗ wp frame (wpE defs₀ Variants.none (c : Thread nD τ) none) Set.univ kk Q)
        -∗ wp frame (wpE defs₀ Variants.none (c : Thread nD τ) none) Set.univ
          (if h1 : k0_cond2 (grid0.coords q) = 1#1 then
            Scf.Loop.for k0_t2_loop (k0_t2_ok (grid0.coords q) h1) ⟨⟩ (k0_t2_body (F := F) (grid0.coords q) table (Memref.isWhole_whole _) a2 ha2 a3 ha3 a4 ha4 pool (Memref.isWhole_whole _) a6 ha6 ring (Memref.isWhole_whole _) cc0_scratch1 h1) >>= fun _ => kk
          else kk) Q) := by
  unfold Next
  by_cases h0 : q.val + 1 < 32
  · rw [dif_pos ((cond2_iff q).mpr h0), if_pos h0]
    iintro ⟨Ha, HT⟩ Hk
    imod (start c pt P ((q.val + 1) % 2) (q.val + 1)) $$ [Ha HT] with ⟨%f, HI, Ht, HK⟩
    · isplitl [Ha]; · iexact Ha
      iexact HT
    iapply (loop2 c pt P a2 ha2 a3 ha3 a4 ha4 a6 ha6 q h0 ((cond2_iff q).mpr h0) hpt f) $$ HI
    iintro %acc HI
    ihave HF := (issued c pt P ((q.val + 1) % 2) (q.val + 1) f) $$ [HI Ht HK]
    · isplitl [HI]; · iexact HI
      isplitl [Ht]; · iexact Ht
      iexact HK
    icases HF with ⟨HF, HT⟩
    iapply Hk
    isplitl [HF]; · iexact HF
    iexact HT
  · rw [dif_neg (fun h => h0 ((cond2_iff q).mp h)), if_neg h0]
    iintro ⟨Ha, HT⟩ Hk
    iapply Hk
    isplitl [Ha]; · iexact Ha
    iexact HT

/-- The pages of a slot, as the wait names them. -/
abbrev rowView (o : Fin 3 → ℕ) (h : ∀ a, o a + S1x64x16384.size a ≤ S2x64x16512.size a) : Memref sig .tc .vmem S64x16384 .f32 :=
  (ring.slice (Rect.unit (s := S2x64x16512) o S1x64x16384.size h) (fun _ => rfl)).squeeze S64x16384 squeezes_S1x64x16384_S64x16384

/-- The wait for a slot's copies: all of them have arrived. -/
theorem wait (s r : ℕ) (sm : DmaSem sig) (hsm : sm = cell s) (o o' : Fin 3 → ℕ) (h h') {hsrc} {hdst} {W : Waits sig Unit}
    {β : Type} {k : PUnit → Prog (TpuEff nD τ sig (Elt F) Λ₀ .tc) β} {Q : β → sProp 𝕄} :
    iprop(batch c pt P s r 128 ∗ owes (c : Thread nD τ) 0 W)
      ⊢ iprop((iprop(bigSep Finset.univ (D c pt P s r) ∗ quiet (F := F) c s ∗ owes (c : Thread nD τ) 0 (insert (SemLoc.dma sm, ()) W))
          -∗ wp frame (wpE defs₀ Variants.none (c : Thread nD τ) none) Set.univ (k ⟨⟩) Q)
        -∗ wp frame (wpE defs₀ Variants.none (c : Thread nD τ) none) Set.univ
          (.op (.waitDma2 sm (rowView o' h') (rowView o h) hsrc hdst) k) Q) := by
  subst hsm
  exact Transfers.wp_waitBatchAll (countersEmb (U := Pipeline.UD sig nD τ)) Variants.none (c : Thread nD τ) none () (J := 1024 * 128) (by rfl) (by decide) (by decide)

/-- The copied pages and the new keys written beside them are the whole slot. -/
theorem joined (s r : ℕ) (kn : S1x64x128.Idx → Elt F .f32) (f : S2x64x16512.Idx → Elt F .f32) (o : Fin 3 → ℕ) (e : o = ![s, 0, 16384])
    (h : ∀ a, o a + S1x64x128.size a ≤ S2x64x16512.size a) :
    iprop(atRing (F := F) c (rowSet s) (rowBuf pt P r)
        ∗ atRing (F := F) c (tailSet s) ((ring.access (tailRect o h)).write (Elt F) f kn Finset.univ))
      ⊢ atRing (F := F) c (slotSet s) (slotBuf pt P kn r) := by
  have h1 : atRing (F := F) c (rowSet s) (rowBuf pt P r) = atRing (F := F) c (rowSet s) (slotBuf pt P kn r) :=
    pointsTo_congr (row_slot pt P kn r s)
  have h2 : atRing (F := F) c (tailSet s) ((ring.access (tailRect o h)).write (Elt F) f kn Finset.univ)
      = atRing (F := F) c (tailSet s) (slotBuf pt P kn r) :=
    pointsTo_congr (tail_written pt P kn r s o e h f)
  rw [h1, h2, slotSet_eq]
  exact (pointsTo_union (row_tail_disjoint s)).2

/-- A load of a chunk of a filled slot reads that chunk of the keys. -/
theorem load_chunk (s r k : ℕ) (hk : k + 4096 ≤ 16384) (kn : S1x64x128.Idx → Elt F .f32) (o : Fin 3 → ℕ) (e : o = ![s, 0, k]) (h) {hl}
    {β : Type} {kk : (S1x64x4096.Idx → Elt F .f32) → Prog (TpuEff nD τ sig (Elt F) Λ₀ .tc) β} {Q : β → sProp 𝕄} :
    atRing (F := F) c (slotSet s) (slotBuf pt P kn r)
      ⊢ iprop((atRing (F := F) c (slotSet s) (slotBuf pt P kn r)
          -∗ wp frame (wpE defs₀ Variants.none (c : Thread nD τ) none) Set.univ (kk (keyChunk pt P r k)) Q)
        -∗ wp frame (wpE defs₀ Variants.none (c : Thread nD τ) none) Set.univ
          (.op (.load ring (chunkRect o h).toLoadRect hl) kk) Q) := by
  iintro Hs Hk
  iapply (wp_load_rect Variants.none (c : Thread nD τ) none Set.univ (m := ring) (r := chunkRect o h) (S := slotSet s) (f := slotBuf pt P kn r)
    (chunk_subset s k o e h)) $$ Hs
  have hv := chunk_read pt P kn r s k hk o e h
  iintro Hs
  rw [hv]
  iapply Hk
  iexact Hs

/-- A load of the tail of a filled slot reads the new keys. -/
theorem load_tail (s r : ℕ) (kn : S1x64x128.Idx → Elt F .f32) (o : Fin 3 → ℕ) (e : o = ![s, 0, 16384]) (h) {hl}
    {β : Type} {kk : (S1x64x128.Idx → Elt F .f32) → Prog (TpuEff nD τ sig (Elt F) Λ₀ .tc) β} {Q : β → sProp 𝕄} :
    atRing (F := F) c (slotSet s) (slotBuf pt P kn r)
      ⊢ iprop((atRing (F := F) c (slotSet s) (slotBuf pt P kn r)
          -∗ wp frame (wpE defs₀ Variants.none (c : Thread nD τ) none) Set.univ (kk kn) Q)
        -∗ wp frame (wpE defs₀ Variants.none (c : Thread nD τ) none) Set.univ
          (.op (.load ring (tailRect o h).toLoadRect hl) kk) Q) := by
  iintro Hs Hk
  iapply (wp_load_rect Variants.none (c : Thread nD τ) none Set.univ (m := ring) (r := tailRect o h) (S := slotSet s) (f := slotBuf pt P kn r)
    (tail_subset s o e h)) $$ Hs
  have hv := tail_read pt P kn r s o e h
  iintro Hs
  rw [hv]
  iapply Hk
  iexact Hs

/-- The result block's first staging buffer, through which the block's contents are stated. -/
abbrev outView : View sig .tc .vmem S1x4x16512 .f32 := (Memref.whole cc0_stg3_0 : Memref sig .tc .vmem S1x4x16512 .f32).view

/-- The five stores a grid point makes into its result block, the last first: the 128 new columns, then the four chunks of
    scores, from the queries `d2`, the weights `d3`, the new keys `kn` and the keys of row `r`. -/
def pieces (r : ℕ) (d2 : S1x64x64.Idx → Elt F .bf16) (d3 : S1x64x1.Idx → Elt F .f32) (kn : S1x64x128.Idx → Elt F .f32) :
    List (View.Piece (Elt F) S1x4x16512 .f32) :=
  [⟨Rect.unit ![0, 0, 16384] S1x4x128.size inb_S1x4x16512_S1x4x128_0_0_16384, k0_pay1 (k0_pay14 (k0_pay3 d2) (k0_pay4 d3) kn)⟩,
    ⟨Rect.unit ![0, 0, 12288] S1x4x4096.size inb_S1x4x16512_S1x4x4096_0_0_12288,
      k0_pay13 (k0_pay11 (k0_pay3 d2) (k0_pay4 d3) (keyChunk pt P r 12288)) (iota .tc S8x4096 32 [0] iota_S8x4096_d0_w32)
        (iota .tc S8x4096 32 [1] iota_S8x4096_d1_w32) k0_pay12⟩,
    ⟨Rect.unit ![0, 0, 8192] S1x4x4096.size inb_S1x4x16512_S1x4x4096_0_0_8192,
      k0_pay10 (k0_pay8 (k0_pay3 d2) (k0_pay4 d3) (keyChunk pt P r 8192)) (k0_pay9 (k0_pay3 d2) (k0_pay4 d3) (keyChunk pt P r 8192))⟩,
    ⟨Rect.unit ![0, 0, 4096] S1x4x4096.size inb_S1x4x16512_S1x4x4096_0_0_4096,
      k0_pay7 (k0_pay4 d3) (k0_pay6 (k0_pay3 d2) (keyChunk pt P r 4096))⟩,
    ⟨Rect.unit ![0, 0, 0] S1x4x4096.size inb_S1x4x16512_S1x4x4096_0_0_0, k0_pay5 (k0_pay3 d2) d3 (keyChunk pt P r 0)⟩]

/-- They cover the block. -/
theorem pieces_cover (r : ℕ) (d2 d3) (kn : S1x64x128.Idx → Elt F .f32) (y : S1x4x16512.Idx) :
    ∃ p ∈ pieces pt P r d2 d3 kn, y ∈ p.1.set := by
  have h0 : (y 0).val < 1 := (y 0).isLt
  have h1 : (y 1).val < 4 := (y 1).isLt
  have h2 : (y 2).val < 16512 := (y 2).isLt
  have big : ∀ (k : ℕ) (i : ∀ a, (![0, 0, k] : Fin 3 → ℕ) a + S1x4x4096.size a ≤ S1x4x16512.size a), k ≤ (y 2).val → (y 2).val < k + 4096 →
      y ∈ (Rect.unit (s := S1x4x16512) ![0, 0, k] S1x4x4096.size i).set := fun k i e1 e2 =>
    Rect.mem_set_unit.mpr fun a => by
      fin_cases a
      · exact ⟨Nat.zero_le _, h0⟩
      · exact ⟨Nat.zero_le _, h1⟩
      · exact ⟨e1, e2⟩
  have small : 16384 ≤ (y 2).val →
      y ∈ (Rect.unit (s := S1x4x16512) ![0, 0, 16384] S1x4x128.size inb_S1x4x16512_S1x4x128_0_0_16384).set := fun e1 =>
    Rect.mem_set_unit.mpr fun a => by
      fin_cases a
      · exact ⟨Nat.zero_le _, h0⟩
      · exact ⟨Nat.zero_le _, h1⟩
      · exact ⟨e1, h2⟩
  unfold pieces
  rcases Nat.lt_or_ge (y 2).val 4096 with e | e
  · exact ⟨_, .tail _ (.tail _ (.tail _ (.tail _ (.head _)))), big 0 inb_S1x4x16512_S1x4x4096_0_0_0 (Nat.zero_le _) e⟩
  rcases Nat.lt_or_ge (y 2).val 8192 with e' | e'
  · exact ⟨_, .tail _ (.tail _ (.tail _ (.head _))), big 4096 inb_S1x4x16512_S1x4x4096_0_0_4096 e e'⟩
  rcases Nat.lt_or_ge (y 2).val 12288 with e'' | e''
  · exact ⟨_, .tail _ (.tail _ (.head _)), big 8192 inb_S1x4x16512_S1x4x4096_0_0_8192 e' e''⟩
  rcases Nat.lt_or_ge (y 2).val 16384 with e3 | e3
  · exact ⟨_, .tail _ (.head _), big 12288 inb_S1x4x16512_S1x4x4096_0_0_12288 e'' e3⟩
  exact ⟨_, .head _, small e3⟩

/-- The block a grid point leaves. -/
def outBlock (r : ℕ) (d2 : S1x64x64.Idx → Elt F .bf16) (d3 : S1x64x1.Idx → Elt F .f32) (d4 : S1x64x128.Idx → Elt F .f32) :
    S1x4x16512.Idx → Elt F .f32 :=
  outView.read (Elt F) (outView.writes (Elt F) outView.junk (pieces pt P r d2 d3 (k0_pay2 d4)))

/-- One grid point, from the slots before it to the slots before the next, the block of scores left in its buffer. -/
theorem body (q : Fin grid0.N) (hpt : ∀ x, (pt x).toNat < 5120)
    (d2 : S1x64x64.Idx → Elt F .bf16) (d3 : S1x64x1.Idx → Elt F .f32) (d4 : S1x64x128.Idx → Elt F .f32) (W) {Q : PUnit → sProp 𝕄} :
    iprop(State c pt P q.val ∗ atTable (F := F) c pt ∗ owns (c : Thread nD τ) a2 fullShare d2 ∗ owns (c : Thread nD τ) a3 fullShare d3
        ∗ owns (c : Thread nD τ) a4 fullShare d4 ∗ (∃ d, owns (c : Thread nD τ) a6 fullShare d) ∗ owes (c : Thread nD τ) 0 W
        ∗ (iprop(State c pt P (q.val + 1) ∗ atTable (F := F) c pt ∗ owns (c : Thread nD τ) a2 fullShare d2 ∗ owns (c : Thread nD τ) a3 fullShare d3
        ∗ owns (c : Thread nD τ) a4 fullShare d4 ∗ owns (c : Thread nD τ) a6 fullShare (outBlock pt P q.val d2 d3 d4) ∗ (∃ W', owes (c : Thread nD τ) 0 W')) -∗ Q ⟨⟩))
      ⊢ wp frame (wpE defs₀ Variants.none (c : Thread nD τ) none) Set.univ
          (cc0_idx_scores_sample (F := F) (grid0.coords q) table (Memref.isWhole_whole _) a2 ha2 a3 ha3 a4 ha4 pool (Memref.isWhole_whole _) a6 ha6 ring (Memref.isWhole_whole _) cc0_scratch1) Q := by
  rw [cc0_idx_scores_sample_eq_skeleton]
  unfold cc0_idx_scores_sample_skel
  rw [k0_part1_eq_skeleton, k0_part2_eq_skeleton, k0_part3_eq_skeleton, k0_part4_eq_skeleton, k0_part5_eq_skeleton]
  unfold owns
  iintro ⟨HS, HT, ⟨%f2, %e2, H2⟩, ⟨%f3, %e3, H3⟩, ⟨%f4, %e4, H4⟩, ⟨%d6, %f6, %e6, H6⟩, HW, HQ⟩
  rw [wp_bind]
  unfold k0_part1_skel
  iapply (first c pt P a2 ha2 a3 ha3 a4 ha4 a6 ha6 q hpt) $$ [HS HT]
  · isplitl [HS]; · iexact HS
    iexact HT
  iintro ⟨HF, HI, HT⟩
  iapply (second c pt P a2 ha2 a3 ha3 a4 ha4 a6 ha6 q hpt) $$ [HI HT]
  · isplitl [HI]; · iexact HI
    iexact HT
  iintro ⟨HN, HT⟩
  sl_exec
  unfold Flying
  icases HF with ⟨⟨%g, Hg⟩, HB, HK⟩
  iapply (wp_load_rect Variants.none (c : Thread nD τ) none Set.univ (m := ring) (r := tailRect _ (k0_off8_inb (grid0.coords q))) (S := tailSet (q.val % 2)) (f := g)
    (tail_set _ _ (off8_eq q) _).subset) $$ Hg
  iintro Hg
  iapply (wp_store Variants.none (c : Thread nD τ) none Set.univ (m := ring) (r := tailRect _ (k0_off8_inb (grid0.coords q))) (S := tailSet (q.val % 2)) (f := g)
    (tail_set _ _ (off8_eq q) _).subset) $$ Hg
  iintro Hg
  simp only [ret_bind']
  iapply (wait c pt P (q.val % 2) q.val _ (cell_of _ (Nat.mod_lt _ (by decide)) _ (off9_eq q) _) _ _ _ _) $$ [HB HW]
  · isplitl [HB]; · iexact HB
    iexact HW
  iintro ⟨HD, Hq, HW⟩
  simp only [ret_bind']
  ihave HA := (arrived c pt P (q.val % 2) q.val) $$ [HD HK]
  · isplitl [HD]; · iexact HD
    iexact HK
  icases HA with ⟨HR, HP⟩
  ihave Hs := (joined c pt P (q.val % 2) q.val _ _ _ (off8_eq q) _) $$ [HR Hg]
  · isplitl [HR]; · iexact HR
    iexact Hg
  sl_exec
  iapply (load_chunk c pt P (q.val % 2) q.val 0 (by decide) _ _ (off11_eq q) _) $$ Hs
  iintro Hs
  sl_exec
  iapply (load_chunk c pt P (q.val % 2) q.val 4096 (by decide) _ _ (off12_eq q) _) $$ Hs
  iintro Hs
  sl_exec
  iapply (load_chunk c pt P (q.val % 2) q.val 8192 (by decide) _ _ (off13_eq q) _) $$ Hs
  iintro Hs
  sl_exec
  iapply (load_chunk c pt P (q.val % 2) q.val 12288 (by decide) _ _ (off14_eq q) _) $$ Hs
  iintro Hs
  sl_exec
  iapply (load_tail c pt P (q.val % 2) q.val _ _ (off8_eq q) _) $$ Hs
  iintro Hs
  sl_exec
  rw [wp_ret]
  imodintro
  have r2 := View.readAt_full a2.view f2 inb_S1x64x64_S1x64x64_0_0_0
  have r3 := View.readAt_full a3.view f3 inb_S1x64x1_S1x64x1_0_0_0
  have r4 := View.readAt_full a4.view f4 inb_S1x64x128_S1x64x128_0_0_0
  iapply HQ
  isplitl [Hs Hq HP HN]
  · iapply (state_next c pt P q.val q.isLt)
    isplitr [HN]
    · unfold Idle
      isplitl [Hs]
      · iexists _
        iexact Hs
      isplitl [Hq]; · iexact Hq
      iexact HP
    · iexact HN
  isplitl [HT]; · iexact HT
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H6]
  · iexists _; isplitr; swap; · iexact H6
    ipureintro
    have hp := View.read_writes_of_cover a6.view f6 outView outView.junk _ (pieces_cover pt P q.val d2 d3 (k0_pay2 d4))
    unfold outBlock
    rw [← hp]
    subst e2 e3 e4
    rw [← r2, ← r3, ← r4]
    rfl
  iexists _
  iexact HW

end Cert.KernelIdeal.Idx

end
-- ==== Proof.IdxLaunch.lean ====
/-
  The launch of the indexer kernel: what the region finds, the invariant between grid points, and the run of the whole
  program from any memory whose page table names pages of the pool.
-/
module

public import proofs.«01_k».proof.Proof.IdxBody
public import proofs.«01_k».proof.Proof.Gen.KernelIdeal.Launch
public import Idealize.ShloMosaic.Lib.Pipeline.FrameBody
public import Idealize.ShloMosaic.Lib.Claim

@[expose] public section

set_option maxRecDepth 16384

noncomputable section

namespace Cert.KernelIdeal.Idx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- The host operations before the region, stretch by stretch. -/
abbrev stretches : List (List (HloOp τ sig (Elt F))) :=
  [hostOps0, hostOps0_1, hostOps0_2, hostOps0_3, hostOps0_4, hostOps0_5, hostOps0_6]

/-- What the region finds in each buffer. -/
abbrev V (c : Dev nD) (b : Ref sig .tc) : Buf (Elt F) ((c : Thread nD τ).loc b) :=
  StableHlo.after stretches.flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

theorem up_to_region (𝒱₀ : Variants) :
    Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main stretches stretches_sub stretches_fresh fun c => (main_chain c).trans rfl

/-- A buffer no host operation writes is found as launched. -/
theorem kept (b : Ref sig .tc) (hb : (stretches (F := F)).flatten.Forall fun op => Proc.devRef .tc b ∉ op.writes) (c : Dev nD) :
    V m c b = m ((c : Thread nD τ).loc b) :=
  StableHlo.after_of_forall_not_mem (b := Proc.devRef .tc b) _ _ (List.forall_iff_forall_mem.mp hb)

theorem kept_arg0 (c : Dev nD) : V m c main_arg0 = m ((c : Thread nD τ).loc main_arg0) := kept m main_arg0 (by
  simp only [stretches, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by decide)) c
theorem kept_arg1 (c : Dev nD) : V m c main_arg1 = m ((c : Thread nD τ).loc main_arg1) := kept m main_arg1 (by
  simp only [stretches, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by decide)) c
theorem kept_arg2 (c : Dev nD) : V m c main_arg2 = m ((c : Thread nD τ).loc main_arg2) := kept m main_arg2 (by
  simp only [stretches, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by decide)) c
theorem kept_arg3 (c : Dev nD) : V m c main_arg3 = m ((c : Thread nD τ).loc main_arg3) := kept m main_arg3 (by
  simp only [stretches, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by decide)) c
theorem kept_arg4 (c : Dev nD) : V m c main_arg4 = m ((c : Thread nD τ).loc main_arg4) := kept m main_arg4 (by
  simp only [stretches, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.reshape_writes, Finset.mem_singleton]
  repeat' apply And.intro
  all_goals exact StableHlo.devRef_ne_of_ne (by decide)) c

/-! ## The proof data -/

/-- The page table's contents, as the region reads them. -/
def tables (p : Fin 1) : (pcfgs (F := F) p).Adm := ⟨fun k => V m 0 (pre0.ref k), trivial⟩

/-- The call, at those contents. -/
abbrev cfg : Cfg sig Λ₀ := cfg0 (tables (F := F) m 0)

/-- Window `w`'s block at point `t`, of its array as the region finds it. -/
def blockAt (c : Dev nD) (w : Fin (cfg m).W) (t : Fin (cfg m).N) : (((cfg m).win w).xblock ((cfg m).grid.coords t)).Idx → Elt F ((cfg m).win w).elt :=
  (((cfg m).win w).blk t).view.read (Elt F) (V m c (Pipeline.arrRef spec0 w))

/-- The scores a point leaves in the result's buffer. -/
def scoresAt (c : Dev nD) (t : Fin (cfg m).N) : S1x4x16512.Idx → Elt F .f32 :=
  outBlock (V m c main_arg0) (V m c main_v13) t.val (blockAt m c 0 t) (blockAt m c 1 t) (blockAt m c 2 t)

/-- Between grid points: the ring's two slots, the generator register, the page table. -/
def Between (c : Dev nD) (q : ℕ) : sProp 𝕄 :=
  iprop(State c (V m c main_arg0) (V m c main_v13) q ∗ (∃ r, prngReg c r) ∗ atTable c (V m c main_arg0))

/-- The proof data of the call. -/
def dats (p : Fin 1) (c : Dev nD) : Dat τ (Elt F) Unit ℕ (Pipeline.UD sig nD τ) ℕ (Pipeline.pin pcfgs (tables (F := F) m) p) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => scoresAt m c t
  Φ t := Between m c t.val
  q _ := fullShare
  owed _ := 0

theorem A_eq (c : Dev nD) (w : Fin (cfg m).W) : (dats m 0 c).A w = V m c (Pipeline.arrRef spec0 w) := by dsimp only [dats]
theorem after_0 (c : Dev nD) (t : Fin (cfg m).N) : (dats m 0 c).after (0 : Fin 4) t = blockAt m c 0 t := by dsimp only [dats]
theorem after_1 (c : Dev nD) (t : Fin (cfg m).N) : (dats m 0 c).after (1 : Fin 4) t = blockAt m c 1 t := by dsimp only [dats]
theorem after_2 (c : Dev nD) (t : Fin (cfg m).N) : (dats m 0 c).after (2 : Fin 4) t = blockAt m c 2 t := by dsimp only [dats]
theorem after_3 (c : Dev nD) (t : Fin (cfg m).N) : (dats m 0 c).after (3 : Fin 4) t = scoresAt m c t := by dsimp only [dats]

theorem before_0 (c : Dev nD) (t : Fin (cfg m).N) (d) : (dats m 0 c).before (0 : Fin 4) t d = blockAt m c 0 t :=
  ((dats m 0 c).before_in_eq_fetched (0 : Fin 4) rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin (cfg m).N) (d) : (dats m 0 c).before (1 : Fin 4) t d = blockAt m c 1 t :=
  ((dats m 0 c).before_in_eq_fetched (1 : Fin 4) rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin (cfg m).N) (d) : (dats m 0 c).before (2 : Fin 4) t d = blockAt m c 2 t :=
  ((dats m 0 c).before_in_eq_fetched (2 : Fin 4) rfl (fun _ => rfl) (fun _ _ _ => rfl) (fun t => by rw [after_2]; unfold Dat.blockOf blockAt; rw [A_eq]; try rfl) t d).trans
    (by unfold Dat.fetched Dat.blockOf blockAt; rw [A_eq]; try rfl)

/-! ## A grid point -/

/-- The kernel's body at point `t`, on the buffers the pipeline hands it. -/
def pointBody (t : Fin (cfg m).N) : Prog (TpuEff nD τ sig (Elt F) Λ₀ .tc) PUnit :=
  cc0_idx_scores_sample (F := F) (grid0.coords t) table (Memref.isWhole_whole _)
    (spec0_0.stage ((cfg m).slots t (0 : Fin 4))) (hstage0_0 (((cfg m).slots t (0 : Fin 4)).cast nbuf0_0))
    (spec0_1.stage ((cfg m).slots t (1 : Fin 4))) (hstage0_1 (((cfg m).slots t (1 : Fin 4)).cast nbuf0_1))
    (spec0_2.stage ((cfg m).slots t (2 : Fin 4))) (hstage0_2 (((cfg m).slots t (2 : Fin 4)).cast nbuf0_2))
    pool (Memref.isWhole_whole _)
    (spec0_3.stage ((cfg m).slots t (3 : Fin 4))) (hstage0_3 (((cfg m).slots t (3 : Fin 4)).cast nbuf0_3))
    ring (Memref.isWhole_whole _) cc0_scratch1

theorem row_eq (t : Fin (cfg m).N) : defs₀ (F := F) .tc (cfg m).body ((cfg m).bodyArgs t ((cfg m).slots t)) = pointBody m t := by
  unfold defs₀; rw [Defs.onTc_tc]; rfl

def pointPre (c : Dev nD) (t : Fin (cfg m).N) : sProp 𝕄 :=
  iprop((dats m 0 c).Φ t.castSucc ∗ (dats m 0 c).owesAt () t.castSucc
    ∗ (∃ d, owns (c : Thread nD τ) (spec0_0.stage ((cfg m).slots t (0 : Fin 4))) fullShare ((dats m 0 c).before (0 : Fin 4) t d))
    ∗ (∃ d, owns (c : Thread nD τ) (spec0_1.stage ((cfg m).slots t (1 : Fin 4))) fullShare ((dats m 0 c).before (1 : Fin 4) t d))
    ∗ (∃ d, owns (c : Thread nD τ) (spec0_2.stage ((cfg m).slots t (2 : Fin 4))) fullShare ((dats m 0 c).before (2 : Fin 4) t d))
    ∗ (∃ d, owns (c : Thread nD τ) (spec0_3.stage ((cfg m).slots t (3 : Fin 4))) fullShare ((dats m 0 c).before (3 : Fin 4) t d)))

def pointPost (c : Dev nD) (t : Fin (cfg m).N) : sProp 𝕄 :=
  iprop((dats m 0 c).Φ t.succ ∗ (dats m 0 c).owesAt () t.succ
    ∗ owns (c : Thread nD τ) (spec0_0.stage ((cfg m).slots t (0 : Fin 4))) fullShare ((dats m 0 c).after (0 : Fin 4) t)
    ∗ owns (c : Thread nD τ) (spec0_1.stage ((cfg m).slots t (1 : Fin 4))) fullShare ((dats m 0 c).after (1 : Fin 4) t)
    ∗ owns (c : Thread nD τ) (spec0_2.stage ((cfg m).slots t (2 : Fin 4))) fullShare ((dats m 0 c).after (2 : Fin 4) t)
    ∗ owns (c : Thread nD τ) (spec0_3.stage ((cfg m).slots t (3 : Fin 4))) fullShare ((dats m 0 c).after (3 : Fin 4) t))

theorem point (c : Dev nD) (hpt : ∀ x, ((V m c main_arg0 : S32x128.Idx → BitVec 32) x).toNat < 5120) (t : Fin (cfg m).N) :
    pointPre m c t ⊢ wp frame (wpE (defs₀ (F := F)) Variants.none c none) Set.univ (pointBody m t) (fun _ => pointPost m c t) := by
  unfold pointPre pointPost pointBody
  rw [after_0, after_1, after_2, after_3]
  simp only [before_0, before_1, before_2]
  rw [show (dats m 0 c).Φ t.succ = Between m c (t.val + 1) from rfl, show (dats m 0 c).Φ t.castSucc = Between m c t.val from rfl]
  unfold Between
  unfold Dat.owesAt Pipeline.owesWithin
  rw [show (dats m 0 c).owed t.castSucc = 0 from rfl, show (dats m 0 c).owed t.succ = 0 from rfl]
  iintro ⟨⟨HS, Hg, HT⟩, ⟨%W, -, HW⟩, ⟨%d0, H0⟩, ⟨%d1, H1⟩, ⟨%d2, H2⟩, ⟨%d3, H3⟩⟩
  iapply (body c (V m c main_arg0) (V m c main_v13) _ (hstage0_0 (((cfg m).slots t (0 : Fin 4)).cast nbuf0_0))
    _ (hstage0_1 (((cfg m).slots t (1 : Fin 4)).cast nbuf0_1)) _ (hstage0_2 (((cfg m).slots t (2 : Fin 4)).cast nbuf0_2))
    _ (hstage0_3 (((cfg m).slots t (3 : Fin 4)).cast nbuf0_3)) t hpt (blockAt m c 0 t) (blockAt m c 1 t) (blockAt m c 2 t) W)
  isplitl [HS]; · iexact HS
  isplitl [HT]; · iexact HT
  isplitl [H0]; · iexact H0
  isplitl [H1]; · iexact H1
  isplitl [H2]; · iexact H2
  isplitl [H3]; · iexists _; iexact H3
  isplitl [HW]; · iexact HW
  iintro ⟨HS, HT, H0, H1, H2, H3, ⟨%W', HW'⟩⟩
  isplitl [HS HT Hg]
  · isplitl [HS]; · iexact HS
    isplitl [Hg]; · iexact Hg
    iexact HT
  isplitl [HW']
  · iexists W'; isplitr; · ipureintro; exact fun _ _ => Or.inl trivial
    iexact HW'
  isplitl [H0]; · iexact H0
  isplitl [H1]; · iexact H1
  isplitl [H2]; · iexact H2
  iexact H3

theorem obligation (c : Dev nD) (hpt : ∀ x, ((V m c main_arg0 : S32x128.Idx → BitVec 32) x).toNat < 5120) :
    BodyObligation (dats (F := F) m 0 c) (defs₀ (F := F)) Variants.none () Set.univ := fun t => by
  rw [show ∀ Φ : Fin 4 → sProp 𝕄, bigSep Finset.univ Φ = _ from bigSep_W0, show ∀ Φ : Fin 4 → sProp 𝕄, bigSep Finset.univ Φ = _ from bigSep_W0, row_eq]
  exact triple_restated (point m c hpt t) rfl .rfl fun _ => .rfl

/-! ## Into the first point and out of the last -/

/-- The copies' two cells. -/
abbrev ownCells : Fin 2 → SemLoc sig := fun j => (![SemLoc.dma 8, SemLoc.dma 9] : Fin 2 → SemLoc sig) j

theorem ownCells_facts : Pipeline.OwnSemFacts spec0 ownCells := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(quiet (F := F) c 0 ∗ quiet (F := F) c 1) := by
  rw [Pipeline.ownSems0_eq_of_list c ownCells [0, 1] (by decide) (by decide)]; rfl

/-- The pool is the one buffer the kernel addresses itself. -/
def addressed : Finset (Ref sig .tc) := {main_v13}

theorem addressed_sub : addressed ⊆ Pipeline.restRefsP sig pre0 spec0 := by decide

theorem addressed_eq (c : Dev nD) :
    (bigSep addressed (fun b => ((c : Thread nD τ).loc b) ↦{fullShare} V m c b) : sProp 𝕄)
      = atPool (F := F) c Finset.univ fullShare (V m c main_v13) := by
  rw [BI.bigSep_eq_bigSepL_of_eq [main_v13] (by decide) (by decide)]; rfl

theorem table_eq (c : Dev nD) :
    (Pipeline.ΦT pre0 (tables (F := F) m 0).1 c : sProp 𝕄) = atTable (F := F) c (V m 0 main_arg0) := by
  unfold Pipeline.ΦT Pipeline.prefHeld
  rw [BI.bigSep_univ_eq_bigSepL [(0 : Fin 1)] (by decide) (by decide)]
  rfl

theorem pool_halves (c : Dev nD) (P : S5120x64x128.Idx → Elt F .f32) :
    atPool (F := F) c Finset.univ fullShare P
      ⊣⊢ iprop(atPool (F := F) c Finset.univ (half 0) P ∗ atPool (F := F) c Finset.univ (half 1) P) :=
  pointsTo_share (PosShare.mem_left_op_right fullShare)

theorem into (c : Dev nD) :
    iprop(Pipeline.ΦD ownCells spec0 addressed (V m) c ∗ Pipeline.ΦT pre0 (tables (F := F) m 0).1 c) ⊢ Between m c 0 := by
  obtain rfl : c = 0 := Subsingleton.elim _ _
  rw [Pipeline.ΦD_eq, scopedRest0_eq, ownCells_eq, addressed_eq, table_eq]
  unfold Between State Idle
  rw [if_pos (.inl rfl)]
  iintro ⟨⟨⟨%f, Hr⟩, Hg, ⟨Hq0, Hq1⟩, HP⟩, HT⟩
  ihave HP' := (pool_halves (0 : Dev nD) (V m 0 main_v13)).1 $$ HP
  icases HP' with ⟨HP0, HP1⟩
  ihave Hr' := (show (((0 : Dev nD) : Thread nD τ).loc cc0_scratch0 ↦{fullShare} f : sProp 𝕄)
      ⊢ iprop(atRing (F := F) 0 (slotSet 0) f ∗ atRing (F := F) 0 (slotSet 1) f) from by
    refine BIBase.Entails.trans (Entails.of_eq ?_) (pointsTo_union slots_disjoint).1
    rw [slots_univ]) $$ Hr
  icases Hr' with ⟨Hr0, Hr1⟩
  isplitl [Hr0 Hr1 Hq0 Hq1 HP0 HP1]
  · isplitl [Hr0 Hq0 HP0]
    · isplitl [Hr0]
      · iexists f; iexact Hr0
      isplitl [Hq0]; · iexact Hq0
      iexact HP0
    · isplitl [Hr1]
      · iexists f; iexact Hr1
      isplitl [Hq1]; · iexact Hq1
      iexact HP1
  isplitl [Hg]; · iexact Hg
  iexact HT

theorem outof (c : Dev nD) : Between m c 32 ⊢ Pipeline.ΦD ownCells spec0 addressed (V m) c := by
  rw [Pipeline.ΦD_eq, scopedRest0_eq, ownCells_eq, addressed_eq]
  unfold Between State Idle
  rw [if_pos (.inr rfl)]
  iintro ⟨⟨⟨⟨%f, Hr0⟩, Hq0, HP0⟩, ⟨⟨%g, Hr1⟩, Hq1, HP1⟩⟩, Hg, -⟩
  ihave HP := (pool_halves c (V m c main_v13)).2 $$ [HP0 HP1]
  · isplitl [HP0]; · iexact HP0
    iexact HP1
  ihave Hr := (show iprop(atRing (F := F) c (slotSet 0) f ∗ atRing (F := F) c (slotSet 1) g)
      ⊢ iprop(∃ f : Buf (Elt F) ((c : Thread nD τ).loc cc0_scratch0), ((c : Thread nD τ).loc cc0_scratch0) ↦{fullShare} f) from by
    refine (pointsTo_join slots_disjoint).trans ?_
    rw [slots_univ]
    iintro H
    iexists _
    iexact H) $$ [Hr0 Hr1]
  · isplitl [Hr0]; · iexact Hr0
    iexact Hr1
  isplitl [Hr]; · iexact Hr
  isplitl [Hg]; · iexact Hg
  isplitl [Hq0 Hq1]
  · isplitl [Hq0]; · iexact Hq0
    iexact Hq1
  iexact HP

/-! ## The run -/

set_option backward.isDefEq.respectTransparency.types false in
/-- From any memory whose table names pages of the pool, the program ends with every array at what the proof data say and
    every counter at zero. -/
theorem run_main (hpt : ∀ c x, ((V m c main_arg0 : S32x128.Idx → BitVec 32) x).toNat < 5120) :
    θ_run defs (onTc (τ := τ) (main (F := F))) (s₀ m ρ)
      (fun r => Pipeline.FramePost (Pipeline.pin pcfgs (tables (F := F) m)) (dats m) 0 (V m) r ∧ r.2.sem = fun _ => 0) :=
  Pipeline.θ_run_frameP_dma (Q' := _) pcfgs (tables m) (dats m) (0 : Fin 1) launch0 ownCells defs₀ Variants.none ownCells_facts
    addressed addressed_sub m ρ main (hbody := fun c => (obligation m c (hpt c)).loose) (hshare := fun c => (dats m 0 c).share_full fun _ => rfl)
    (howed := fun _ _ => rfl) (V := V m) (hmain := up_to_region m Variants.none) (hA := A_eq m)
    (hpf := fun c k => by obtain rfl : c = 0 := Subsingleton.elim _ _; rfl) (hin := into m) (hout := outof m)

/-- The arguments end unchanged, the counters at zero. -/
theorem unchanged (hpt : ∀ c x, ((V m c main_arg0 : S32x128.Idx → BitVec 32) x).toNat < 5120) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (show main_arg0 ∈ Pipeline.restRefs sig spec0 from Pipeline.mem_restRefs_of main_arg0 (by decide) (by decide))).trans (kept_arg0 m c),
      ((h.1 c).2 main_arg1 (show main_arg1 ∈ Pipeline.restRefs sig spec0 from Pipeline.mem_restRefs_of main_arg1 (by decide) (by decide))).trans (kept_arg1 m c),
      ((h.1 c).2 main_arg2 (show main_arg2 ∈ Pipeline.restRefs sig spec0 from Pipeline.mem_restRefs_of main_arg2 (by decide) (by decide))).trans (kept_arg2 m c),
      ((h.1 c).2 main_arg3 (show main_arg3 ∈ Pipeline.restRefs sig spec0 from Pipeline.mem_restRefs_of main_arg3 (by decide) (by decide))).trans (kept_arg3 m c),
      ((h.1 c).2 main_arg4 (show main_arg4 ∈ Pipeline.restRefs sig spec0 from Pipeline.mem_restRefs_of main_arg4 (by decide) (by decide))).trans (kept_arg4 m c)⟩, h.2⟩) (run_main m ρ hpt)

end Cert.KernelIdeal.Idx

end
-- ==== Proof.IdxPre.lean ====
/-
  The precondition, read: every word of the page table names a page of the pool.
-/
module

public import proofs.«01_k».proof.Defs
public import Idealize.ShloMosaic.Lib.StableHlo

@[expose] public section

noncomputable section

namespace Cert.KernelIdeal.Idx

open Idealize.ShloMosaic

variable {F : FTy → Type} [FloatOps F]

/-- A table of which the precondition holds names pages below 5120. -/
theorem page_lt [Cert.Pre_pages_in_pool.Facts] (pt : Cert.Pre_pages_in_pool.S32x128.Idx → BitVec 32) (a1 a2 a3 a4)
    (h : Cert.Pre_pages_in_pool.fn (F := F) pt a1 a2 a3 a4 = fun _ => 1#1) (x : Cert.Pre_pages_in_pool.S32x128.Idx) : (pt x).toNat < 5120 := by
  have and_bits (p q : Bool) : IntOp.andi (BitVec.ofBool p) (BitVec.ofBool q) = BitVec.ofBool (p && q) := by
    cases p <;> cases q <;> decide
  have bit_one (p : Bool) : (BitVec.ofBool p = 1#1) ↔ p = true := by cases p <;> decide
  have e := congrFun h x
  simp only [Pre_pages_in_pool.fn, andi, cmpi, broadcastInDim, constantI, IntOp.cmpi, and_bits, bit_one,
    Bool.and_eq_true] at e
  obtain ⟨e1, e2⟩ := e
  simp only [BitVec.sle, BitVec.slt, decide_eq_true_eq, BitVec.toInt, BitVec.toNat_ofNat] at e1 e2
  have := (pt x).isLt
  omega

end Cert.KernelIdeal.Idx

end
-- ==== Proof.SwigluRow.lean ====
/-
  One token through a SwiGLU block: its features are divided by their root mean square and scaled by the gain, projected
  twice, gated, projected back, halved and added to the token.
-/
module

public import Idealize.ShloMosaic.Lib.Pointwise

@[expose] public section

noncomputable section

namespace Cert.Swiglu

open Idealize.ShloMosaic

/-- A token over its root mean square (the mean of 1024 squares, with the added epsilon), times the gain. -/
def unitRow (x g : Fin 1024 → EReal) (k : Fin 1024) : EReal :=
  x k * Ideal.rsqrt (Ideal.div (∑ l, x l * x l) (Ideal.ofBits FTy.f32 1149239296#32) + Ideal.ofBits FTy.f32 897988541#32) * g k

/-- A projection of the token to the hidden features. -/
def hidden (x g : Fin 1024 → EReal) (w : Fin 1024 → Fin 2816 → EReal) (f : Fin 2816) : EReal :=
  ∑ k, unitRow x g k * w k f

/-- The token after the block. -/
def block (x g : Fin 1024 → EReal) (wg wu : Fin 1024 → Fin 2816 → EReal) (wd : Fin 2816 → Fin 1024 → EReal) (j : Fin 1024) : EReal :=
  x j + Ideal.ofBits FTy.f32 1056964608#32 *
    ∑ f, hidden x g wg f * Ideal.logistic (hidden x g wg f) * hidden x g wu f * wd f j

/-- The token with its mixed features added: a row of the convolution's and of the attention's output side by side,
    projected. -/
def mixed (x : Fin 1024 → EReal) (yc at' : Fin 512 → EReal) (wo : Fin 1024 → Fin 1024 → EReal) (j : Fin 1024) : EReal :=
  x j + ∑ k : Fin 1024, (if h : k.val < 512 then yc ⟨k.val, h⟩ else at' ⟨k.val - 512, by omega⟩) * wo k j

end Cert.Swiglu
-- ==== Proof.SwigluReference.lean ====
/-
  The reference of a SwiGLU block over all the tokens, written with the host's array operations, read at a token.
-/
module

public import proofs.«01_k».proof.Defs
public import proofs.«01_k».proof.Proof.Gen.FfnReferenceIdeal
public import proofs.«01_k».proof.Proof.SwigluRow

@[expose] public section

set_option maxRecDepth 16384

noncomputable section

namespace Cert.Swiglu

open Cert.FfnReferenceIdeal Cert.FfnReferenceIdeal.Gen
open Idealize.ShloMosaic

/-- The tokens, each divided by its root mean square, times the gain. -/
def tokensNormed (x : FVec Ideal S32768x1024 .f32) (g : FVec Ideal S1024 .f32) : FVec Ideal S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The tokens projected to the hidden features. -/
def tokensHidden (h : FVec Ideal S32768x1024 .f32) (w : FVec Ideal S1024x2816 .f32) : FVec Ideal S32768x2816 .f32 :=
  Host.dotGeneral dot_S32768x1024_S1024x2816_S32768x2816_1_0_0_1_n_n none h w

/-- Gate times its logistic, times the other projection. -/
def tokensGated (a b : FVec Ideal S32768x2816 .f32) : FVec Ideal S32768x2816 .f32 :=
  mulf (mulf a (Host.divf (broadcastInDim S32768x2816 ![] bcast_S_S32768x2816 (constant S_ .f32 0x3F800000#32))
    (addf (broadcastInDim S32768x2816 ![] bcast_S_S32768x2816 (constant S_ .f32 0x3F800000#32)) (Host.exp (Host.negf a))))) b

/-- Half of the gated features projected back, added to the tokens. -/
def tokensOut (x : FVec Ideal S32768x1024 .f32) (a : FVec Ideal S32768x2816 .f32) (w : FVec Ideal S2816x1024 .f32) :
    FVec Ideal S32768x1024 .f32 :=
  addf x (mulf (broadcastInDim S32768x1024 ![] bcast_S_S32768x1024 (constant S_ .f32 0x3F000000#32))
    (Host.dotGeneral dot_S32768x2816_S2816x1024_S32768x1024_1_0_0_1_n_n none a w))

/-- The block over all the tokens. -/
def tokens (x : FVec Ideal S32768x1024 .f32) (g : FVec Ideal S1024 .f32) (wg wu : FVec Ideal S1024x2816 .f32)
    (wd : FVec Ideal S2816x1024 .f32) : FVec Ideal S32768x1024 .f32 :=
  tokensOut x (tokensGated (tokensHidden (tokensNormed x g) wg) (tokensHidden (tokensNormed x g) wu)) wd

theorem tokensNormed_apply (x : FVec Ideal S32768x1024 .f32) (g : FVec Ideal S1024 .f32) (r : Fin 32768) (k : Fin 1024) :
    tokensNormed x g (ix2 r k) = unitRow (fun l => x (ix2 r l)) (fun l => g (ix1 l)) k := by
  pointwise [tokensNormed, unitRow]

theorem tokensHidden_apply (h : FVec Ideal S32768x1024 .f32) (w : FVec Ideal S1024x2816 .f32) (r : Fin 32768) (f : Fin 2816) :
    tokensHidden h w (ix2 r f) = ∑ k, h (ix2 r k) * w (ix2 k f) := by
  pointwise [tokensHidden]

theorem tokensGated_apply (a b : FVec Ideal S32768x2816 .f32) (r : Fin 32768) (f : Fin 2816) :
    tokensGated a b (ix2 r f) = a (ix2 r f) * Ideal.logistic (a (ix2 r f)) * b (ix2 r f) := by
  pointwise [tokensGated]
  rfl

theorem tokensOut_apply (x : FVec Ideal S32768x1024 .f32) (a : FVec Ideal S32768x2816 .f32) (w : FVec Ideal S2816x1024 .f32)
    (r : Fin 32768) (j : Fin 1024) :
    tokensOut x a w (ix2 r j) = x (ix2 r j) + Ideal.ofBits FTy.f32 1056964608#32 * ∑ f, a (ix2 r f) * w (ix2 f j) := by
  pointwise [tokensOut]

/-- A token of the reference is the block of that token. -/
theorem tokens_apply (x : FVec Ideal S32768x1024 .f32) (g : FVec Ideal S1024 .f32) (wg wu : FVec Ideal S1024x2816 .f32)
    (wd : FVec Ideal S2816x1024 .f32) (r : Fin 32768) (j : Fin 1024) :
    tokens x g wg wu wd (ix2 r j) = block (fun l => x (ix2 r l)) (fun l => g (ix1 l)) (fun k f => wg (ix2 k f))
      (fun k f => wu (ix2 k f)) (fun f l => wd (ix2 f l)) j := by
  simp only [tokens, tokensOut_apply, tokensGated_apply, tokensHidden_apply, tokensNormed_apply, block, hidden]

end Cert.Swiglu
-- ==== Proof.FfnValue.lean ====
/-
  The first SwiGLU block of the prompt: what the kernel leaves, token by token, against its reference.
-/
module

public import proofs.«01_k».proof.Defs
public import proofs.«01_k».proof.Proof.Gen.FfnIdeal.Value
public import proofs.«01_k».proof.Proof.Gen.FfnReferenceIdeal.Run
public import proofs.«01_k».proof.Proof.SwigluReference
public import Idealize.ShloMosaic.Lib.Claim
public import Idealize.ShloMosaic.Lib.Pipeline.ValueKit

@[expose] public section

set_option maxRecDepth 16384

noncomputable section

namespace Cert.FfnIdeal.Value

open Cert.FfnIdeal Cert.FfnIdeal.Gen
open Idealize.ShloMosaic Idealize.ShloMosaic.TcCoe Idealize.SL.Sem

/-- What the body stores for a token of its tile is the block of that token. -/
theorem stored_apply (x : Vec Ideal S512x1024 .f32) (g : Vec Ideal S1x1024 .f32) (wg wu : Vec Ideal S1024x2816 .bf16)
    (wd : Vec Ideal S2816x1024 .bf16) (r : Fin 512) (j : Fin 1024) :
    k0_pay1 x g wg wu wd (ix2 r j) = Swiglu.block (fun l => x (ix2 r l)) (fun l => g (ix2 0 l)) (fun k f => wg (ix2 k f))
      (fun k f => wu (ix2 k f)) (fun f l => wd (ix2 f l)) j := by
  pointwise [k0_pay1, Swiglu.block, Swiglu.hidden, Swiglu.unitRow]

/-- Where each window stands at each point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

/-- The token at row `y` of the tile at point `t`. -/
def row (t : Fin cfg0.N) (y : Fin 512) : Fin 32768 :=
  ⟨t.val * 512 + y.val, by have h : t.val < 64 := lt_of_lt_of_eq t.isLt (by decide); omega⟩

variable (m : (ℓ : Loc nD τ sig) → Buf (Elt Ideal) ℓ) (c : Dev nD)

/-- The arguments as the reference's operations take them. -/
abbrev argX : FVec Ideal S32768x1024 .f32 :=
  shapeCast S32768x1024 (m ((c.tc : Thread nD τ).loc main_arg0)) Cert.FfnReferenceIdeal.Gen.shapeCasts_S16x2048x1024_S32768x1024
abbrev argG : FVec Ideal Cert.FfnReferenceIdeal.S1024 .f32 :=
  shapeCast Cert.FfnReferenceIdeal.S1024 (m ((c.tc : Thread nD τ).loc main_arg1)) Cert.FfnReferenceIdeal.Gen.shapeCasts_S1x1024_S1024
abbrev argWg : FVec Ideal S1024x2816 .f32 :=
  shapeCast S1024x2816 (m ((c.tc : Thread nD τ).loc main_arg2)) Cert.FfnReferenceIdeal.Gen.shapeCasts_S1x1024x2816_S1024x2816
abbrev argWu : FVec Ideal S1024x2816 .f32 :=
  shapeCast S1024x2816 (m ((c.tc : Thread nD τ).loc main_arg3)) Cert.FfnReferenceIdeal.Gen.shapeCasts_S1x1024x2816_S1024x2816
abbrev argWd : FVec Ideal S2816x1024 .f32 :=
  shapeCast S2816x1024 (m ((c.tc : Thread nD τ).loc main_arg4)) Cert.FfnReferenceIdeal.Gen.shapeCasts_S1x2816x1024_S2816x1024

/-- The tokens as the region finds them. -/
theorem entry_x : (V m c main_v6 : S32768x1024.Idx → EReal) = argX m c := by
  entry_read
  rfl

theorem read_x (t : Fin cfg0.N) (r : Fin 512) (l : Fin 1024) : iblk m c 0 t (ix2 r l) = (argX m c : S32768x1024.Idx → EReal) (ix2 (row t r) l) := by
  show (V m c main_v6 : S32768x1024.Idx → EReal) (((cfg0.win 0).blk t).view.emb (ix2 r l)) = _
  rw [entry_x]
  exact congrArg _ (by blk_ext [idx t]; rfl)

/-- The gain as the region finds it. -/
theorem entry_g : (V m c main_v8 : S1x1024.Idx → EReal) = broadcastInDim S1x1024 ![1] bcast_S1024_S1x1024_1 (argG m c) := by
  entry_read
  rfl

theorem read_g (t : Fin cfg0.N) (l : Fin 1024) : iblk m c 1 t (ix2 0 l) = (broadcastInDim S1x1024 ![1] bcast_S1024_S1x1024_1 (argG m c) : S1x1024.Idx → EReal) (ix2 0 l) := by
  show (V m c main_v8 : S1x1024.Idx → EReal) (((cfg0.win 1).blk t).view.emb (ix2 0 l)) = _
  rw [entry_g]
  exact congrArg _ (by blk_ext [idx t])

/-- The gate weights as the region finds them. -/
theorem entry_wg : (V m c main_v1 : S1024x2816.Idx → EReal) = argWg m c := by
  entry_read
  rfl

theorem read_wg (t : Fin cfg0.N) (k : Fin 1024) (f : Fin 2816) : iblk m c 2 t (ix2 k f) = (argWg m c : S1024x2816.Idx → EReal) (ix2 k f) := by
  show (V m c main_v1 : S1024x2816.Idx → EReal) (((cfg0.win 2).blk t).view.emb (ix2 k f)) = _
  rw [entry_wg]
  exact congrArg _ (by blk_ext [idx t])

/-- The other weights as the region finds them. -/
theorem entry_wu : (V m c main_v3 : S1024x2816.Idx → EReal) = argWu m c := by
  entry_read
  rfl

theorem read_wu (t : Fin cfg0.N) (k : Fin 1024) (f : Fin 2816) : iblk m c 3 t (ix2 k f) = (argWu m c : S1024x2816.Idx → EReal) (ix2 k f) := by
  show (V m c main_v3 : S1024x2816.Idx → EReal) (((cfg0.win 3).blk t).view.emb (ix2 k f)) = _
  rw [entry_wu]
  exact congrArg _ (by blk_ext [idx t])

/-- The weights back, as the region finds them. -/
theorem entry_wd : (V m c main_v5 : S2816x1024.Idx → EReal) = argWd m c := by
  entry_read
  rfl

theorem read_wd (t : Fin cfg0.N) (k : Fin 2816) (f : Fin 1024) : iblk m c 4 t (ix2 k f) = (argWd m c : S2816x1024.Idx → EReal) (ix2 k f) := by
  show (V m c main_v5 : S2816x1024.Idx → EReal) (((cfg0.win 4).blk t).view.emb (ix2 k f)) = _
  rw [entry_wd]
  exact congrArg _ (by blk_ext [idx t])

theorem gain (l : Fin 1024) : broadcastInDim S1x1024 ![1] bcast_S1024_S1x1024_1 (argG m c) (ix2 0 l) = argG m c (ix1 l) := by
  pointwise

theorem place (t : Fin cfg0.N) (r : Fin 512) (j : Fin 1024) : ((cfg0.win 5).blk t).view.emb (ix2 r j) = ix2 (row t r) j := by
  unfold row
  blk_ext [idx t]

/-- The array the kernel leaves is the reference's over the same arguments. -/
theorem left : (dats m 0 c).arrAt 5 cfg0.N = Swiglu.tokens (argX m c) (argG m c) (argWg m c) (argWu m c) (argWd m c) := by
  refine (dats m 0 c).arrAt_eq_of_covers 5 _ (by decide +kernel) fun t hf y => ?_
  blk_simp
  rw [after0_5]
  frame_out
  idx_vars y
  refine (stored_apply _ _ _ _ _ y0 y1).trans ?_
  refine Eq.trans ?_ (congrArg (Swiglu.tokens (argX m c) (argG m c) (argWg m c) (argWu m c) (argWd m c)) (place t y0 y1)).symm
  rw [Swiglu.tokens_apply]
  simp only [read_x, read_g, read_wg, read_wu, read_wd]
  exact congrArg (fun g => Swiglu.block _ g _ _ _ y1) (funext fun l => gain m c l)

theorem equal : Cert.algebraic_FfnIdeal_FfnReferenceIdeal := by
  pair_intro
  · run_from Cert.FfnIdeal.Value.run_blocks m g
  · run_from Cert.FfnReferenceIdeal.Value.run m' g'
    rw [left]
    rfl

end Cert.FfnIdeal.Value
-- ==== Proof.OutValue.lean ====
/-
  The end of the prompt's layer: a token's convolution and attention rows side by side, projected and added, then the
  second SwiGLU block; what the kernel leaves, token by token, against its reference.
-/
module

public import proofs.«01_k».proof.Defs
public import proofs.«01_k».proof.Proof.Gen.OutIdeal.Value
public import proofs.«01_k».proof.Proof.Gen.OutReferenceIdeal.Run
public import proofs.«01_k».proof.Proof.SwigluReference
public import Idealize.ShloMosaic.Lib.Claim
public import Idealize.ShloMosaic.Lib.Pipeline.ValueKit

@[expose] public section

set_option maxRecDepth 16384

noncomputable section

namespace Cert.OutIdeal.Value

open Cert.OutIdeal Cert.OutIdeal.Gen
open Idealize.ShloMosaic Idealize.ShloMosaic.TcCoe Idealize.SL.Sem

section Stored

variable (yc at' : Vec Ideal S512x512 .bf16) (x : Vec Ideal S512x1024 .f32) (wo : Vec Ideal S1024x1024 .bf16)
  (g : Vec Ideal S1x1024 .f32) (wg wu : Vec Ideal S1024x2816 .bf16) (wd : Vec Ideal S2816x1024 .bf16) (r : Fin 512)

/-- The first sum of the body, for a token of its tile, is the mixed token. -/
theorem summed_apply (j : Fin 1024) : k0_pay2 yc at' x wo (ix2 r j) = Swiglu.mixed (fun l => x (ix2 r l))
    (fun l => yc (ix2 r l)) (fun l => at' (ix2 r l)) (fun k l => wo (ix2 k l)) j := by
  pointwise [k0_pay2, Swiglu.mixed]

/-- The gated features of a token, from its first sum. -/
theorem gated_apply (f : Fin 2816) : k0_pay3 yc at' x wo g wg wu (ix2 r f) =
    Swiglu.hidden (fun l => k0_pay2 yc at' x wo (ix2 r l)) (fun l => g (ix2 0 l)) (fun k f => wg (ix2 k f)) f
      * Ideal.logistic (Swiglu.hidden (fun l => k0_pay2 yc at' x wo (ix2 r l)) (fun l => g (ix2 0 l)) (fun k f => wg (ix2 k f)) f)
      * Swiglu.hidden (fun l => k0_pay2 yc at' x wo (ix2 r l)) (fun l => g (ix2 0 l)) (fun k f => wu (ix2 k f)) f := by
  unfold k0_pay3
  generalize k0_pay2 yc at' x wo = z
  pointwise [Swiglu.hidden, Swiglu.unitRow]

/-- The last sum of the body, from the first sum and the gated features. -/
theorem last_apply (z : FVec Ideal S512x1024 .f32) (a : FVec Ideal S512x2816 .bf16) (j : Fin 1024) :
    k0_pay1 z a (k0_pay4 wd) (ix2 r j) = z (ix2 r j)
      + Ideal.ofBits FTy.f32 1056964608#32 * ∑ f, a (ix2 r f) * wd (ix2 f j) := by
  pointwise [k0_pay1, k0_pay4]

/-- What the body stores for a token of its tile is the block of the mixed token. -/
theorem stored_apply (j : Fin 1024) :
    k0_pay1 (k0_pay2 yc at' x wo) (k0_pay3 yc at' x wo g wg wu) (k0_pay4 wd) (ix2 r j) = Swiglu.block
      (Swiglu.mixed (fun l => x (ix2 r l)) (fun l => yc (ix2 r l)) (fun l => at' (ix2 r l)) (fun k l => wo (ix2 k l)))
      (fun l => g (ix2 0 l)) (fun k f => wg (ix2 k f)) (fun k f => wu (ix2 k f)) (fun f l => wd (ix2 f l)) j := by
  rw [last_apply]
  simp only [gated_apply, summed_apply, Swiglu.block]

end Stored

/-- The mixed tokens, as the reference writes them. -/
def tokensMixed (x : FVec Ideal Cert.OutReferenceIdeal.S32768x1024 .f32) (yc at' : FVec Ideal Cert.OutReferenceIdeal.S32768x512 .f32)
    (wo : FVec Ideal Cert.OutReferenceIdeal.S1024x1024 .f32) : FVec Ideal Cert.OutReferenceIdeal.S32768x1024 .f32 :=
  addf x (Host.dotGeneral Cert.OutReferenceIdeal.dot_S32768x1024_S1024x1024_S32768x1024_1_0_0_1_n_n none
    (concatenate Cert.OutReferenceIdeal.S32768x1024 1
      [⟨Cert.OutReferenceIdeal.S32768x512, yc⟩, ⟨Cert.OutReferenceIdeal.S32768x512, at'⟩]
      Cert.OutReferenceIdeal.Gen.concatenates_S32768x512_S32768x512_S32768x1024_d1) wo)

theorem tokensMixed_apply (x : FVec Ideal Cert.OutReferenceIdeal.S32768x1024 .f32)
    (yc at' : FVec Ideal Cert.OutReferenceIdeal.S32768x512 .f32) (wo : FVec Ideal Cert.OutReferenceIdeal.S1024x1024 .f32)
    (r : Fin 32768) (j : Fin 1024) :
    tokensMixed x yc at' wo (ix2 r j) = Swiglu.mixed (fun l => x (ix2 r l)) (fun l => yc (ix2 r l)) (fun l => at' (ix2 r l))
      (fun k l => wo (ix2 k l)) j := by
  pointwise [tokensMixed, Swiglu.mixed]

/-- Where each window stands at each point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by decide +kernel

/-- The token at row `y` of the tile at point `t`. -/
def row (t : Fin cfg0.N) (y : Fin 512) : Fin 32768 :=
  ⟨t.val * 512 + y.val, by have h : t.val < 64 := lt_of_lt_of_eq t.isLt (by decide); omega⟩

variable (m : (ℓ : Loc nD τ sig) → Buf (Elt Ideal) ℓ) (c : Dev nD)

/-- The arguments as the reference's operations take them. -/
abbrev argX : FVec Ideal S32768x1024 .f32 := m ((c.tc : Thread nD τ).loc main_arg0)
abbrev argYc : FVec Ideal S32768x512 .f32 := m ((c.tc : Thread nD τ).loc main_arg1)
abbrev argAt : FVec Ideal S32768x512 .f32 := m ((c.tc : Thread nD τ).loc main_arg2)
abbrev argWo : FVec Ideal S1024x1024 .f32 :=
  shapeCast S1024x1024 (m ((c.tc : Thread nD τ).loc main_arg3)) Cert.OutReferenceIdeal.Gen.shapeCasts_S1x1024x1024_S1024x1024
abbrev argG : FVec Ideal Cert.OutReferenceIdeal.S1024 .f32 :=
  shapeCast Cert.OutReferenceIdeal.S1024 (m ((c.tc : Thread nD τ).loc main_arg4)) Cert.OutReferenceIdeal.Gen.shapeCasts_S1x1024_S1024
abbrev argWg : FVec Ideal S1024x2816 .f32 :=
  shapeCast S1024x2816 (m ((c.tc : Thread nD τ).loc main_arg5)) Cert.OutReferenceIdeal.Gen.shapeCasts_S1x1024x2816_S1024x2816
abbrev argWu : FVec Ideal S1024x2816 .f32 :=
  shapeCast S1024x2816 (m ((c.tc : Thread nD τ).loc main_arg6)) Cert.OutReferenceIdeal.Gen.shapeCasts_S1x1024x2816_S1024x2816
abbrev argWd : FVec Ideal S2816x1024 .f32 :=
  shapeCast S2816x1024 (m ((c.tc : Thread nD τ).loc main_arg7)) Cert.OutReferenceIdeal.Gen.shapeCasts_S1x2816x1024_S2816x1024

/-- The tokens as the region finds them. -/
theorem entry_x : (V m c main_arg0 : S32768x1024.Idx → EReal) = argX m c := by
  entry_read
  rfl

theorem read_x (t : Fin cfg0.N) (r : Fin 512) (l : Fin 1024) : iblk m c 0 t (ix2 r l) = (argX m c : S32768x1024.Idx → EReal) (ix2 (row t r) l) := by
  show (V m c main_arg0 : S32768x1024.Idx → EReal) (((cfg0.win 0).blk t).view.emb (ix2 r l)) = _
  rw [entry_x]
  exact congrArg _ (by blk_ext [idx t]; rfl)

/-- The convolution's rows as the region finds them. -/
theorem entry_yc : (V m c main_v8 : S32768x512.Idx → EReal) = argYc m c := by
  entry_read
  rfl

theorem read_yc (t : Fin cfg0.N) (r : Fin 512) (l : Fin 512) : iblk m c 1 t (ix2 r l) = (argYc m c : S32768x512.Idx → EReal) (ix2 (row t r) l) := by
  show (V m c main_v8 : S32768x512.Idx → EReal) (((cfg0.win 1).blk t).view.emb (ix2 r l)) = _
  rw [entry_yc]
  exact congrArg _ (by blk_ext [idx t]; rfl)

/-- The attention's rows as the region finds them. -/
theorem entry_at : (V m c main_v9 : S32768x512.Idx → EReal) = argAt m c := by
  entry_read
  rfl

theorem read_at (t : Fin cfg0.N) (r : Fin 512) (l : Fin 512) : iblk m c 2 t (ix2 r l) = (argAt m c : S32768x512.Idx → EReal) (ix2 (row t r) l) := by
  show (V m c main_v9 : S32768x512.Idx → EReal) (((cfg0.win 2).blk t).view.emb (ix2 r l)) = _
  rw [entry_at]
  exact congrArg _ (by blk_ext [idx t]; rfl)

/-- The mixing weights as the region finds them. -/
theorem entry_wo : (V m c main_v1 : S1024x1024.Idx → EReal) = argWo m c := by
  entry_read
  rfl

theorem read_wo (t : Fin cfg0.N) (k : Fin 1024) (f : Fin 1024) : iblk m c 3 t (ix2 k f) = (argWo m c : S1024x1024.Idx → EReal) (ix2 k f) := by
  show (V m c main_v1 : S1024x1024.Idx → EReal) (((cfg0.win 3).blk t).view.emb (ix2 k f)) = _
  rw [entry_wo]
  exact congrArg _ (by blk_ext [idx t])

/-- The gain as the region finds it. -/
theorem entry_g : (V m c main_v11 : S1x1024.Idx → EReal) = broadcastInDim S1x1024 ![1] bcast_S1024_S1x1024_1 (argG m c) := by
  entry_read
  rfl

theorem read_g (t : Fin cfg0.N) (l : Fin 1024) : iblk m c 4 t (ix2 0 l) = (broadcastInDim S1x1024 ![1] bcast_S1024_S1x1024_1 (argG m c) : S1x1024.Idx → EReal) (ix2 0 l) := by
  show (V m c main_v11 : S1x1024.Idx → EReal) (((cfg0.win 4).blk t).view.emb (ix2 0 l)) = _
  rw [entry_g]
  exact congrArg _ (by blk_ext [idx t])

/-- The gate weights as the region finds them. -/
theorem entry_wg : (V m c main_v3 : S1024x2816.Idx → EReal) = argWg m c := by
  entry_read
  rfl

theorem read_wg (t : Fin cfg0.N) (k : Fin 1024) (f : Fin 2816) : iblk m c 5 t (ix2 k f) = (argWg m c : S1024x2816.Idx → EReal) (ix2 k f) := by
  show (V m c main_v3 : S1024x2816.Idx → EReal) (((cfg0.win 5).blk t).view.emb (ix2 k f)) = _
  rw [entry_wg]
  exact congrArg _ (by blk_ext [idx t])

/-- The other weights as the region finds them. -/
theorem entry_wu : (V m c main_v5 : S1024x2816.Idx → EReal) = argWu m c := by
  entry_read
  rfl

theorem read_wu (t : Fin cfg0.N) (k : Fin 1024) (f : Fin 2816) : iblk m c 6 t (ix2 k f) = (argWu m c : S1024x2816.Idx → EReal) (ix2 k f) := by
  show (V m c main_v5 : S1024x2816.Idx → EReal) (((cfg0.win 6).blk t).view.emb (ix2 k f)) = _
  rw [entry_wu]
  exact congrArg _ (by blk_ext [idx t])

/-- The weights back, as the region finds them. -/
theorem entry_wd : (V m c main_v7 : S2816x1024.Idx → EReal) = argWd m c := by
  entry_read
  rfl

theorem read_wd (t : Fin cfg0.N) (k : Fin 2816) (f : Fin 1024) : iblk m c 7 t (ix2 k f) = (argWd m c : S2816x1024.Idx → EReal) (ix2 k f) := by
  show (V m c main_v7 : S2816x1024.Idx → EReal) (((cfg0.win 7).blk t).view.emb (ix2 k f)) = _
  rw [entry_wd]
  exact congrArg _ (by blk_ext [idx t])

theorem gain (l : Fin 1024) : broadcastInDim S1x1024 ![1] bcast_S1024_S1x1024_1 (argG m c) (ix2 0 l) = argG m c (ix1 l) := by
  pointwise

theorem place (t : Fin cfg0.N) (r : Fin 512) (j : Fin 1024) : ((cfg0.win 8).blk t).view.emb (ix2 r j) = ix2 (row t r) j := by
  unfold row
  blk_ext [idx t]

/-- The array the reference leaves, over the arguments. -/
abbrev result : FVec Ideal S32768x1024 .f32 :=
  Swiglu.tokens (tokensMixed (argX m c) (argYc m c) (argAt m c) (argWo m c)) (argG m c) (argWg m c) (argWu m c) (argWd m c)

/-- The array the kernel leaves is the reference's over the same arguments. -/
theorem left : (dats m 0 c).arrAt 8 cfg0.N = result m c := by
  refine (dats m 0 c).arrAt_eq_of_covers 8 _ (by decide +kernel) fun t hf y => ?_
  blk_simp
  rw [after0_8]
  frame_out
  idx_vars y
  refine (stored_apply _ _ _ _ _ _ _ _ y0 y1).trans ?_
  refine Eq.trans ?_ (congrArg (result m c) (place t y0 y1)).symm
  rw [result, Swiglu.tokens_apply]
  simp only [tokensMixed_apply, read_x, read_yc, read_at, read_wo, read_g, read_wg, read_wu, read_wd]
  exact congrArg (fun g => Swiglu.block _ g _ _ _ y1) (funext fun l => gain m c l)

theorem equal : Cert.algebraic_OutIdeal_OutReferenceIdeal := by
  pair_intro
  · run_from Cert.OutIdeal.Value.run_blocks m g
  · run_from Cert.OutReferenceIdeal.Value.run m' g'
    rw [left]
    obtain ⟨h0, h1, h2, h3, h4, h5, h6, h7⟩ := hagree c
    unfold Cert.OutReferenceIdeal.Value.res_main_v28 result argX argYc argAt argWo argG argWg argWu argWd
    rw [h0, h1, h2, h3, h4, h5, h6, h7]
    rfl

end Cert.OutIdeal.Value
-- ==== Proof.SwigluSample.lean ====
/-
  The reference of a SwiGLU block over the tokens of the sample step, written with the host's array operations, read at a token.
-/
module

public import proofs.«01_k».proof.Defs
public import proofs.«01_k».proof.Proof.Gen.OutSampleReferenceIdeal
public import proofs.«01_k».proof.Proof.SwigluRow

@[expose] public section

set_option maxRecDepth 16384

noncomputable section

namespace Cert.Swiglu.Sample

open Cert.OutSampleReferenceIdeal Cert.OutSampleReferenceIdeal.Gen
open Idealize.ShloMosaic

/-- The tokens, each divided by its root mean square, times the gain. -/
def tokensNormed (x : FVec Ideal S128x1024 .f32) (g : FVec Ideal S1024 .f32) : FVec Ideal S128x1024 .f32 :=
  mulf (mulf x (broadcastInDim S128x1024 ![0, 1] bcast_S128x1_S128x1024_0_1
    (Host.rsqrt (addf (Host.divf (broadcastInDim S128x1 ![0] bcast_S128_S128x1_0
        (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The tokens projected to the hidden features. -/
def tokensHidden (h : FVec Ideal S128x1024 .f32) (w : FVec Ideal S1024x2816 .f32) : FVec Ideal S128x2816 .f32 :=
  Host.dotGeneral dot_S128x1024_S1024x2816_S128x2816_1_0_0_1_n_n none h w

/-- Gate times its logistic, times the other projection. -/
def tokensGated (a b : FVec Ideal S128x2816 .f32) : FVec Ideal S128x2816 .f32 :=
  mulf (mulf a (Host.divf (broadcastInDim S128x2816 ![] bcast_S_S128x2816 (constant S_ .f32 0x3F800000#32))
    (addf (broadcastInDim S128x2816 ![] bcast_S_S128x2816 (constant S_ .f32 0x3F800000#32)) (Host.exp (Host.negf a))))) b

/-- Half of the gated features projected back, added to the tokens. -/
def tokensOut (x : FVec Ideal S128x1024 .f32) (a : FVec Ideal S128x2816 .f32) (w : FVec Ideal S2816x1024 .f32) :
    FVec Ideal S128x1024 .f32 :=
  addf x (mulf (broadcastInDim S128x1024 ![] bcast_S_S128x1024 (constant S_ .f32 0x3F000000#32))
    (Host.dotGeneral dot_S128x2816_S2816x1024_S128x1024_1_0_0_1_n_n none a w))

/-- The block over the tokens of the sample step. -/
def tokens (x : FVec Ideal S128x1024 .f32) (g : FVec Ideal S1024 .f32) (wg wu : FVec Ideal S1024x2816 .f32)
    (wd : FVec Ideal S2816x1024 .f32) : FVec Ideal S128x1024 .f32 :=
  tokensOut x (tokensGated (tokensHidden (tokensNormed x g) wg) (tokensHidden (tokensNormed x g) wu)) wd

theorem tokensNormed_apply (x : FVec Ideal S128x1024 .f32) (g : FVec Ideal S1024 .f32) (r : Fin 128) (k : Fin 1024) :
    tokensNormed x g (ix2 r k) = unitRow (fun l => x (ix2 r l)) (fun l => g (ix1 l)) k := by
  pointwise [tokensNormed, unitRow]

theorem tokensHidden_apply (h : FVec Ideal S128x1024 .f32) (w : FVec Ideal S1024x2816 .f32) (r : Fin 128) (f : Fin 2816) :
    tokensHidden h w (ix2 r f) = ∑ k, h (ix2 r k) * w (ix2 k f) := by
  pointwise [tokensHidden]

theorem tokensGated_apply (a b : FVec Ideal S128x2816 .f32) (r : Fin 128) (f : Fin 2816) :
    tokensGated a b (ix2 r f) = a (ix2 r f) * Ideal.logistic (a (ix2 r f)) * b (ix2 r f) := by
  pointwise [tokensGated]
  rfl

theorem tokensOut_apply (x : FVec Ideal S128x1024 .f32) (a : FVec Ideal S128x2816 .f32) (w : FVec Ideal S2816x1024 .f32)
    (r : Fin 128) (j : Fin 1024) :
    tokensOut x a w (ix2 r j) = x (ix2 r j) + Ideal.ofBits FTy.f32 1056964608#32 * ∑ f, a (ix2 r f) * w (ix2 f j) := by
  pointwise [tokensOut]

/-- A token of the reference is the block of that token. -/
theorem tokens_apply (x : FVec Ideal S128x1024 .f32) (g : FVec Ideal S1024 .f32) (wg wu : FVec Ideal S1024x2816 .f32)
    (wd : FVec Ideal S2816x1024 .f32) (r : Fin 128) (j : Fin 1024) :
    tokens x g wg wu wd (ix2 r j) = block (fun l => x (ix2 r l)) (fun l => g (ix1 l)) (fun k f => wg (ix2 k f))
      (fun k f => wu (ix2 k f)) (fun f l => wd (ix2 f l)) j := by
  simp only [tokens, tokensOut_apply, tokensGated_apply, tokensHidden_apply, tokensNormed_apply, block, hidden]

end Cert.Swiglu.Sample
-- ==== Proof.OutSampleValue.lean ====
/-
  The end of the sample step's layer: a token's convolution and attention rows side by side, projected and added, then the
  second SwiGLU block; what the kernel leaves, token by token, against its reference.
-/
module

public import proofs.«01_k».proof.Defs
public import proofs.«01_k».proof.Proof.Gen.OutSampleIdeal.Value
public import proofs.«01_k».proof.Proof.Gen.OutSampleReferenceIdeal.Run
public import proofs.«01_k».proof.Proof.SwigluSample
public import Idealize.ShloMosaic.Lib.Claim
public import Idealize.ShloMosaic.Lib.Pipeline.ValueKit

@[expose] public section

set_option maxRecDepth 16384

noncomputable section

namespace Cert.OutSampleIdeal.Value

open Cert.OutSampleIdeal Cert.OutSampleIdeal.Gen
open Idealize.ShloMosaic Idealize.ShloMosaic.TcCoe Idealize.SL.Sem

section Stored

variable (yc at' : Vec Ideal S128x512 .bf16) (x : Vec Ideal S128x1024 .f32) (wo : Vec Ideal S1024x1024 .bf16)
  (g : Vec Ideal S1x1024 .f32) (wg wu : Vec Ideal S1024x2816 .bf16) (wd : Vec Ideal S2816x1024 .bf16) (r : Fin 128)

/-- The first sum of the body, for a token of its tile, is the mixed token. -/
theorem summed_apply (j : Fin 1024) : k0_pay2 yc at' x wo (ix2 r j) = Swiglu.mixed (fun l => x (ix2 r l))
    (fun l => yc (ix2 r l)) (fun l => at' (ix2 r l)) (fun k l => wo (ix2 k l)) j := by
  pointwise [k0_pay2, Swiglu.mixed]

/-- The gated features of a token, from its first sum. -/
theorem gated_apply (f : Fin 2816) : k0_pay3 yc at' x wo g wg wu (ix2 r f) =
    Swiglu.hidden (fun l => k0_pay2 yc at' x wo (ix2 r l)) (fun l => g (ix2 0 l)) (fun k f => wg (ix2 k f)) f
      * Ideal.logistic (Swiglu.hidden (fun l => k0_pay2 yc at' x wo (ix2 r l)) (fun l => g (ix2 0 l)) (fun k f => wg (ix2 k f)) f)
      * Swiglu.hidden (fun l => k0_pay2 yc at' x wo (ix2 r l)) (fun l => g (ix2 0 l)) (fun k f => wu (ix2 k f)) f := by
  unfold k0_pay3
  generalize k0_pay2 yc at' x wo = z
  pointwise [Swiglu.hidden, Swiglu.unitRow]

/-- The last sum of the body, from the first sum and the gated features. -/
theorem last_apply (z : FVec Ideal S128x1024 .f32) (a : FVec Ideal S128x2816 .bf16) (j : Fin 1024) :
    k0_pay1 z a (k0_pay4 wd) (ix2 r j) = z (ix2 r j)
      + Ideal.ofBits FTy.f32 1056964608#32 * ∑ f, a (ix2 r f) * wd (ix2 f j) := by
  pointwise [k0_pay1, k0_pay4]

/-- What the body stores for a token of its tile is the block of the mixed token. -/
theorem stored_apply (j : Fin 1024) :
    k0_pay1 (k0_pay2 yc at' x wo) (k0_pay3 yc at' x wo g wg wu) (k0_pay4 wd) (ix2 r j) = Swiglu.block
      (Swiglu.mixed (fun l => x (ix2 r l)) (fun l => yc (ix2 r l)) (fun l => at' (ix2 r l)) (fun k l => wo (ix2 k l)))
      (fun l => g (ix2 0 l)) (fun k f => wg (ix2 k f)) (fun k f => wu (ix2 k f)) (fun f l => wd (ix2 f l)) j := by
  rw [last_apply]
  simp only [gated_apply, summed_apply, Swiglu.block]

end Stored

/-- The mixed tokens, as the reference writes them. -/
def tokensMixed (x : FVec Ideal Cert.OutSampleReferenceIdeal.S128x1024 .f32) (yc at' : FVec Ideal Cert.OutSampleReferenceIdeal.S128x512 .f32)
    (wo : FVec Ideal Cert.OutSampleReferenceIdeal.S1024x1024 .f32) : FVec Ideal Cert.OutSampleReferenceIdeal.S128x1024 .f32 :=
  addf x (Host.dotGeneral Cert.OutSampleReferenceIdeal.dot_S128x1024_S1024x1024_S128x1024_1_0_0_1_n_n none
    (concatenate Cert.OutSampleReferenceIdeal.S128x1024 1
      [⟨Cert.OutSampleReferenceIdeal.S128x512, yc⟩, ⟨Cert.OutSampleReferenceIdeal.S128x512, at'⟩]
      Cert.OutSampleReferenceIdeal.Gen.concatenates_S128x512_S128x512_S128x1024_d1) wo)

theorem tokensMixed_apply (x : FVec Ideal Cert.OutSampleReferenceIdeal.S128x1024 .f32)
    (yc at' : FVec Ideal Cert.OutSampleReferenceIdeal.S128x512 .f32) (wo : FVec Ideal Cert.OutSampleReferenceIdeal.S1024x1024 .f32)
    (r : Fin 128) (j : Fin 1024) :
    tokensMixed x yc at' wo (ix2 r j) = Swiglu.mixed (fun l => x (ix2 r l)) (fun l => yc (ix2 r l)) (fun l => at' (ix2 r l))
      (fun k l => wo (ix2 k l)) j := by
  pointwise [tokensMixed, Swiglu.mixed]

/-- Where each window stands at each point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by decide +kernel

variable (m : (ℓ : Loc nD τ sig) → Buf (Elt Ideal) ℓ) (c : Dev nD)

/-- The arguments as the reference's operations take them. -/
abbrev argX : FVec Ideal S128x1024 .f32 := m ((c.tc : Thread nD τ).loc main_arg0)
abbrev argYc : FVec Ideal S128x512 .f32 := m ((c.tc : Thread nD τ).loc main_arg1)
abbrev argAt : FVec Ideal S128x512 .f32 := m ((c.tc : Thread nD τ).loc main_arg2)
abbrev argWo : FVec Ideal S1024x1024 .f32 :=
  shapeCast S1024x1024 (m ((c.tc : Thread nD τ).loc main_arg3)) Cert.OutSampleReferenceIdeal.Gen.shapeCasts_S1x1024x1024_S1024x1024
abbrev argG : FVec Ideal Cert.OutSampleReferenceIdeal.S1024 .f32 :=
  shapeCast Cert.OutSampleReferenceIdeal.S1024 (m ((c.tc : Thread nD τ).loc main_arg4)) Cert.OutSampleReferenceIdeal.Gen.shapeCasts_S1x1024_S1024
abbrev argWg : FVec Ideal S1024x2816 .f32 :=
  shapeCast S1024x2816 (m ((c.tc : Thread nD τ).loc main_arg5)) Cert.OutSampleReferenceIdeal.Gen.shapeCasts_S1x1024x2816_S1024x2816
abbrev argWu : FVec Ideal S1024x2816 .f32 :=
  shapeCast S1024x2816 (m ((c.tc : Thread nD τ).loc main_arg6)) Cert.OutSampleReferenceIdeal.Gen.shapeCasts_S1x1024x2816_S1024x2816
abbrev argWd : FVec Ideal S2816x1024 .f32 :=
  shapeCast S2816x1024 (m ((c.tc : Thread nD τ).loc main_arg7)) Cert.OutSampleReferenceIdeal.Gen.shapeCasts_S1x2816x1024_S2816x1024

/-- The tokens as the region finds them. -/
theorem entry_x : (V m c main_arg0 : S128x1024.Idx → EReal) = argX m c := by
  entry_read
  rfl

theorem read_x (t : Fin cfg0.N) (r : Fin 128) (l : Fin 1024) : iblk m c 0 t (ix2 r l) = (argX m c : S128x1024.Idx → EReal) (ix2 r l) := by
  show (V m c main_arg0 : S128x1024.Idx → EReal) (((cfg0.win 0).blk t).view.emb (ix2 r l)) = _
  rw [entry_x]
  exact congrArg _ (by blk_ext [idx t])

/-- The convolution's rows as the region finds them. -/
theorem entry_yc : (V m c main_v8 : S128x512.Idx → EReal) = argYc m c := by
  entry_read
  rfl

theorem read_yc (t : Fin cfg0.N) (r : Fin 128) (l : Fin 512) : iblk m c 1 t (ix2 r l) = (argYc m c : S128x512.Idx → EReal) (ix2 r l) := by
  show (V m c main_v8 : S128x512.Idx → EReal) (((cfg0.win 1).blk t).view.emb (ix2 r l)) = _
  rw [entry_yc]
  exact congrArg _ (by blk_ext [idx t])

/-- The attention's rows as the region finds them. -/
theorem entry_at : (V m c main_v9 : S128x512.Idx → EReal) = argAt m c := by
  entry_read
  rfl

theorem read_at (t : Fin cfg0.N) (r : Fin 128) (l : Fin 512) : iblk m c 2 t (ix2 r l) = (argAt m c : S128x512.Idx → EReal) (ix2 r l) := by
  show (V m c main_v9 : S128x512.Idx → EReal) (((cfg0.win 2).blk t).view.emb (ix2 r l)) = _
  rw [entry_at]
  exact congrArg _ (by blk_ext [idx t])

/-- The mixing weights as the region finds them. -/
theorem entry_wo : (V m c main_v1 : S1024x1024.Idx → EReal) = argWo m c := by
  entry_read
  rfl

theorem read_wo (t : Fin cfg0.N) (k : Fin 1024) (f : Fin 1024) : iblk m c 3 t (ix2 k f) = (argWo m c : S1024x1024.Idx → EReal) (ix2 k f) := by
  show (V m c main_v1 : S1024x1024.Idx → EReal) (((cfg0.win 3).blk t).view.emb (ix2 k f)) = _
  rw [entry_wo]
  exact congrArg _ (by blk_ext [idx t])

/-- The gain as the region finds it. -/
theorem entry_g : (V m c main_v11 : S1x1024.Idx → EReal) = broadcastInDim S1x1024 ![1] bcast_S1024_S1x1024_1 (argG m c) := by
  entry_read
  rfl

theorem read_g (t : Fin cfg0.N) (l : Fin 1024) : iblk m c 4 t (ix2 0 l) = (broadcastInDim S1x1024 ![1] bcast_S1024_S1x1024_1 (argG m c) : S1x1024.Idx → EReal) (ix2 0 l) := by
  show (V m c main_v11 : S1x1024.Idx → EReal) (((cfg0.win 4).blk t).view.emb (ix2 0 l)) = _
  rw [entry_g]
  exact congrArg _ (by blk_ext [idx t])

/-- The gate weights as the region finds them. -/
theorem entry_wg : (V m c main_v3 : S1024x2816.Idx → EReal) = argWg m c := by
  entry_read
  rfl

theorem read_wg (t : Fin cfg0.N) (k : Fin 1024) (f : Fin 2816) : iblk m c 5 t (ix2 k f) = (argWg m c : S1024x2816.Idx → EReal) (ix2 k f) := by
  show (V m c main_v3 : S1024x2816.Idx → EReal) (((cfg0.win 5).blk t).view.emb (ix2 k f)) = _
  rw [entry_wg]
  exact congrArg _ (by blk_ext [idx t])

/-- The other weights as the region finds them. -/
theorem entry_wu : (V m c main_v5 : S1024x2816.Idx → EReal) = argWu m c := by
  entry_read
  rfl

theorem read_wu (t : Fin cfg0.N) (k : Fin 1024) (f : Fin 2816) : iblk m c 6 t (ix2 k f) = (argWu m c : S1024x2816.Idx → EReal) (ix2 k f) := by
  show (V m c main_v5 : S1024x2816.Idx → EReal) (((cfg0.win 6).blk t).view.emb (ix2 k f)) = _
  rw [entry_wu]
  exact congrArg _ (by blk_ext [idx t])

/-- The weights back, as the region finds them. -/
theorem entry_wd : (V m c main_v7 : S2816x1024.Idx → EReal) = argWd m c := by
  entry_read
  rfl

theorem read_wd (t : Fin cfg0.N) (k : Fin 2816) (f : Fin 1024) : iblk m c 7 t (ix2 k f) = (argWd m c : S2816x1024.Idx → EReal) (ix2 k f) := by
  show (V m c main_v7 : S2816x1024.Idx → EReal) (((cfg0.win 7).blk t).view.emb (ix2 k f)) = _
  rw [entry_wd]
  exact congrArg _ (by blk_ext [idx t])

theorem gain (l : Fin 1024) : broadcastInDim S1x1024 ![1] bcast_S1024_S1x1024_1 (argG m c) (ix2 0 l) = argG m c (ix1 l) := by
  pointwise

theorem place (t : Fin cfg0.N) (r : Fin 128) (j : Fin 1024) : ((cfg0.win 8).blk t).view.emb (ix2 r j) = ix2 r j := by
  blk_ext [idx t]

/-- The array the reference leaves, over the arguments. -/
abbrev result : FVec Ideal S128x1024 .f32 :=
  Swiglu.Sample.tokens (tokensMixed (argX m c) (argYc m c) (argAt m c) (argWo m c)) (argG m c) (argWg m c) (argWu m c) (argWd m c)

/-- The array the kernel leaves is the reference's over the same arguments. -/
theorem left : (dats m 0 c).arrAt 8 cfg0.N = result m c := by
  refine (dats m 0 c).arrAt_eq_of_covers 8 _ (by decide +kernel) fun t hf y => ?_
  blk_simp
  rw [after0_8]
  frame_out
  idx_vars y
  refine (stored_apply _ _ _ _ _ _ _ _ y0 y1).trans ?_
  refine Eq.trans ?_ (congrArg (result m c) (place t y0 y1)).symm
  rw [result, Swiglu.Sample.tokens_apply]
  simp only [tokensMixed_apply, read_x, read_yc, read_at, read_wo, read_g, read_wg, read_wu, read_wd]
  exact congrArg (fun g => Swiglu.block _ g _ _ _ y1) (funext fun l => gain m c l)

theorem equal : Cert.algebraic_OutSampleIdeal_OutSampleReferenceIdeal := by
  pair_intro
  · run_from Cert.OutSampleIdeal.Value.run_blocks m g
  · run_from Cert.OutSampleReferenceIdeal.Value.run m' g'
    rw [left]
    obtain ⟨h0, h1, h2, h3, h4, h5, h6, h7⟩ := hagree c
    unfold Cert.OutSampleReferenceIdeal.Value.res_main_v28 result argX argYc argAt argWo argG argWg argWu argWd
    rw [h0, h1, h2, h3, h4, h5, h6, h7]
    rfl

end Cert.OutSampleIdeal.Value
-- ==== Proof.MixSampleLaunch.lean ====
/-
  The launch of the sample step's mixing call: one point, whose body reads thirteen blocks and leaves eleven.
  What each output's buffer holds after the body, the body's obligation, the run and the frame.
-/
module

public import proofs.«01_k».proof.Proof.Gen.MixSampleIdeal.Frame.RunA
public import Idealize.ShloMosaic.Lib.Claim

@[expose] public section

set_option maxRecDepth 16384

noncomputable section

namespace Cert.MixSampleIdeal.Launched

open Cert.MixSampleIdeal Cert.MixSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body's run at point `t`, over that point's memrefs and blocks. -/
def runAt :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    scM0_0 (Memref.isWhole_whole _) (hcond0_0 t)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)

/-! What the run leaves in each output's buffer, and that its stores cover it. -/

def left13 : Vec F S128x512 .bf16 := VO0_13.read (Elt F) (VO0_13.writes (Elt F) VO0_13.junk (runAt m c t).1)
def left14 : Vec F S128x512 .bf16 := VO0_14.read (Elt F) (VO0_14.writes (Elt F) VO0_14.junk (runAt m c t).2.1)
def left15 : Vec F S128x256 .bf16 := VO0_15.read (Elt F) (VO0_15.writes (Elt F) VO0_15.junk (runAt m c t).2.2.1)
def left16 : Vec F S128x128 .bf16 := VO0_16.read (Elt F) (VO0_16.writes (Elt F) VO0_16.junk (runAt m c t).2.2.2.1)
def left17 : Vec F S128x128 .bf16 := VO0_17.read (Elt F) (VO0_17.writes (Elt F) VO0_17.junk (runAt m c t).2.2.2.2.1)
def left18 : Vec F S128x512 .bf16 := VO0_18.read (Elt F) (VO0_18.writes (Elt F) VO0_18.junk (runAt m c t).2.2.2.2.2.1)
def left19 : Vec F S8x128 .f32 := VO0_19.read (Elt F) (VO0_19.writes (Elt F) VO0_19.junk (runAt m c t).2.2.2.2.2.2.1)
def left20 : Vec F S128x512 .f32 := VO0_20.read (Elt F) (VO0_20.writes (Elt F) VO0_20.junk (runAt m c t).2.2.2.2.2.2.2.1)
def left21 : Vec F S1x128x128 .f32 := VO0_21.read (Elt F) (VO0_21.writes (Elt F) VO0_21.junk (runAt m c t).2.2.2.2.2.2.2.2.1)
def left22 : Vec F S1x128x128 .f32 := VO0_22.read (Elt F) (VO0_22.writes (Elt F) VO0_22.junk (runAt m c t).2.2.2.2.2.2.2.2.2.1)
def left23 : Vec F S1x64x128 .f32 := VO0_23.read (Elt F) (VO0_23.writes (Elt F) VO0_23.junk (runAt m c t).2.2.2.2.2.2.2.2.2.2.1)

theorem cover13 (y : S128x512.Idx) : ∃ pc ∈ (runAt m c t).1, y ∈ pc.1.set :=
  View.cover_of_tiledL (runAt m c t).1 S128x512.size (by sl_kernel_rfl) y
theorem cover14 (y : S128x512.Idx) : ∃ pc ∈ (runAt m c t).2.1, y ∈ pc.1.set :=
  View.cover_of_tiledL (runAt m c t).2.1 S128x128.size (by sl_kernel_rfl) y
theorem cover15 (y : S128x256.Idx) : ∃ pc ∈ (runAt m c t).2.2.1, y ∈ pc.1.set :=
  View.cover_of_tiledL (runAt m c t).2.2.1 S128x128.size (by sl_kernel_rfl) y
theorem cover16 (y : S128x128.Idx) : ∃ pc ∈ (runAt m c t).2.2.2.1, y ∈ pc.1.set :=
  View.cover_of_tiledL (runAt m c t).2.2.2.1 S128x128.size (by sl_kernel_rfl) y
theorem cover17 (y : S128x128.Idx) : ∃ pc ∈ (runAt m c t).2.2.2.2.1, y ∈ pc.1.set :=
  View.cover_of_tiledL (runAt m c t).2.2.2.2.1 S128x128.size (by sl_kernel_rfl) y
theorem cover18 (y : S128x512.Idx) : ∃ pc ∈ (runAt m c t).2.2.2.2.2.1, y ∈ pc.1.set :=
  View.cover_of_tiledL (runAt m c t).2.2.2.2.2.1 S128x128.size (by sl_kernel_rfl) y
theorem cover19 (y : S8x128.Idx) : ∃ pc ∈ (runAt m c t).2.2.2.2.2.2.1, y ∈ pc.1.set :=
  View.cover_of_tiledL (runAt m c t).2.2.2.2.2.2.1 S8x128.size (by sl_kernel_rfl) y
theorem cover20 (y : S128x512.Idx) : ∃ pc ∈ (runAt m c t).2.2.2.2.2.2.2.1, y ∈ pc.1.set :=
  View.cover_of_tiledL (runAt m c t).2.2.2.2.2.2.2.1 S128x512.size (by sl_kernel_rfl) y
theorem cover21 (y : S1x128x128.Idx) : ∃ pc ∈ (runAt m c t).2.2.2.2.2.2.2.2.1, y ∈ pc.1.set :=
  View.cover_of_tiledL (runAt m c t).2.2.2.2.2.2.2.2.1 S1x128x128.size (by sl_kernel_rfl) y
theorem cover22 (y : S1x128x128.Idx) : ∃ pc ∈ (runAt m c t).2.2.2.2.2.2.2.2.2.1, y ∈ pc.1.set :=
  View.cover_of_tiledL (runAt m c t).2.2.2.2.2.2.2.2.2.1 S1x128x128.size (by sl_kernel_rfl) y
theorem cover23 (y : S1x64x128.Idx) : ∃ pc ∈ (runAt m c t).2.2.2.2.2.2.2.2.2.2.1, y ∈ pc.1.set :=
  View.cover_of_tiledL (runAt m c t).2.2.2.2.2.2.2.2.2.2.1 S1x64x128.size (by sl_kernel_rfl) y

omit t in
/-- The pipeline's data: the arrays as the region finds them, after the body the inputs' blocks and what the run left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨20, _⟩ => left20 m c t
    | ⟨21, _⟩ => left21 m c t
    | ⟨22, _⟩ => left22 m c t
    | ⟨23, _⟩ => left23 m c t
    | ⟨_ + 24, h⟩ => absurd h (Nat.not_lt.2 (Nat.le_add_left _ _))
  Φ _ := Pipeline.ΦA spec0 c
  q _ := fullShare
  owed _ := 0

omit t in
theorem A_eq (c : Dev nD) (w : Fin cfg0.W) : (dats m 0 c).A w = V m c (Pipeline.arrRef spec0 w) := by
  dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = left13 m c t := by dsimp only [dats]
theorem after14 : (dats m 0 c).after 14 t = left14 m c t := by dsimp only [dats]
theorem after15 : (dats m 0 c).after 15 t = left15 m c t := by dsimp only [dats]
theorem after16 : (dats m 0 c).after 16 t = left16 m c t := by dsimp only [dats]
theorem after17 : (dats m 0 c).after 17 t = left17 m c t := by dsimp only [dats]
theorem after18 : (dats m 0 c).after 18 t = left18 m c t := by dsimp only [dats]
theorem after19 : (dats m 0 c).after 19 t = left19 m c t := by dsimp only [dats]
theorem after20 : (dats m 0 c).after 20 t = left20 m c t := by dsimp only [dats]
theorem after21 : (dats m 0 c).after 21 t = left21 m c t := by dsimp only [dats]
theorem after22 : (dats m 0 c).after 22 t = left22 m c t := by dsimp only [dats]
theorem after23 : (dats m 0 c).after 23 t = left23 m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem before10 (d) : (dats m 0 c).before 10 t d = iblk m c 10 t :=
  before0_10_of m (dats m 0 c) (A_eq m c 10) (after10 m c) t d
theorem before11 (d) : (dats m 0 c).before 11 t d = iblk m c 11 t :=
  before0_11_of m (dats m 0 c) (A_eq m c 11) (after11 m c) t d
theorem before12 (d) : (dats m 0 c).before 12 t d = iblk m c 12 t :=
  before0_12_of m (dats m 0 c) (A_eq m c 12) (after12 m c) t d

/-- What the body is called with at point `t`. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 8000000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [
    before0, before1, before2, before3, before4, before5, before6, before7,
    before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7,
    after8, after9, after10, after11, after12, after13, after14, after15,
    after16, after17, after18, after19, after20, after21, after22, after23]
  rw [show (dats m 0 c).Φ t.castSucc = Pipeline.ΦA spec0 c from rfl, PhiA0_eq]
  unfold left13 left14 left15 left16 left17 left18 left19 left20 left21 left22 left23
  iintro ⟨⟨HS, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩, ⟨%d22, H22⟩, ⟨%d23, H23⟩⟩
  iapply ((runAt m c t).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS]; · iexact HS
  iintro ⟨
    H0, H1, H2, H3, H4, H5, H6, H7,
    H8, H9, H10, H11, H12, ⟨%e13, H13⟩, ⟨%e14, H14⟩, ⟨%e15, H15⟩,
    ⟨%e16, H16⟩, ⟨%e17, H17⟩, ⟨%e18, H18⟩, ⟨%e19, H19⟩, ⟨%e20, H20⟩, ⟨%e21, H21⟩, ⟨%e22, H22⟩, ⟨%e23, H23⟩,
    ⟨%f, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · unfold owns; iexists _; isplitr
    swap; · iexact H15
    ipureintro; exact View.read_writes_of_cover _ _ _ _ _ (cover15 m c t)
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  isplitl [H21]
  · unfold owns; iexists _; isplitr
    swap; · iexact H21
    ipureintro; exact View.read_writes_of_cover _ _ _ _ _ (cover21 m c t)
  isplitl [H22]
  · unfold owns; iexists _; isplitr
    swap; · iexact H22
    ipureintro; exact View.read_writes_of_cover _ _ _ _ _ (cover22 m c t)
  unfold owns; iexists _; isplitr
  swap; · iexact H23
  ipureintro; exact View.read_writes_of_cover _ _ _ _ _ (cover23 m c t)

theorem body_row : defs₀ (F := F) .tc cfg0.body (cfg0.bodyArgs t (cfg0.slots t)) = bodyAt0 t := by
  unfold defs₀; rw [Defs.onTc_tc]

omit t in
set_option maxHeartbeats 8000000 in
/-- The obligation of the pipeline: the body at every point. -/
theorem obligation : BodyObligation (dats (F := F) m 0 c) (defs₀ (F := F)) Variants.none () Set.univ := fun t => by
  rw [bigSep_W0, bigSep_W0, body_row]
  exact triple_restated (sound_body m c t) rfl .rfl fun _ => .rfl

omit c t

set_option backward.isDefEq.respectTransparency.types false in
set_option maxHeartbeats 8000000 in
/-- The launch, every semaphore at zero at its end. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

end Cert.MixSampleIdeal.Launched
-- ==== Proof.MixRow.lean ====
/-
  One token through the mixing projection: its features over their root mean square, scaled and projected; and the rotation of
  the first sixteen of sixty-four features by the angles of its position, the rest kept.
-/
module

public import proofs.«01_k».proof.Proof.SwigluRow

@[expose] public section

noncomputable section

namespace Cert.Mix

open Idealize.ShloMosaic

/-- One feature of the projected token. -/
def feature (x g w : Fin 1024 → EReal) : EReal := ∑ k, Swiglu.unitRow x g k * w k

/-- The first sixteen of sixty-four features rotated, the halves paired; the others kept. -/
def turned (y : Fin 64 → EReal) (cos sin : Fin 8 → EReal) (d : Fin 64) : EReal :=
  if h : d.val < 8 then y d * cos ⟨d.val, h⟩ - y ⟨d.val + 8, by omega⟩ * sin ⟨d.val, h⟩
  else if h : d.val < 16 then y d * cos ⟨d.val - 8, by omega⟩ + y ⟨d.val - 8, by omega⟩ * sin ⟨d.val - 8, by omega⟩
  else y d

/-- The tables a rotation by three products reads: the cosines with ones after them, the sines of the first half negated, and
    those of the second half, with zeros elsewhere. -/
def tableC (cos : Fin 8 → EReal) (d : ℕ) : EReal :=
  if h : d < 8 then cos ⟨d, h⟩ else if h : d < 16 then cos ⟨d - 8, by omega⟩ else 1
def tableA (sin : Fin 8 → EReal) (d : ℕ) : EReal := if h : d < 8 then -sin ⟨d, h⟩ else 0
def tableB (sin : Fin 8 → EReal) (d : ℕ) : EReal :=
  if h : d < 8 then 0 else if h : d < 16 then sin ⟨d - 8, by omega⟩ else 0

/-- Three products with the tables are the rotation: `y` at the feature, `ahead` eight later and `behind` eight before. -/
theorem turned_of_tables (y : Fin 64 → EReal) (cos sin : Fin 8 → EReal) (d : Fin 64) (ahead behind : EReal)
    (ha : ∀ h : d.val < 8, ahead = y ⟨d.val + 8, by omega⟩) (hb : ∀ h : 8 ≤ d.val, behind = y ⟨d.val - 8, by omega⟩) :
    y d * tableC cos d + ahead * tableA sin d + behind * tableB sin d = turned y cos sin d := by
  unfold turned tableC tableA tableB
  by_cases h8 : d.val < 8
  · simp only [h8, dif_pos, ha h8, mul_zero, add_zero]
    rw [mul_neg, ← sub_eq_add_neg]
  · by_cases h16 : d.val < 16
    · simp only [h8, h16, dif_neg, dif_pos, not_false_eq_true, mul_zero, add_zero, hb (Nat.le_of_not_lt h8)]
    · simp only [h8, h16, dif_neg, not_false_eq_true, mul_zero, add_zero, mul_one]

end Cert.Mix
-- ==== Proof.MixSampleReference.lean ====
/-
  The mixing of the sample step's tokens as the reference writes it, thirty-two sequences of four tokens: the projected tokens,
  their value features, their turned indexer keys and the inputs of the convolution that are kept; each read at an index.
-/
module

public import proofs.«01_k».proof.Proof.Gen.MixSampleReferenceIdeal.Run
public import proofs.«01_k».proof.Proof.MixRow
public import Idealize.ShloMosaic.Lib.Claim
public import Idealize.ShloMosaic.Lib.Pipeline.ValueKit

@[expose] public section

set_option maxRecDepth 16384

noncomputable section

namespace Cert.MixSampleReferenceIdeal.Value

open Cert.MixSampleReferenceIdeal Cert.MixSampleReferenceIdeal.Gen
open Idealize.ShloMosaic Idealize.ShloMosaic.TcCoe Idealize.SL.Sem

/-- The projected tokens. -/
def projected (x : FVec Ideal S128x1024 .f32) (g : FVec Ideal S1x1024 .f32) (w : FVec Ideal S1x1024x2888 .f32) :
    FVec Ideal S32x4x2888 .f32 :=
  Host.dotGeneral dot_S32x4x1024_S1024x2888_S32x4x2888_2_0_01_1_n_n none (mulf (mulf (shapeCast S32x4x1024 x
    shapeCasts_S128x1024_S32x4x1024) (broadcastInDim S32x4x1024 ![0, 1, 2] bcast_S32x4x1_S32x4x1024_0_1_2 (Host.rsqrt
    (addf (Host.divf (broadcastInDim S32x4x1 ![0, 1] bcast_S32x4_S32x4x1_0_1 (Host.reduceAdd (mulf (shapeCast
    S32x4x1024 x shapeCasts_S128x1024_S32x4x1024) (shapeCast S32x4x1024 x shapeCasts_S128x1024_S32x4x1024)) (constant
    S_ .f32 0x00000000#32) reducesTo_S32x4x1024_S32x4_d2 h_S_)) (broadcastInDim S32x4x1 ![] bcast_S_S32x4x1 (constant
    S_ .f32 0x44800000#32))) (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2]
    bcast_S1024_S1x1x1024_2 (shapeCast S1024 g shapeCasts_S1x1024_S1024)))) (shapeCast S1024x2888 w
    shapeCasts_S1x1024x2888_S1024x2888)

/-- Their value features, by head. -/
def valued (P : FVec Ideal S32x4x2888 .f32) : FVec Ideal S32x4x2x64 .f32 :=
  shapeCast S32x4x2x64 (extractStridedSlice S32x4x128 ![0, 0, 2176] P slices_S32x4x2888_S32x4x128_0_0_2176)
    shapeCasts_S32x4x128_S32x4x2x64

/-- The inputs of the convolution that are kept: those of the last two tokens of each sequence. -/
def kept (prev : FVec Ideal S1x32x2x512 .f32) (P : FVec Ideal S32x4x2888 .f32) : FVec Ideal S32x2x512 .f32 :=
  extractStridedSlice S32x2x512 ![0, 4, 0] (concatenate S32x6x512 1 [⟨S32x2x512, (shapeCast S32x2x512 prev
    shapeCasts_S1x32x2x512_S32x2x512)⟩, ⟨S32x4x512, (mulf (extractStridedSlice S32x4x512 ![0, 0, 512] P
    slices_S32x4x2888_S32x4x512_0_0_512) (extractStridedSlice S32x4x512 ![0, 0, 1024] P
    slices_S32x4x2888_S32x4x512_0_0_1024))⟩] concatenates_S32x2x512_S32x4x512_S32x6x512_d1)
    slices_S32x6x512_S32x2x512_0_4_0

/-- The features the indexer's keys are turned from. -/
def unturned (P : FVec Ideal S32x4x2888 .f32) : FVec Ideal S32x4x1x64 .f32 :=
  broadcastInDim S32x4x1x64 ![0, 1, 3] bcast_S32x4x64_S32x4x1x64_0_1_3 (extractStridedSlice S32x4x64 ![0, 0, 2816] P
    slices_S32x4x2888_S32x4x64_0_0_2816)

/-- The turned keys of the indexer, from the features and the angles of the four positions. -/
def turnedKeys (y : FVec Ideal S32x4x1x64 .f32) (cos sin : FVec Ideal S4x8 .f32) : FVec Ideal S32x4x64 .f32 :=
  shapeCast S32x4x64 (concatenate S32x4x1x64 3 [⟨S32x4x1x16, (concatenate S32x4x1x16 3 [⟨S32x4x1x8, (subf (mulf
    (extractStridedSlice S32x4x1x8 ![0, 0, 0, 0] y slices_S32x4x1x64_S32x4x1x8_0_0_0_0) (broadcastInDim S32x4x1x8 ![0,
    1, 2, 3] bcast_S1x4x1x8_S32x4x1x8_0_1_2_3 (broadcastInDim S1x4x1x8 ![1, 2, 3] bcast_S4x1x8_S1x4x1x8_1_2_3
    (broadcastInDim S4x1x8 ![0, 2] bcast_S4x8_S4x1x8_0_2 cos)))) (mulf (extractStridedSlice S32x4x1x8 ![0, 0, 0, 8] y
    slices_S32x4x1x64_S32x4x1x8_0_0_0_8) (broadcastInDim S32x4x1x8 ![0, 1, 2, 3] bcast_S1x4x1x8_S32x4x1x8_0_1_2_3
    (broadcastInDim S1x4x1x8 ![1, 2, 3] bcast_S4x1x8_S1x4x1x8_1_2_3 (broadcastInDim S4x1x8 ![0, 2]
    bcast_S4x8_S4x1x8_0_2 sin)))))⟩, ⟨S32x4x1x8, (addf (mulf (extractStridedSlice S32x4x1x8 ![0, 0, 0, 8] y
    slices_S32x4x1x64_S32x4x1x8_0_0_0_8) (broadcastInDim S32x4x1x8 ![0, 1, 2, 3] bcast_S1x4x1x8_S32x4x1x8_0_1_2_3
    (broadcastInDim S1x4x1x8 ![1, 2, 3] bcast_S4x1x8_S1x4x1x8_1_2_3 (broadcastInDim S4x1x8 ![0, 2]
    bcast_S4x8_S4x1x8_0_2 cos)))) (mulf (extractStridedSlice S32x4x1x8 ![0, 0, 0, 0] y
    slices_S32x4x1x64_S32x4x1x8_0_0_0_0) (broadcastInDim S32x4x1x8 ![0, 1, 2, 3] bcast_S1x4x1x8_S32x4x1x8_0_1_2_3
    (broadcastInDim S1x4x1x8 ![1, 2, 3] bcast_S4x1x8_S1x4x1x8_1_2_3 (broadcastInDim S4x1x8 ![0, 2]
    bcast_S4x8_S4x1x8_0_2 sin)))))⟩] concatenates_S32x4x1x8_S32x4x1x8_S32x4x1x16_d3)⟩, ⟨S32x4x1x48,
    (extractStridedSlice S32x4x1x48 ![0, 0, 0, 16] y slices_S32x4x1x64_S32x4x1x48_0_0_0_16)⟩]
    concatenates_S32x4x1x16_S32x4x1x48_S32x4x1x64_d3) shapeCasts_S32x4x1x64_S32x4x64

/-- A projected token is its row's features. -/
theorem projected_apply (x : FVec Ideal S128x1024 .f32) (g : FVec Ideal S1x1024 .f32) (w : FVec Ideal S1x1024x2888 .f32)
    (b : Fin 32) (t : Fin 4) (j : Fin 2888) : projected x g w (ix3 b t j) =
    Mix.feature (fun l => x (ix2 ⟨b.val * 4 + t.val, by omega⟩ l)) (fun l => g (ix2 0 l)) (fun k => w (ix3 0 k j)) := by
  pointwise [projected, Mix.feature, Swiglu.unitRow]

theorem valued_apply (P : FVec Ideal S32x4x2888 .f32) (b : Fin 32) (t : Fin 4) (h : Fin 2) (e : Fin 64) :
    valued P (ix4 b t h e) = P (ix3 b t ⟨2176 + (h.val * 64 + e.val), by omega⟩) := by
  pointwise [valued]

theorem kept_apply (prev : FVec Ideal S1x32x2x512 .f32) (P : FVec Ideal S32x4x2888 .f32) (b : Fin 32) (t : Fin 2) (l : Fin 512) :
    kept prev P (ix3 b t l) = P (ix3 b ⟨2 + t.val, by omega⟩ ⟨512 + l.val, by omega⟩) * P (ix3 b ⟨2 + t.val, by omega⟩ ⟨1024 + l.val, by omega⟩) := by
  pointwise [kept]
  rw [dif_neg (by omega)]
  have e : (⟨4 + t.val - 2, by omega⟩ : Fin 4) = ⟨2 + t.val, by omega⟩ := Fin.ext (by dsimp only; omega)
  rw [e]

theorem unturned_apply (P : FVec Ideal S32x4x2888 .f32) (b : Fin 32) (t : Fin 4) (e : Fin 64) :
    unturned P (ix4 b t 0 e) = P (ix3 b t ⟨2816 + e.val, by omega⟩) := by
  pointwise [unturned]

theorem turnedKeys_apply (y : FVec Ideal S32x4x1x64 .f32) (cos sin : FVec Ideal S4x8 .f32) (b : Fin 32) (t : Fin 4) (e : Fin 64) :
    turnedKeys y cos sin (ix3 b t e) = Mix.turned (fun d => y (ix4 b t 0 d)) (fun d => cos (ix2 t d)) (fun d => sin (ix2 t d)) e := by
  pointwise [turnedKeys, Mix.turned]
  by_cases h8 : e.val < 8
  · have i : (⟨8 + e.val, by omega⟩ : Fin 64) = ⟨e.val + 8, by omega⟩ := Fin.ext (Nat.add_comm _ _)
    rw [dif_pos (by omega), dif_pos h8, dif_pos h8, i]
  · by_cases h16 : e.val < 16
    · have i : (⟨8 + (e.val - 8), by omega⟩ : Fin 64) = e := Fin.ext (by dsimp only; omega)
      rw [dif_pos h16, dif_neg h8, dif_neg h8, dif_pos h16, i]
    · have i : (⟨16 + (e.val - 16), by omega⟩ : Fin 64) = e := Fin.ext (by dsimp only; omega)
      rw [dif_neg h16, dif_neg h8, dif_neg h16, i]

/-- The three results over arguments. -/
abbrev resultV (m : (ℓ : Loc nD τ sig) → Buf (Elt Ideal) ℓ) (c : Dev nD) : FVec Ideal S32x4x2x64 .f32 :=
  valued (projected (m ((c.tc : Thread nD τ).loc main_arg0)) (m ((c.tc : Thread nD τ).loc main_arg2)) (m ((c.tc : Thread nD τ).loc main_arg3)))
abbrev resultKeys (m : (ℓ : Loc nD τ sig) → Buf (Elt Ideal) ℓ) (c : Dev nD) : FVec Ideal S32x4x64 .f32 :=
  turnedKeys (unturned (projected (m ((c.tc : Thread nD τ).loc main_arg0)) (m ((c.tc : Thread nD τ).loc main_arg2))
    (m ((c.tc : Thread nD τ).loc main_arg3)))) (m ((c.tc : Thread nD τ).loc main_arg8)) (m ((c.tc : Thread nD τ).loc main_arg9))
abbrev resultKept (m : (ℓ : Loc nD τ sig) → Buf (Elt Ideal) ℓ) (c : Dev nD) : FVec Ideal S32x2x512 .f32 :=
  kept (m ((c.tc : Thread nD τ).loc main_arg1))
    (projected (m ((c.tc : Thread nD τ).loc main_arg0)) (m ((c.tc : Thread nD τ).loc main_arg2)) (m ((c.tc : Thread nD τ).loc main_arg3)))

/-- The run, its results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = resultV m c
      ∧ r.2.mem ((c.tc : Thread nD τ).loc main_v57) = resultKeys m c
      ∧ r.2.mem ((c.tc : Thread nD τ).loc main_v33) = resultKept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans rfl, (h c).2.1.trans rfl, (h c).2.2.1.trans rfl, (h c).2.2.2⟩) (run m ρ)

end Cert.MixSampleReferenceIdeal.Value
-- ==== Proof.MixSampleValue.lean ====
/-
  The sample step's mixing call: what it leaves of a token's value features, its turned indexer key and its convolution
  inputs, against the reference.
-/
module

public import proofs.«01_k».proof.Defs
public import proofs.«01_k».proof.Proof.MixSampleLaunch
public import proofs.«01_k».proof.Proof.MixSampleReference
public import proofs.«01_k».proof.Proof.MixRow
public import Idealize.ShloMosaic.Lib.Claim
public import Idealize.ShloMosaic.Lib.Pipeline.ValueKit

@[expose] public section

set_option maxRecDepth 16384

noncomputable section

namespace Cert.MixSampleIdeal.Value

open Cert.MixSampleIdeal Cert.MixSampleIdeal.Gen Cert.MixSampleIdeal.Launched
open Idealize.ShloMosaic Idealize.ShloMosaic.TcCoe Idealize.SL.Sem

section Stored

variable (x : Vec Ideal S128x1024 .f32) (g : Vec Ideal S1x1024 .f32) (w : Vec Ideal S1024x2944 .bf16)
  (ca sa sb : Vec Ideal S128x128 .f32) (r : Fin 128)

/-- A feature of a projected token. -/
theorem proj_apply (j : Fin 2944) : k0_pay7 x g w (ix2 r j) = Mix.feature (fun l => x (ix2 r l)) (fun l => g (ix2 0 l))
    (fun k => w (ix2 k j)) := by
  pointwise [k0_pay7, Mix.feature, Swiglu.unitRow]

/-- The convolution's input of a token: a product of two of its features. -/
theorem inputs_apply (l : Fin 512) : k0_pay9 x g w (ix2 r l) =
    k0_pay7 x g w (ix2 r ⟨512 + l.val, by omega⟩) * k0_pay7 x g w (ix2 r ⟨1024 + l.val, by omega⟩) := by
  unfold k0_pay9
  generalize k0_pay7 x g w = P
  pointwise

/-- The value features, stored with the tokens along the lanes. -/
theorem values_apply (P : FVec Ideal S128x2944 .f32) (e : Fin 128) :
    k0_pay44 P (ix3 0 e r) = P (ix2 r ⟨2176 + e.val, by omega⟩) := by
  pointwise [k0_pay44, k0_pay43]

/-- The first sixty-four lanes are those the indexer's key is turned on. -/
theorem lane : ∀ e : Fin 64, IntOp.cmpi CmpIPredicate.slt (BitVec.ofNat 32 e.val) 64#32 = 1#1 := by decide

/-- The indexer's turned key, stored with the tokens along the lanes: three products with the tables. -/
theorem keys_apply (P : FVec Ideal S128x2944 .f32) (e : Fin 64) :
    k0_pay4 (k0_pay14 ca) (k0_pay15 sa) (k0_pay16 sb) (k0_pay46 (iota .tc S128x128 32 [1] iota_S128x128_d1_w32)) (k0_pay47 P) (ix3 0 e r) =
      P (ix2 r ⟨2816 + e.val, by omega⟩) * ca (ix2 r ⟨e.val, by omega⟩)
        + P (ix2 r ⟨2816 + (e.val + 128 - 120) % 128, by omega⟩) * sa (ix2 r ⟨e.val, by omega⟩)
        + P (ix2 r ⟨2816 + (e.val + 128 - 8) % 128, by omega⟩) * sb (ix2 r ⟨e.val, by omega⟩) := by
  pointwise [k0_pay4, k0_pay3, k0_pay1, k0_pay14, k0_pay15, k0_pay16, k0_pay46, k0_pay47]
  simp only [lane e]
  rfl

end Stored

/-- The angles' cosines or sines, a row for each token. -/
def angles (a : FVec Ideal S4x8 .f32) : FVec Ideal S128x8 .f32 :=
  shapeCast S128x8 (broadcastInDim S32x4x1x8 ![0, 1, 2, 3] bcast_S1x4x1x8_S32x4x1x8_0_1_2_3
    (shapeCast S1x4x1x8 a shapeCasts_S4x8_S1x4x1x8)) shapeCasts_S32x4x1x8_S128x8

/-- A table of one hundred and twenty-eight lanes: sixty-four, from three pieces, twice. -/
def table (a b : FVec Ideal S128x8 .f32) (k : FVec Ideal S128x48 .f32) : FVec Ideal S128x128 .f32 :=
  concatenate S128x128 1
    [⟨S128x64, concatenate S128x64 1 [⟨S128x8, a⟩, ⟨S128x8, b⟩, ⟨S128x48, k⟩] concatenates_S128x8_S128x8_S128x48_S128x64_d1⟩,
     ⟨S128x64, concatenate S128x64 1 [⟨S128x8, a⟩, ⟨S128x8, b⟩, ⟨S128x48, k⟩] concatenates_S128x8_S128x8_S128x48_S128x64_d1⟩]
    concatenates_S128x64_S128x64_S128x128_d1

def zeros8 : FVec Ideal S128x8 .f32 := broadcastInDim S128x8 ![] bcast_S_S128x8 (constant S_ .f32 0x00000000#32)
def zeros48 : FVec Ideal S128x48 .f32 := broadcastInDim S128x48 ![] bcast_S_S128x48 (constant S_ .f32 0x00000000#32)
def ones48 : FVec Ideal S128x48 .f32 := broadcastInDim S128x48 ![] bcast_S_S128x48 (constant S_ .f32 0x3F800000#32)

theorem table_cos (a : FVec Ideal S4x8 .f32) (r : Fin 128) (e : Fin 64) : table (angles a) (angles a) ones48 (ix2 r ⟨e.val, by omega⟩) =
    Mix.tableC (fun d => a (ix2 ⟨r.val % 4, Nat.mod_lt _ (by decide)⟩ d)) e.val := by
  pointwise [table, angles, ones48, Mix.tableC]
  simp only [show e.val - 8 < 8 ↔ e.val < 16 by omega]

theorem table_ahead (a : FVec Ideal S4x8 .f32) (r : Fin 128) (e : Fin 64) :
    table (Host.negf (angles a)) zeros8 zeros48 (ix2 r ⟨e.val, by omega⟩) =
      Mix.tableA (fun d => a (ix2 ⟨r.val % 4, Nat.mod_lt _ (by decide)⟩ d)) e.val := by
  pointwise [table, angles, zeros8, zeros48, Mix.tableA]
  simp only [dite_eq_ite, ite_self]

theorem table_behind (a : FVec Ideal S4x8 .f32) (r : Fin 128) (e : Fin 64) :
    table zeros8 (angles a) zeros48 (ix2 r ⟨e.val, by omega⟩) =
      Mix.tableB (fun d => a (ix2 ⟨r.val % 4, Nat.mod_lt _ (by decide)⟩ d)) e.val := by
  pointwise [table, angles, zeros8, zeros48, Mix.tableB]
  simp only [show e.val - 8 < 8 ↔ e.val < 16 by omega]

/-- Where the windows stand at the one point. -/
theorem idx : ∀ t : Fin grid0.N, win0_0.index t = ![0, 0] ∧ win0_1.index t = ![0, 0] ∧ win0_2.index t = ![0, 0]
    ∧ win0_8.index t = ![0, 0] ∧ win0_9.index t = ![0, 0] ∧ win0_10.index t = ![0, 0]
    ∧ win0_20.index t = ![0, 0] ∧ win0_22.index t = ![0, 0, 0] ∧ win0_23.index t = ![0, 0, 0] := by decide +kernel

variable (m : (ℓ : Loc nD τ sig) → Buf (Elt Ideal) ℓ) (c : Dev nD)

/-- The arguments by name. -/
abbrev argX : FVec Ideal S128x1024 .f32 := m ((c.tc : Thread nD τ).loc main_arg0)
abbrev argG : FVec Ideal S1x1024 .f32 := m ((c.tc : Thread nD τ).loc main_arg2)
abbrev argW : FVec Ideal S1x1024x2888 .f32 := m ((c.tc : Thread nD τ).loc main_arg3)
abbrev argCos : FVec Ideal S4x8 .f32 := m ((c.tc : Thread nD τ).loc main_arg8)
abbrev argSin : FVec Ideal S4x8 .f32 := m ((c.tc : Thread nD τ).loc main_arg9)

/-- The tokens as the region finds them. -/
theorem entry_x : (V m c main_arg0 : S128x1024.Idx → EReal) = argX m c := by
  show StableHlo.after [hostOps0, hostOps0_1, hostOps0_2].flatten (fun b => m (c, b)) (Proc.tc.devRef main_arg0) = _
  simp only [List.flatten_cons, List.flatten_nil, List.append_nil, List.cons_append, List.nil_append]
  after_results

/-- The gain as the region finds it. -/
theorem entry_g : (V m c main_v30 : S1x1024.Idx → EReal) = broadcastInDim S1x1024 ![1] bcast_S1024_S1x1024_1 (shapeCast S1024 (argG m c) shapeCasts_S1x1024_S1024) := by
  show StableHlo.after [hostOps0, hostOps0_1, hostOps0_2].flatten (fun b => m (c, b)) (Proc.tc.devRef main_v30) = _
  simp only [List.flatten_cons, List.flatten_nil, List.append_nil, List.cons_append, List.nil_append]
  after_results
  rfl

/-- The weights as the region finds them: columns of zeros after them. -/
theorem entry_w : (V m c main_v28 : S1024x2944.Idx → EReal) = pad S1024x2944 ![0, 0] ![0, 56] ![0, 0]
    (shapeCast S1024x2888 (argW m c) shapeCasts_S1x1024x2888_S1024x2888) (sitofp (F := Ideal) .f32 (constantI S_ 32 0#32)) pads_S1024x2888_S1024x2944_000_0560 h_S_ := by
  show StableHlo.after [hostOps0, hostOps0_1, hostOps0_2].flatten (fun b => m (c, b)) (Proc.tc.devRef main_v28) = _
  simp only [List.flatten_cons, List.flatten_nil, List.append_nil, List.cons_append, List.nil_append]
  after_results
  rfl

/-- The table of cosines as the region finds it. -/
theorem entry_cos : (V m c main_v13 : S128x128.Idx → EReal) = table (angles (argCos m c)) (angles (argCos m c)) ones48 := by
  show StableHlo.after [hostOps0, hostOps0_1, hostOps0_2].flatten (fun b => m (c, b)) (Proc.tc.devRef main_v13) = _
  simp only [List.flatten_cons, List.flatten_nil, List.append_nil, List.cons_append, List.nil_append]
  after_results
  rfl

/-- The table for the features ahead. -/
theorem entry_ahead : (V m c main_v14 : S128x128.Idx → EReal) = table (Host.negf (angles (argSin m c))) zeros8 zeros48 := by
  show StableHlo.after [hostOps0, hostOps0_1, hostOps0_2].flatten (fun b => m (c, b)) (Proc.tc.devRef main_v14) = _
  simp only [List.flatten_cons, List.flatten_nil, List.append_nil, List.cons_append, List.nil_append]
  after_results
  rfl

/-- The table for the features behind. -/
theorem entry_behind : (V m c main_v15 : S128x128.Idx → EReal) = table zeros8 (angles (argSin m c)) zeros48 := by
  show StableHlo.after [hostOps0, hostOps0_1, hostOps0_2].flatten (fun b => m (c, b)) (Proc.tc.devRef main_v15) = _
  simp only [List.flatten_cons, List.flatten_nil, List.append_nil, List.cons_append, List.nil_append]
  after_results
  rfl

theorem read_x (t : Fin cfg0.N) (r : Fin 128) (l : Fin 1024) : iblk m c 0 t (ix2 r l) = argX m c (ix2 r l) := by
  have hp : ((cfg0.win 0).blk t).view.emb (ix2 r l) = (ix2 r l) := by blk_ext [idx t]
  refine (congrArg (V m c main_arg0 : S128x1024.Idx → EReal) hp).trans ?_
  rw [entry_x]
  skip

theorem read_g (t : Fin cfg0.N) (l : Fin 1024) : iblk m c 1 t (ix2 0 l) = argG m c (ix2 0 l) := by
  have hp : ((cfg0.win 1).blk t).view.emb (ix2 0 l) = (ix2 0 l) := by blk_ext [idx t]
  refine (congrArg (V m c main_v30 : S1x1024.Idx → EReal) hp).trans ?_
  rw [entry_g]
  pointwise

theorem read_w (t : Fin cfg0.N) (k : Fin 1024) (j : Fin 2888) : iblk m c 2 t (ix2 k ⟨j.val, by omega⟩) = argW m c (ix3 0 k j) := by
  have hp : ((cfg0.win 2).blk t).view.emb (ix2 k ⟨j.val, by omega⟩) = (ix2 k ⟨j.val, by omega⟩) := by blk_ext [idx t]
  refine (congrArg (V m c main_v28 : S1024x2944.Idx → EReal) hp).trans ?_
  rw [entry_w]
  pointwise

theorem read_cos (t : Fin cfg0.N) (r : Fin 128) (e : Fin 64) : iblk m c 8 t (ix2 r ⟨e.val, by omega⟩) = Mix.tableC (fun d => argCos m c (ix2 ⟨r.val % 4, Nat.mod_lt _ (by decide)⟩ d)) e.val := by
  have hp : ((cfg0.win 8).blk t).view.emb (ix2 r ⟨e.val, by omega⟩) = (ix2 r ⟨e.val, by omega⟩) := by blk_ext [idx t]
  refine (congrArg (V m c main_v13 : S128x128.Idx → EReal) hp).trans ?_
  rw [entry_cos]
  exact table_cos _ r e

theorem read_ahead (t : Fin cfg0.N) (r : Fin 128) (e : Fin 64) : iblk m c 9 t (ix2 r ⟨e.val, by omega⟩) = Mix.tableA (fun d => argSin m c (ix2 ⟨r.val % 4, Nat.mod_lt _ (by decide)⟩ d)) e.val := by
  have hp : ((cfg0.win 9).blk t).view.emb (ix2 r ⟨e.val, by omega⟩) = (ix2 r ⟨e.val, by omega⟩) := by blk_ext [idx t]
  refine (congrArg (V m c main_v14 : S128x128.Idx → EReal) hp).trans ?_
  rw [entry_ahead]
  exact table_ahead _ r e

theorem read_behind (t : Fin cfg0.N) (r : Fin 128) (e : Fin 64) : iblk m c 10 t (ix2 r ⟨e.val, by omega⟩) = Mix.tableB (fun d => argSin m c (ix2 ⟨r.val % 4, Nat.mod_lt _ (by decide)⟩ d)) e.val := by
  have hp : ((cfg0.win 10).blk t).view.emb (ix2 r ⟨e.val, by omega⟩) = (ix2 r ⟨e.val, by omega⟩) := by blk_ext [idx t]
  refine (congrArg (V m c main_v15 : S128x128.Idx → EReal) hp).trans ?_
  rw [entry_behind]
  exact table_behind _ r e

/-- The features of a token of the arguments. -/
def token (r : Fin 128) (j : Fin 2888) : EReal :=
  Mix.feature (fun l => argX m c (ix2 r l)) (fun l => argG m c (ix2 0 l)) (fun k => argW m c (ix3 0 k j))

theorem proj_read (t : Fin cfg0.N) (r : Fin 128) (j : Fin 2888) :
    k0_pay7 (iblk m c 0 t) (iblk m c 1 t) (iblk m c 2 t) (ix2 r ⟨j.val, by omega⟩) = token m c r j := by
  refine (proj_apply _ _ _ _ _).trans ?_
  unfold token
  congr 1
  · exact funext fun l => read_x m c t r l
  · exact funext fun l => read_g m c t l
  · exact funext fun k => read_w m c t k j

/-- The angles of a token's position, and its turned key. -/
def key (r : Fin 128) (e : Fin 64) : EReal :=
  Mix.turned (fun d => token m c r ⟨2816 + d.val, by omega⟩) (fun d => argCos m c (ix2 ⟨r.val % 4, Nat.mod_lt _ (by decide)⟩ d))
    (fun d => argSin m c (ix2 ⟨r.val % 4, Nat.mod_lt _ (by decide)⟩ d)) e

/-- Three products with the tables, from a token's features, are its turned key. -/
theorem key_of (P : FVec Ideal S128x2944 .f32) (r : Fin 128) (e : Fin 64)
    (hP : ∀ j : Fin 2888, P (ix2 r ⟨j.val, by omega⟩) = token m c r j) :
    P (ix2 r ⟨2816 + e.val, by omega⟩) * Mix.tableC (fun d => argCos m c (ix2 ⟨r.val % 4, Nat.mod_lt _ (by decide)⟩ d)) e.val
      + P (ix2 r ⟨2816 + (e.val + 128 - 120) % 128, by omega⟩)
        * Mix.tableA (fun d => argSin m c (ix2 ⟨r.val % 4, Nat.mod_lt _ (by decide)⟩ d)) e.val
      + P (ix2 r ⟨2816 + (e.val + 128 - 8) % 128, by omega⟩)
        * Mix.tableB (fun d => argSin m c (ix2 ⟨r.val % 4, Nat.mod_lt _ (by decide)⟩ d)) e.val = key m c r e := by
  rw [hP ⟨2816 + e.val, by omega⟩]
  refine Mix.turned_of_tables (fun d => token m c r ⟨2816 + d.val, by omega⟩) _ _ e _ _ (fun h => ?_) (fun h => ?_)
  · have i : (⟨2816 + (e.val + 128 - 120) % 128, by omega⟩ : Fin 2944) = ⟨2816 + (e.val + 8), by omega⟩ := Fin.ext (by dsimp only; omega)
    rw [i]
    exact hP ⟨2816 + (e.val + 8), by omega⟩
  · have i : (⟨2816 + (e.val + 128 - 8) % 128, by omega⟩ : Fin 2944) = ⟨2816 + (e.val - 8), by omega⟩ := Fin.ext (by dsimp only; omega)
    rw [i]
    exact hP ⟨2816 + (e.val - 8), by omega⟩

/-- The arrays the kernel leaves. -/
def inputsLeft : FVec Ideal S128x512 .f32 := fun y =>
  token m c (y 0) ⟨512 + (y 1).val, by have := (y 1).isLt; change (y 1).val < 512 at this; omega⟩
    * token m c (y 0) ⟨1024 + (y 1).val, by have := (y 1).isLt; change (y 1).val < 512 at this; omega⟩
def valuesLeft : FVec Ideal S1x128x128 .f32 := fun y =>
  token m c (y 2) ⟨2176 + (y 1).val, by have := (y 1).isLt; change (y 1).val < 128 at this; omega⟩
def keysLeft : FVec Ideal S1x64x128 .f32 := fun y => key m c (y 2) (y 1)

theorem place20 (t : Fin cfg0.N) (r : Fin 128) (l : Fin 512) : ((cfg0.win 20).blk t).view.emb (ix2 r l) = ix2 r l := by
  blk_ext [idx t]
theorem place22 (t : Fin cfg0.N) (e r : Fin 128) : ((cfg0.win 22).blk t).view.emb (ix3 0 e r) = ix3 0 e r := by
  blk_ext [idx t]
theorem place23 (t : Fin cfg0.N) (e : Fin 64) (r : Fin 128) : ((cfg0.win 23).blk t).view.emb (ix3 0 e r) = ix3 0 e r := by
  blk_ext [idx t]

/-- The convolution's inputs. -/
theorem left_inputs : (dats m 0 c).arrAt 20 cfg0.N = inputsLeft m c := by
  refine (dats m 0 c).arrAt_eq_of_covers 20 _ (by decide +kernel) fun t hf y => ?_
  blk_simp
  rw [after20]
  unfold left20 runAt
  frame_out
  idx_vars y
  refine (inputs_apply _ _ _ y0 y1).trans ?_
  refine Eq.trans ?_ (congrArg (inputsLeft m c) (place20 t y0 y1)).symm
  exact congrArg₂ (· * ·) (proj_read m c t y0 ⟨512 + y1.val, by omega⟩) (proj_read m c t y0 ⟨1024 + y1.val, by omega⟩)

/-- The value features. -/
theorem left_values : (dats m 0 c).arrAt 22 cfg0.N = valuesLeft m c := by
  refine (dats m 0 c).arrAt_eq_of_covers 22 _ (by decide +kernel) fun t hf y => ?_
  blk_simp
  rw [after22]
  unfold left22 runAt
  frame_out
  idx_vars y
  obtain rfl : y0 = 0 := Subsingleton.elim _ _
  refine (values_apply _ _ _).trans ?_
  refine Eq.trans ?_ (congrArg (valuesLeft m c) (place22 t y1 y2)).symm
  exact proj_read m c t y2 ⟨2176 + y1.val, by omega⟩

/-- The turned keys. -/
theorem left_keys : (dats m 0 c).arrAt 23 cfg0.N = keysLeft m c := by
  refine (dats m 0 c).arrAt_eq_of_covers 23 _ (by decide +kernel) fun t hf y => ?_
  blk_simp
  rw [after23]
  unfold left23 runAt
  frame_out
  idx_vars y
  obtain rfl : y0 = 0 := Subsingleton.elim _ _
  refine (keys_apply _ _ _ _ _ _).trans ?_
  refine Eq.trans ?_ (congrArg (keysLeft m c) (place23 t y1 y2)).symm
  rw [read_cos, read_ahead, read_behind]
  exact key_of m c _ y2 y1 (proj_read m c t y2)

/-- What the operations after the region leave of the three arrays. -/
theorem tail_values : (Pipeline.afterTail₀ cfgs (dats m) 0 (V0 m) [hostOps1] c main_v46 : S32x4x2x64.Idx → EReal) =
    shapeCast S32x4x2x64 (shapeCast S32x4x128 (transpose S128x128 [1, 0] (shapeCast S128x128 (valuesLeft m c)
      shapeCasts_S1x128x128_S128x128) transposes_S128x128_S128x128_1_0) shapeCasts_S128x128_S32x4x128) shapeCasts_S32x4x128_S32x4x2x64 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v40_9) =
    valuesLeft m c from (Pipeline.Dat.withArrays_arrAt (dats m 0 c) (by decide) _ (fun _ => rfl) 22).trans (left_values m c)]
  rfl

theorem tail_keys : (Pipeline.afterTail₀ cfgs (dats m) 0 (V0 m) [hostOps1] c main_v49 : S32x4x64.Idx → EReal) =
    shapeCast S32x4x64 (transpose S128x64 [1, 0] (shapeCast S64x128 (keysLeft m c) shapeCasts_S1x64x128_S64x128)
      transposes_S64x128_S128x64_1_0) shapeCasts_S128x64_S32x4x64 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v40_10) =
    keysLeft m c from (Pipeline.Dat.withArrays_arrAt (dats m 0 c) (by decide) _ (fun _ => rfl) 23).trans (left_keys m c)]
  rfl

theorem tail_kept : (Pipeline.afterTail₀ cfgs (dats m) 0 (V0 m) [hostOps1] c main_v42 : S32x2x512.Idx → EReal) =
    extractStridedSlice S32x2x512 ![0, 2, 0] (shapeCast S32x4x512 (inputsLeft m c) shapeCasts_S128x512_S32x4x512)
      slices_S32x4x512_S32x2x512_0_2_0 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v40_7) =
    inputsLeft m c from (Pipeline.Dat.withArrays_arrAt (dats m 0 c) (by decide) _ (fun _ => rfl) 20).trans (left_inputs m c)]
  rfl

/-- The reference's three results over the kernel's arguments. -/
abbrev resultV : FVec Ideal S32x4x2x64 .f32 :=
  Cert.MixSampleReferenceIdeal.Value.valued (Cert.MixSampleReferenceIdeal.Value.projected (argX m c) (argG m c) (argW m c))
abbrev resultKeys : FVec Ideal S32x4x64 .f32 :=
  Cert.MixSampleReferenceIdeal.Value.turnedKeys (Cert.MixSampleReferenceIdeal.Value.unturned
    (Cert.MixSampleReferenceIdeal.Value.projected (argX m c) (argG m c) (argW m c))) (argCos m c) (argSin m c)
abbrev resultKept : FVec Ideal S32x2x512 .f32 :=
  Cert.MixSampleReferenceIdeal.Value.kept (m ((c.tc : Thread nD τ).loc main_arg1))
    (Cert.MixSampleReferenceIdeal.Value.projected (argX m c) (argG m c) (argW m c))

theorem values_eq : (Pipeline.afterTail₀ cfgs (dats m) 0 (V0 m) [hostOps1] c main_v46 : S32x4x2x64.Idx → EReal) = resultV m c := by
  rw [tail_values]
  funext y
  idx_vars y
  refine Eq.trans (b := valuesLeft m c (ix3 0 ⟨y2.val * 64 + y3.val, by omega⟩ ⟨y0.val * 4 + y1.val, by omega⟩)) ?_ ?_
  · generalize valuesLeft m c = A
    pointwise
  · refine Eq.trans ?_ (Cert.MixSampleReferenceIdeal.Value.valued_apply _ y0 y1 y2 y3).symm
    exact (Cert.MixSampleReferenceIdeal.Value.projected_apply _ _ _ y0 y1 _).symm

theorem kept_eq : (Pipeline.afterTail₀ cfgs (dats m) 0 (V0 m) [hostOps1] c main_v42 : S32x2x512.Idx → EReal) = resultKept m c := by
  rw [tail_kept]
  funext y
  idx_vars y
  refine Eq.trans (b := inputsLeft m c (ix2 ⟨y0.val * 4 + (2 + y1.val), by omega⟩ y2)) ?_ ?_
  · generalize inputsLeft m c = A
    pointwise
  · refine Eq.trans ?_ (Cert.MixSampleReferenceIdeal.Value.kept_apply _ _ y0 y1 y2).symm
    exact congrArg₂ (· * ·) (Cert.MixSampleReferenceIdeal.Value.projected_apply _ _ _ y0 ⟨2 + y1.val, by omega⟩ _).symm
      (Cert.MixSampleReferenceIdeal.Value.projected_apply _ _ _ y0 ⟨2 + y1.val, by omega⟩ _).symm

theorem keys_eq : (Pipeline.afterTail₀ cfgs (dats m) 0 (V0 m) [hostOps1] c main_v49 : S32x4x64.Idx → EReal) = resultKeys m c := by
  rw [tail_keys]
  funext y
  idx_vars y
  refine Eq.trans (b := keysLeft m c (ix3 0 y2 ⟨y0.val * 4 + y1.val, by omega⟩)) ?_ ?_
  · generalize keysLeft m c = A
    pointwise
  · refine Eq.trans ?_ (Cert.MixSampleReferenceIdeal.Value.turnedKeys_apply _ _ _ y0 y1 y2).symm
    show key m c ⟨y0.val * 4 + y1.val, by omega⟩ y2 = _
    have hp : (⟨(y0.val * 4 + y1.val) % 4, Nat.mod_lt _ (by decide)⟩ : Fin 4) = y1 := Fin.ext (by dsimp only; omega)
    unfold key
    simp only [hp]
    refine congrArg (fun y => Mix.turned y _ _ y2) (funext fun d => ?_)
    refine Eq.trans ?_ (Cert.MixSampleReferenceIdeal.Value.unturned_apply _ y0 y1 d).symm
    exact (Cert.MixSampleReferenceIdeal.Value.projected_apply _ _ _ y0 y1 _).symm

/-- The kernel's run: the reference's three results over the same arguments, which stand. -/
theorem run_named (ρ : Dev nD → PrngReg) :
    θ_run defs (onTc (τ := τ) (main (F := Ideal))) ⟨m, fun _ => 0, ρ⟩ fun r => ∀ c : Dev nD,
      r.2.mem ((c.tc : Thread nD τ).loc main_v46) = resultV m c
      ∧ r.2.mem ((c.tc : Thread nD τ).loc main_v49) = resultKeys m c
      ∧ r.2.mem ((c.tc : Thread nD τ).loc main_v42) = resultKept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h.1 c).2 main_v46 (Pipeline.mem_restRefs_of main_v46 (by decide) (by decide))).trans (values_eq m c),
      ((h.1 c).2 main_v49 (Pipeline.mem_restRefs_of main_v49 (by decide) (by decide))).trans (keys_eq m c),
      ((h.1 c).2 main_v42 (Pipeline.mem_restRefs_of main_v42 (by decide) (by decide))).trans (kept_eq m c), h.2 c⟩)
    (θ_run_and (run m ρ) (frame_of m ρ (dats m) (A_eq m) (run m ρ)))

theorem equal : Cert.algebraic_MixSampleIdeal_MixSampleReferenceIdeal := by
  intro m g m' g' _ hagree
  refine ⟨fun c => resultV m c, fun c => resultKeys m c, fun c => resultKept m c, run_named m g, ?_⟩
  refine (θ_run Cert.MixSampleReferenceIdeal.defs _ _).mono (fun r h c => ?_) (Cert.MixSampleReferenceIdeal.Value.run_named m' g')
  obtain ⟨h0, h1, h2, h3, h4, h5, h6, h7, h8, h9⟩ := hagree c
  refine ⟨(h c).1.trans ?_, (h c).2.1.trans ?_, (h c).2.2.1.trans ?_, (h c).2.2.2⟩
  · unfold Cert.MixSampleReferenceIdeal.Value.resultV
    rw [h0, h2, h3]
  · unfold Cert.MixSampleReferenceIdeal.Value.resultKeys
    rw [h0, h2, h3, h8, h9]
  · unfold Cert.MixSampleReferenceIdeal.Value.resultKept
    rw [h0, h1, h2, h3]

end Cert.MixSampleIdeal.Value
-- ==== Proof.MixLaunch.lean ====
/-
  The launch of the prompt's mixing call: 65 points over 64 row tiles. At point `t` the body writes the projection of tile
  `t` into one of two scratch buffers and works up the other, which holds tile `t - 1`. Three kinds of point: the first,
  the odd ones, the even ones after the first. What each buffer holds after each point, the body's obligation, the run.
-/
module

public import proofs.«01_k».proof.Proof.Gen.MixIdeal.Frame.RunA
public import proofs.«01_k».proof.Proof.Gen.MixIdeal.Frame.RunB
public import proofs.«01_k».proof.Proof.Gen.MixIdeal.Frame.RunC
public import Idealize.ShloMosaic.Lib.Claim

@[expose] public section

set_option maxRecDepth 16384

noncomputable section

namespace Cert.MixIdeal.Launched

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The contents of the three scratch buffers: the extended inputs of the convolution, and the two projections. -/
abbrev Bufs (F : FTy → Type) : Type := Vec F S520x512 .f32 × Vec F S512x2944 .f32 × Vec F S512x2944 .f32

/-- A point is the first, an odd one, or an even one after the first. -/
theorem first (h : t.val = 0) : cond0_0 (grid0.coords t) ∧ cond0_1 (grid0.coords t) ∧ cond0_2 (grid0.coords t) ∧ ¬cond0_3 (grid0.coords t) :=
  ⟨(hcond0_0 t).mpr (by omega), (hcond0_1 t).mpr (by omega), (hcond0_2 t).mpr (by omega), fun h3 => by have := (hcond0_3 t).mp h3; omega⟩

theorem odd (h : t.val % 2 = 1) : ¬cond0_0 (grid0.coords t) ∧ ¬cond0_1 (grid0.coords t) ∧ ¬cond0_2 (grid0.coords t) ∧ cond0_3 (grid0.coords t) :=
  have hN : t.val < 65 := Nat.lt_of_lt_of_eq t.isLt N_0
  ⟨fun h3 => by have := (hcond0_0 t).mp h3; omega, fun h3 => by have := (hcond0_1 t).mp h3; omega,
    fun h3 => by have := (hcond0_2 t).mp h3; omega, (hcond0_3 t).mpr h⟩

theorem even (h : t.val ≠ 0) (h' : ¬ t.val % 2 = 1) : ¬cond0_0 (grid0.coords t) ∧ ¬cond0_1 (grid0.coords t) ∧ cond0_2 (grid0.coords t) ∧ ¬cond0_3 (grid0.coords t) :=
  have hN : t.val < 65 := Nat.lt_of_lt_of_eq t.isLt N_0
  ⟨fun h3 => by have := (hcond0_0 t).mp h3; omega, fun h3 => by have := (hcond0_1 t).mp h3; omega,
    (hcond0_2 t).mpr (by omega), fun h3 => h' ((hcond0_3 t).mp h3)⟩

/-- The body's run at the first point. -/
def runA (h : t.val = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    scM0_0 (Memref.isWhole_whole _) scM0_1 (Memref.isWhole_whole _) scM0_2 (Memref.isWhole_whole _)
    (first t h).1 (first t h).2.1 (first t h).2.2.1 (first t h).2.2.2
    (iblk m c 0 t) (iblk m c 1 t) (iblk m c 2 t) (iblk m c 3 t) (iblk m c 4 t) (iblk m c 5 t)
    (iblk m c 6 t) (iblk m c 7 t) (iblk m c 8 t) (iblk m c 9 t) (iblk m c 10 t)

/-- The body's run at an odd point, from the buffers `s`. -/
def runB (h : t.val % 2 = 1) (s : Bufs F) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    scM0_0 (Memref.isWhole_whole _) scM0_1 (Memref.isWhole_whole _) scM0_2 (Memref.isWhole_whole _)
    (odd t h).1 (odd t h).2.1 (odd t h).2.2.1 (odd t h).2.2.2
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) s.1 s.2.1

/-- The body's run at a later even point, from the buffers `s`. -/
def runC (h : t.val ≠ 0) (h' : ¬ t.val % 2 = 1) (s : Bufs F) :=
  kernelRun0_C (F := F) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t)
    scM0_0 (Memref.isWhole_whole _) scM0_1 (Memref.isWhole_whole _) scM0_2 (Memref.isWhole_whole _)
    (even t h h').1 (even t h h').2.1 (even t h h').2.2.1 (even t h h').2.2.2
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) s.1 s.2.2

/-! What each run leaves in each output's buffer and in the scratch buffers it writes, and that its stores cover them. -/

def outA11 (h : t.val = 0) : Vec F S512x512 .bf16 := VO0_11.read (Elt F) (VO0_11.writes (Elt F) VO0_11.junk (runA m c t h).1)
def outA12 (h : t.val = 0) : Vec F S512x512 .bf16 := VO0_12.read (Elt F) (VO0_12.writes (Elt F) VO0_12.junk (runA m c t h).2.1)
def outA13 (h : t.val = 0) : Vec F S512x256 .bf16 := VO0_13.read (Elt F) (VO0_13.writes (Elt F) VO0_13.junk (runA m c t h).2.2.1)
def outA14 (h : t.val = 0) : Vec F S128x512 .bf16 := VO0_14.read (Elt F) (VO0_14.writes (Elt F) VO0_14.junk (runA m c t h).2.2.2.1)
def outA15 (h : t.val = 0) : Vec F S512x128 .bf16 := VO0_15.read (Elt F) (VO0_15.writes (Elt F) VO0_15.junk (runA m c t h).2.2.2.2.1)
def outA16 (h : t.val = 0) : Vec F S512x512 .bf16 := VO0_16.read (Elt F) (VO0_16.writes (Elt F) VO0_16.junk (runA m c t h).2.2.2.2.2.1)
def outA17 (h : t.val = 0) : Vec F S8x512 .f32 := VO0_17.read (Elt F) (VO0_17.writes (Elt F) VO0_17.junk (runA m c t h).2.2.2.2.2.2.1)
def outA18 (h : t.val = 0) : Vec F S8x512 .f32 := VO0_18.read (Elt F) (VO0_18.writes (Elt F) VO0_18.junk (runA m c t h).2.2.2.2.2.2.2.1)
def outA19 (h : t.val = 0) : Vec F S1x128x512 .f32 := VO0_19.read (Elt F) (VO0_19.writes (Elt F) VO0_19.junk (runA m c t h).2.2.2.2.2.2.2.2.1)
def outA20 (h : t.val = 0) : Vec F S1x128x512 .f32 := VO0_20.read (Elt F) (VO0_20.writes (Elt F) VO0_20.junk (runA m c t h).2.2.2.2.2.2.2.2.2.1)
def outA21 (h : t.val = 0) : Vec F S1x64x512 .f32 := VO0_21.read (Elt F) (VO0_21.writes (Elt F) VO0_21.junk (runA m c t h).2.2.2.2.2.2.2.2.2.2.1)
def scrA0 (h : t.val = 0) : Vec F S520x512 .f32 := VS0_0.read (Elt F) (VS0_0.writes (Elt F) VS0_0.junk (runA m c t h).2.2.2.2.2.2.2.2.2.2.2.1)
def scrA1 (h : t.val = 0) : Vec F S512x2944 .f32 := VS0_1.read (Elt F) (VS0_1.writes (Elt F) VS0_1.junk (runA m c t h).2.2.2.2.2.2.2.2.2.2.2.2.1)
def scrA2 (h : t.val = 0) : Vec F S512x2944 .f32 := VS0_2.read (Elt F) (VS0_2.writes (Elt F) VS0_2.junk (runA m c t h).2.2.2.2.2.2.2.2.2.2.2.2.2.1)
theorem covA11 (h : t.val = 0) (y : S512x512.Idx) : ∃ pc ∈ (runA m c t h).1, y ∈ pc.1.set :=
  View.cover_of_tiledL (runA m c t h).1 S512x512.size (by sl_kernel_rfl) y
theorem covA12 (h : t.val = 0) (y : S512x512.Idx) : ∃ pc ∈ (runA m c t h).2.1, y ∈ pc.1.set :=
  View.cover_of_tiledL (runA m c t h).2.1 S512x128.size (by sl_kernel_rfl) y
theorem covA13 (h : t.val = 0) (y : S512x256.Idx) : ∃ pc ∈ (runA m c t h).2.2.1, y ∈ pc.1.set :=
  View.cover_of_tiledL (runA m c t h).2.2.1 S512x128.size (by sl_kernel_rfl) y
theorem covA14 (h : t.val = 0) (y : S128x512.Idx) : ∃ pc ∈ (runA m c t h).2.2.2.1, y ∈ pc.1.set :=
  View.cover_of_tiledL (runA m c t h).2.2.2.1 S128x512.size (by sl_kernel_rfl) y
theorem covA15 (h : t.val = 0) (y : S512x128.Idx) : ∃ pc ∈ (runA m c t h).2.2.2.2.1, y ∈ pc.1.set :=
  View.cover_of_tiledL (runA m c t h).2.2.2.2.1 S512x128.size (by sl_kernel_rfl) y
theorem covA16 (h : t.val = 0) (y : S512x512.Idx) : ∃ pc ∈ (runA m c t h).2.2.2.2.2.1, y ∈ pc.1.set :=
  View.cover_of_tiledL (runA m c t h).2.2.2.2.2.1 S512x128.size (by sl_kernel_rfl) y
theorem covA17 (h : t.val = 0) (y : S8x512.Idx) : ∃ pc ∈ (runA m c t h).2.2.2.2.2.2.1, y ∈ pc.1.set :=
  View.cover_of_tiledL (runA m c t h).2.2.2.2.2.2.1 S8x512.size (by sl_kernel_rfl) y
theorem covA18 (h : t.val = 0) (y : S8x512.Idx) : ∃ pc ∈ (runA m c t h).2.2.2.2.2.2.2.1, y ∈ pc.1.set :=
  View.cover_of_tiledL (runA m c t h).2.2.2.2.2.2.2.1 S8x512.size (by sl_kernel_rfl) y
theorem covA19 (h : t.val = 0) (y : S1x128x512.Idx) : ∃ pc ∈ (runA m c t h).2.2.2.2.2.2.2.2.1, y ∈ pc.1.set :=
  View.cover_of_tiledL (runA m c t h).2.2.2.2.2.2.2.2.1 S1x128x512.size (by sl_kernel_rfl) y
theorem covA20 (h : t.val = 0) (y : S1x128x512.Idx) : ∃ pc ∈ (runA m c t h).2.2.2.2.2.2.2.2.2.1, y ∈ pc.1.set :=
  View.cover_of_tiledL (runA m c t h).2.2.2.2.2.2.2.2.2.1 S1x128x512.size (by sl_kernel_rfl) y
theorem covA21 (h : t.val = 0) (y : S1x64x512.Idx) : ∃ pc ∈ (runA m c t h).2.2.2.2.2.2.2.2.2.2.1, y ∈ pc.1.set :=
  View.cover_of_tiledL (runA m c t h).2.2.2.2.2.2.2.2.2.2.1 S1x64x512.size (by sl_kernel_rfl) y
theorem scovA0 (h : t.val = 0) (y : S520x512.Idx) : ∃ pc ∈ (runA m c t h).2.2.2.2.2.2.2.2.2.2.2.1, y ∈ pc.1.set :=
  View.cover_of_tiledBy (runA m c t h).2.2.2.2.2.2.2.2.2.2.2.1 ![8, 512] (by sl_kernel_rfl) y
theorem scovA1 (h : t.val = 0) (y : S512x2944.Idx) : ∃ pc ∈ (runA m c t h).2.2.2.2.2.2.2.2.2.2.2.2.1, y ∈ pc.1.set :=
  View.cover_of_tiledL (runA m c t h).2.2.2.2.2.2.2.2.2.2.2.2.1 S512x2944.size (by sl_kernel_rfl) y
theorem scovA2 (h : t.val = 0) (y : S512x2944.Idx) : ∃ pc ∈ (runA m c t h).2.2.2.2.2.2.2.2.2.2.2.2.2.1, y ∈ pc.1.set :=
  View.cover_of_tiledL (runA m c t h).2.2.2.2.2.2.2.2.2.2.2.2.2.1 S512x2944.size (by sl_kernel_rfl) y
def outB11 (h : t.val % 2 = 1) (s : Bufs F) : Vec F S512x512 .bf16 := VO0_11.read (Elt F) (VO0_11.writes (Elt F) VO0_11.junk (runB m c t h s).1)
def outB12 (h : t.val % 2 = 1) (s : Bufs F) : Vec F S512x512 .bf16 := VO0_12.read (Elt F) (VO0_12.writes (Elt F) VO0_12.junk (runB m c t h s).2.1)
def outB13 (h : t.val % 2 = 1) (s : Bufs F) : Vec F S512x256 .bf16 := VO0_13.read (Elt F) (VO0_13.writes (Elt F) VO0_13.junk (runB m c t h s).2.2.1)
def outB14 (h : t.val % 2 = 1) (s : Bufs F) : Vec F S128x512 .bf16 := VO0_14.read (Elt F) (VO0_14.writes (Elt F) VO0_14.junk (runB m c t h s).2.2.2.1)
def outB15 (h : t.val % 2 = 1) (s : Bufs F) : Vec F S512x128 .bf16 := VO0_15.read (Elt F) (VO0_15.writes (Elt F) VO0_15.junk (runB m c t h s).2.2.2.2.1)
def outB16 (h : t.val % 2 = 1) (s : Bufs F) : Vec F S512x512 .bf16 := VO0_16.read (Elt F) (VO0_16.writes (Elt F) VO0_16.junk (runB m c t h s).2.2.2.2.2.1)
def outB17 (h : t.val % 2 = 1) (s : Bufs F) : Vec F S8x512 .f32 := VO0_17.read (Elt F) (VO0_17.writes (Elt F) VO0_17.junk (runB m c t h s).2.2.2.2.2.2.1)
def outB18 (h : t.val % 2 = 1) (s : Bufs F) : Vec F S8x512 .f32 := VO0_18.read (Elt F) (VO0_18.writes (Elt F) VO0_18.junk (runB m c t h s).2.2.2.2.2.2.2.1)
def outB19 (h : t.val % 2 = 1) (s : Bufs F) : Vec F S1x128x512 .f32 := VO0_19.read (Elt F) (VO0_19.writes (Elt F) VO0_19.junk (runB m c t h s).2.2.2.2.2.2.2.2.1)
def outB20 (h : t.val % 2 = 1) (s : Bufs F) : Vec F S1x128x512 .f32 := VO0_20.read (Elt F) (VO0_20.writes (Elt F) VO0_20.junk (runB m c t h s).2.2.2.2.2.2.2.2.2.1)
def outB21 (h : t.val % 2 = 1) (s : Bufs F) : Vec F S1x64x512 .f32 := VO0_21.read (Elt F) (VO0_21.writes (Elt F) VO0_21.junk (runB m c t h s).2.2.2.2.2.2.2.2.2.2.1)
def scrB0 (h : t.val % 2 = 1) (s : Bufs F) : Vec F S520x512 .f32 := VS0_0.read (Elt F) (VS0_0.writes (Elt F) VS0_0.junk (runB m c t h s).2.2.2.2.2.2.2.2.2.2.2.1)
def scrB2 (h : t.val % 2 = 1) (s : Bufs F) : Vec F S512x2944 .f32 := VS0_2.read (Elt F) (VS0_2.writes (Elt F) VS0_2.junk (runB m c t h s).2.2.2.2.2.2.2.2.2.2.2.2.2.1)
theorem covB11 (h : t.val % 2 = 1) (s : Bufs F) (y : S512x512.Idx) : ∃ pc ∈ (runB m c t h s).1, y ∈ pc.1.set :=
  View.cover_of_tiledL (runB m c t h s).1 S512x512.size (by sl_kernel_rfl) y
theorem covB12 (h : t.val % 2 = 1) (s : Bufs F) (y : S512x512.Idx) : ∃ pc ∈ (runB m c t h s).2.1, y ∈ pc.1.set :=
  View.cover_of_tiledL (runB m c t h s).2.1 S512x128.size (by sl_kernel_rfl) y
theorem covB13 (h : t.val % 2 = 1) (s : Bufs F) (y : S512x256.Idx) : ∃ pc ∈ (runB m c t h s).2.2.1, y ∈ pc.1.set :=
  View.cover_of_tiledL (runB m c t h s).2.2.1 S512x128.size (by sl_kernel_rfl) y
theorem covB14 (h : t.val % 2 = 1) (s : Bufs F) (y : S128x512.Idx) : ∃ pc ∈ (runB m c t h s).2.2.2.1, y ∈ pc.1.set :=
  View.cover_of_tiledL (runB m c t h s).2.2.2.1 S128x512.size (by sl_kernel_rfl) y
theorem covB15 (h : t.val % 2 = 1) (s : Bufs F) (y : S512x128.Idx) : ∃ pc ∈ (runB m c t h s).2.2.2.2.1, y ∈ pc.1.set :=
  View.cover_of_tiledL (runB m c t h s).2.2.2.2.1 S512x128.size (by sl_kernel_rfl) y
theorem covB16 (h : t.val % 2 = 1) (s : Bufs F) (y : S512x512.Idx) : ∃ pc ∈ (runB m c t h s).2.2.2.2.2.1, y ∈ pc.1.set :=
  View.cover_of_tiledL (runB m c t h s).2.2.2.2.2.1 S512x128.size (by sl_kernel_rfl) y
theorem covB17 (h : t.val % 2 = 1) (s : Bufs F) (y : S8x512.Idx) : ∃ pc ∈ (runB m c t h s).2.2.2.2.2.2.1, y ∈ pc.1.set :=
  View.cover_of_tiledL (runB m c t h s).2.2.2.2.2.2.1 S8x512.size (by sl_kernel_rfl) y
theorem covB18 (h : t.val % 2 = 1) (s : Bufs F) (y : S8x512.Idx) : ∃ pc ∈ (runB m c t h s).2.2.2.2.2.2.2.1, y ∈ pc.1.set :=
  View.cover_of_tiledL (runB m c t h s).2.2.2.2.2.2.2.1 S8x512.size (by sl_kernel_rfl) y
theorem covB19 (h : t.val % 2 = 1) (s : Bufs F) (y : S1x128x512.Idx) : ∃ pc ∈ (runB m c t h s).2.2.2.2.2.2.2.2.1, y ∈ pc.1.set :=
  View.cover_of_tiledL (runB m c t h s).2.2.2.2.2.2.2.2.1 S1x128x512.size (by sl_kernel_rfl) y
theorem covB20 (h : t.val % 2 = 1) (s : Bufs F) (y : S1x128x512.Idx) : ∃ pc ∈ (runB m c t h s).2.2.2.2.2.2.2.2.2.1, y ∈ pc.1.set :=
  View.cover_of_tiledL (runB m c t h s).2.2.2.2.2.2.2.2.2.1 S1x128x512.size (by sl_kernel_rfl) y
theorem covB21 (h : t.val % 2 = 1) (s : Bufs F) (y : S1x64x512.Idx) : ∃ pc ∈ (runB m c t h s).2.2.2.2.2.2.2.2.2.2.1, y ∈ pc.1.set :=
  View.cover_of_tiledL (runB m c t h s).2.2.2.2.2.2.2.2.2.2.1 S1x64x512.size (by sl_kernel_rfl) y
theorem scovB0 (h : t.val % 2 = 1) (s : Bufs F) (y : S520x512.Idx) : ∃ pc ∈ (runB m c t h s).2.2.2.2.2.2.2.2.2.2.2.1, y ∈ pc.1.set :=
  View.cover_of_tiledBy (runB m c t h s).2.2.2.2.2.2.2.2.2.2.2.1 ![8, 512] (by sl_kernel_rfl) y
theorem scovB2 (h : t.val % 2 = 1) (s : Bufs F) (y : S512x2944.Idx) : ∃ pc ∈ (runB m c t h s).2.2.2.2.2.2.2.2.2.2.2.2.2.1, y ∈ pc.1.set :=
  View.cover_of_tiledL (runB m c t h s).2.2.2.2.2.2.2.2.2.2.2.2.2.1 S512x2944.size (by sl_kernel_rfl) y
def outC11 (h : t.val ≠ 0) (h' : ¬ t.val % 2 = 1) (s : Bufs F) : Vec F S512x512 .bf16 := VO0_11.read (Elt F) (VO0_11.writes (Elt F) VO0_11.junk (runC m c t h h' s).1)
def outC12 (h : t.val ≠ 0) (h' : ¬ t.val % 2 = 1) (s : Bufs F) : Vec F S512x512 .bf16 := VO0_12.read (Elt F) (VO0_12.writes (Elt F) VO0_12.junk (runC m c t h h' s).2.1)
def outC13 (h : t.val ≠ 0) (h' : ¬ t.val % 2 = 1) (s : Bufs F) : Vec F S512x256 .bf16 := VO0_13.read (Elt F) (VO0_13.writes (Elt F) VO0_13.junk (runC m c t h h' s).2.2.1)
def outC14 (h : t.val ≠ 0) (h' : ¬ t.val % 2 = 1) (s : Bufs F) : Vec F S128x512 .bf16 := VO0_14.read (Elt F) (VO0_14.writes (Elt F) VO0_14.junk (runC m c t h h' s).2.2.2.1)
def outC15 (h : t.val ≠ 0) (h' : ¬ t.val % 2 = 1) (s : Bufs F) : Vec F S512x128 .bf16 := VO0_15.read (Elt F) (VO0_15.writes (Elt F) VO0_15.junk (runC m c t h h' s).2.2.2.2.1)
def outC16 (h : t.val ≠ 0) (h' : ¬ t.val % 2 = 1) (s : Bufs F) : Vec F S512x512 .bf16 := VO0_16.read (Elt F) (VO0_16.writes (Elt F) VO0_16.junk (runC m c t h h' s).2.2.2.2.2.1)
def outC17 (h : t.val ≠ 0) (h' : ¬ t.val % 2 = 1) (s : Bufs F) : Vec F S8x512 .f32 := VO0_17.read (Elt F) (VO0_17.writes (Elt F) VO0_17.junk (runC m c t h h' s).2.2.2.2.2.2.1)
def outC18 (h : t.val ≠ 0) (h' : ¬ t.val % 2 = 1) (s : Bufs F) : Vec F S8x512 .f32 := VO0_18.read (Elt F) (VO0_18.writes (Elt F) VO0_18.junk (runC m c t h h' s).2.2.2.2.2.2.2.1)
def outC19 (h : t.val ≠ 0) (h' : ¬ t.val % 2 = 1) (s : Bufs F) : Vec F S1x128x512 .f32 := VO0_19.read (Elt F) (VO0_19.writes (Elt F) VO0_19.junk (runC m c t h h' s).2.2.2.2.2.2.2.2.1)
def outC20 (h : t.val ≠ 0) (h' : ¬ t.val % 2 = 1) (s : Bufs F) : Vec F S1x128x512 .f32 := VO0_20.read (Elt F) (VO0_20.writes (Elt F) VO0_20.junk (runC m c t h h' s).2.2.2.2.2.2.2.2.2.1)
def outC21 (h : t.val ≠ 0) (h' : ¬ t.val % 2 = 1) (s : Bufs F) : Vec F S1x64x512 .f32 := VO0_21.read (Elt F) (VO0_21.writes (Elt F) VO0_21.junk (runC m c t h h' s).2.2.2.2.2.2.2.2.2.2.1)
def scrC0 (h : t.val ≠ 0) (h' : ¬ t.val % 2 = 1) (s : Bufs F) : Vec F S520x512 .f32 := VS0_0.read (Elt F) (VS0_0.writes (Elt F) VS0_0.junk (runC m c t h h' s).2.2.2.2.2.2.2.2.2.2.2.1)
def scrC1 (h : t.val ≠ 0) (h' : ¬ t.val % 2 = 1) (s : Bufs F) : Vec F S512x2944 .f32 := VS0_1.read (Elt F) (VS0_1.writes (Elt F) VS0_1.junk (runC m c t h h' s).2.2.2.2.2.2.2.2.2.2.2.2.1)
theorem covC11 (h : t.val ≠ 0) (h' : ¬ t.val % 2 = 1) (s : Bufs F) (y : S512x512.Idx) : ∃ pc ∈ (runC m c t h h' s).1, y ∈ pc.1.set :=
  View.cover_of_tiledL (runC m c t h h' s).1 S512x512.size (by sl_kernel_rfl) y
theorem covC12 (h : t.val ≠ 0) (h' : ¬ t.val % 2 = 1) (s : Bufs F) (y : S512x512.Idx) : ∃ pc ∈ (runC m c t h h' s).2.1, y ∈ pc.1.set :=
  View.cover_of_tiledL (runC m c t h h' s).2.1 S512x128.size (by sl_kernel_rfl) y
theorem covC13 (h : t.val ≠ 0) (h' : ¬ t.val % 2 = 1) (s : Bufs F) (y : S512x256.Idx) : ∃ pc ∈ (runC m c t h h' s).2.2.1, y ∈ pc.1.set :=
  View.cover_of_tiledL (runC m c t h h' s).2.2.1 S512x128.size (by sl_kernel_rfl) y
theorem covC14 (h : t.val ≠ 0) (h' : ¬ t.val % 2 = 1) (s : Bufs F) (y : S128x512.Idx) : ∃ pc ∈ (runC m c t h h' s).2.2.2.1, y ∈ pc.1.set :=
  View.cover_of_tiledL (runC m c t h h' s).2.2.2.1 S128x512.size (by sl_kernel_rfl) y
theorem covC15 (h : t.val ≠ 0) (h' : ¬ t.val % 2 = 1) (s : Bufs F) (y : S512x128.Idx) : ∃ pc ∈ (runC m c t h h' s).2.2.2.2.1, y ∈ pc.1.set :=
  View.cover_of_tiledL (runC m c t h h' s).2.2.2.2.1 S512x128.size (by sl_kernel_rfl) y
theorem covC16 (h : t.val ≠ 0) (h' : ¬ t.val % 2 = 1) (s : Bufs F) (y : S512x512.Idx) : ∃ pc ∈ (runC m c t h h' s).2.2.2.2.2.1, y ∈ pc.1.set :=
  View.cover_of_tiledL (runC m c t h h' s).2.2.2.2.2.1 S512x128.size (by sl_kernel_rfl) y
theorem covC17 (h : t.val ≠ 0) (h' : ¬ t.val % 2 = 1) (s : Bufs F) (y : S8x512.Idx) : ∃ pc ∈ (runC m c t h h' s).2.2.2.2.2.2.1, y ∈ pc.1.set :=
  View.cover_of_tiledL (runC m c t h h' s).2.2.2.2.2.2.1 S8x512.size (by sl_kernel_rfl) y
theorem covC18 (h : t.val ≠ 0) (h' : ¬ t.val % 2 = 1) (s : Bufs F) (y : S8x512.Idx) : ∃ pc ∈ (runC m c t h h' s).2.2.2.2.2.2.2.1, y ∈ pc.1.set :=
  View.cover_of_tiledL (runC m c t h h' s).2.2.2.2.2.2.2.1 S8x512.size (by sl_kernel_rfl) y
theorem covC19 (h : t.val ≠ 0) (h' : ¬ t.val % 2 = 1) (s : Bufs F) (y : S1x128x512.Idx) : ∃ pc ∈ (runC m c t h h' s).2.2.2.2.2.2.2.2.1, y ∈ pc.1.set :=
  View.cover_of_tiledL (runC m c t h h' s).2.2.2.2.2.2.2.2.1 S1x128x512.size (by sl_kernel_rfl) y
theorem covC20 (h : t.val ≠ 0) (h' : ¬ t.val % 2 = 1) (s : Bufs F) (y : S1x128x512.Idx) : ∃ pc ∈ (runC m c t h h' s).2.2.2.2.2.2.2.2.2.1, y ∈ pc.1.set :=
  View.cover_of_tiledL (runC m c t h h' s).2.2.2.2.2.2.2.2.2.1 S1x128x512.size (by sl_kernel_rfl) y
theorem covC21 (h : t.val ≠ 0) (h' : ¬ t.val % 2 = 1) (s : Bufs F) (y : S1x64x512.Idx) : ∃ pc ∈ (runC m c t h h' s).2.2.2.2.2.2.2.2.2.2.1, y ∈ pc.1.set :=
  View.cover_of_tiledL (runC m c t h h' s).2.2.2.2.2.2.2.2.2.2.1 S1x64x512.size (by sl_kernel_rfl) y
theorem scovC0 (h : t.val ≠ 0) (h' : ¬ t.val % 2 = 1) (s : Bufs F) (y : S520x512.Idx) : ∃ pc ∈ (runC m c t h h' s).2.2.2.2.2.2.2.2.2.2.2.1, y ∈ pc.1.set :=
  View.cover_of_tiledBy (runC m c t h h' s).2.2.2.2.2.2.2.2.2.2.2.1 ![8, 512] (by sl_kernel_rfl) y
theorem scovC1 (h : t.val ≠ 0) (h' : ¬ t.val % 2 = 1) (s : Bufs F) (y : S512x2944.Idx) : ∃ pc ∈ (runC m c t h h' s).2.2.2.2.2.2.2.2.2.2.2.2.1, y ∈ pc.1.set :=
  View.cover_of_tiledL (runC m c t h h' s).2.2.2.2.2.2.2.2.2.2.2.2.1 S512x2944.size (by sl_kernel_rfl) y

omit t in
/-- The scratch buffers after each point. -/
def bufsAt : (n : ℕ) → n < cfg0.N → Bufs F
  | 0, hn => (scrA0 m c ⟨0, hn⟩ rfl, scrA1 m c ⟨0, hn⟩ rfl, scrA2 m c ⟨0, hn⟩ rfl)
  | n + 1, hn =>
    if h : (n + 1) % 2 = 1 then
      (scrB0 m c ⟨n + 1, hn⟩ h (bufsAt n (by omega)), (bufsAt n (by omega)).2.1, scrB2 m c ⟨n + 1, hn⟩ h (bufsAt n (by omega)))
    else
      (scrC0 m c ⟨n + 1, hn⟩ (Nat.succ_ne_zero n) h (bufsAt n (by omega)),
        scrC1 m c ⟨n + 1, hn⟩ (Nat.succ_ne_zero n) h (bufsAt n (by omega)), (bufsAt n (by omega)).2.2)

/-- The scratch buffers a point after the first finds. -/
def found : Bufs F := bufsAt m c (t.val - 1) (lt_of_le_of_lt (Nat.sub_le _ _) t.isLt)

theorem bufsAt_first (h : t.val = 0) : bufsAt m c t.val t.isLt = (scrA0 m c t h, scrA1 m c t h, scrA2 m c t h) := by
  obtain ⟨n, hn⟩ := t
  cases n with
  | zero => rfl
  | succ n => exact absurd h (Nat.succ_ne_zero n)

theorem bufsAt_odd (h : t.val % 2 = 1) :
    bufsAt m c t.val t.isLt = (scrB0 m c t h (found m c t), (found m c t).2.1, scrB2 m c t h (found m c t)) := by
  obtain ⟨n, hn⟩ := t
  cases n with
  | zero => exact absurd (show 0 % 2 = 1 from h) (by decide)
  | succ n => exact dif_pos h

theorem bufsAt_even (h : t.val ≠ 0) (h' : ¬ t.val % 2 = 1) :
    bufsAt m c t.val t.isLt = (scrC0 m c t h h' (found m c t), scrC1 m c t h h' (found m c t), (found m c t).2.2) := by
  obtain ⟨n, hn⟩ := t
  cases n with
  | zero => exact absurd rfl h
  | succ n => exact dif_neg h'

/-! What each output's buffer holds after each point. -/

def left11 : Vec F S512x512 .bf16 :=
  if h : t.val = 0 then outA11 m c t h else if h' : t.val % 2 = 1 then outB11 m c t h' (found m c t) else outC11 m c t h h' (found m c t)
def left12 : Vec F S512x512 .bf16 :=
  if h : t.val = 0 then outA12 m c t h else if h' : t.val % 2 = 1 then outB12 m c t h' (found m c t) else outC12 m c t h h' (found m c t)
def left13 : Vec F S512x256 .bf16 :=
  if h : t.val = 0 then outA13 m c t h else if h' : t.val % 2 = 1 then outB13 m c t h' (found m c t) else outC13 m c t h h' (found m c t)
def left14 : Vec F S128x512 .bf16 :=
  if h : t.val = 0 then outA14 m c t h else if h' : t.val % 2 = 1 then outB14 m c t h' (found m c t) else outC14 m c t h h' (found m c t)
def left15 : Vec F S512x128 .bf16 :=
  if h : t.val = 0 then outA15 m c t h else if h' : t.val % 2 = 1 then outB15 m c t h' (found m c t) else outC15 m c t h h' (found m c t)
def left16 : Vec F S512x512 .bf16 :=
  if h : t.val = 0 then outA16 m c t h else if h' : t.val % 2 = 1 then outB16 m c t h' (found m c t) else outC16 m c t h h' (found m c t)
def left17 : Vec F S8x512 .f32 :=
  if h : t.val = 0 then outA17 m c t h else if h' : t.val % 2 = 1 then outB17 m c t h' (found m c t) else outC17 m c t h h' (found m c t)
def left18 : Vec F S8x512 .f32 :=
  if h : t.val = 0 then outA18 m c t h else if h' : t.val % 2 = 1 then outB18 m c t h' (found m c t) else outC18 m c t h h' (found m c t)
def left19 : Vec F S1x128x512 .f32 :=
  if h : t.val = 0 then outA19 m c t h else if h' : t.val % 2 = 1 then outB19 m c t h' (found m c t) else outC19 m c t h h' (found m c t)
def left20 : Vec F S1x128x512 .f32 :=
  if h : t.val = 0 then outA20 m c t h else if h' : t.val % 2 = 1 then outB20 m c t h' (found m c t) else outC20 m c t h h' (found m c t)
def left21 : Vec F S1x64x512 .f32 :=
  if h : t.val = 0 then outA21 m c t h else if h' : t.val % 2 = 1 then outB21 m c t h' (found m c t) else outC21 m c t h h' (found m c t)
theorem left11_first (h : t.val = 0) : left11 m c t = outA11 m c t h := dif_pos h
theorem left11_odd (h : t.val % 2 = 1) : left11 m c t = outB11 m c t h (found m c t) :=
  (dif_neg (by omega)).trans (dif_pos h)
theorem left11_even (h : t.val ≠ 0) (h' : ¬ t.val % 2 = 1) : left11 m c t = outC11 m c t h h' (found m c t) :=
  (dif_neg h).trans (dif_neg h')
theorem left12_first (h : t.val = 0) : left12 m c t = outA12 m c t h := dif_pos h
theorem left12_odd (h : t.val % 2 = 1) : left12 m c t = outB12 m c t h (found m c t) :=
  (dif_neg (by omega)).trans (dif_pos h)
theorem left12_even (h : t.val ≠ 0) (h' : ¬ t.val % 2 = 1) : left12 m c t = outC12 m c t h h' (found m c t) :=
  (dif_neg h).trans (dif_neg h')
theorem left13_first (h : t.val = 0) : left13 m c t = outA13 m c t h := dif_pos h
theorem left13_odd (h : t.val % 2 = 1) : left13 m c t = outB13 m c t h (found m c t) :=
  (dif_neg (by omega)).trans (dif_pos h)
theorem left13_even (h : t.val ≠ 0) (h' : ¬ t.val % 2 = 1) : left13 m c t = outC13 m c t h h' (found m c t) :=
  (dif_neg h).trans (dif_neg h')
theorem left14_first (h : t.val = 0) : left14 m c t = outA14 m c t h := dif_pos h
theorem left14_odd (h : t.val % 2 = 1) : left14 m c t = outB14 m c t h (found m c t) :=
  (dif_neg (by omega)).trans (dif_pos h)
theorem left14_even (h : t.val ≠ 0) (h' : ¬ t.val % 2 = 1) : left14 m c t = outC14 m c t h h' (found m c t) :=
  (dif_neg h).trans (dif_neg h')
theorem left15_first (h : t.val = 0) : left15 m c t = outA15 m c t h := dif_pos h
theorem left15_odd (h : t.val % 2 = 1) : left15 m c t = outB15 m c t h (found m c t) :=
  (dif_neg (by omega)).trans (dif_pos h)
theorem left15_even (h : t.val ≠ 0) (h' : ¬ t.val % 2 = 1) : left15 m c t = outC15 m c t h h' (found m c t) :=
  (dif_neg h).trans (dif_neg h')
theorem left16_first (h : t.val = 0) : left16 m c t = outA16 m c t h := dif_pos h
theorem left16_odd (h : t.val % 2 = 1) : left16 m c t = outB16 m c t h (found m c t) :=
  (dif_neg (by omega)).trans (dif_pos h)
theorem left16_even (h : t.val ≠ 0) (h' : ¬ t.val % 2 = 1) : left16 m c t = outC16 m c t h h' (found m c t) :=
  (dif_neg h).trans (dif_neg h')
theorem left17_first (h : t.val = 0) : left17 m c t = outA17 m c t h := dif_pos h
theorem left17_odd (h : t.val % 2 = 1) : left17 m c t = outB17 m c t h (found m c t) :=
  (dif_neg (by omega)).trans (dif_pos h)
theorem left17_even (h : t.val ≠ 0) (h' : ¬ t.val % 2 = 1) : left17 m c t = outC17 m c t h h' (found m c t) :=
  (dif_neg h).trans (dif_neg h')
theorem left18_first (h : t.val = 0) : left18 m c t = outA18 m c t h := dif_pos h
theorem left18_odd (h : t.val % 2 = 1) : left18 m c t = outB18 m c t h (found m c t) :=
  (dif_neg (by omega)).trans (dif_pos h)
theorem left18_even (h : t.val ≠ 0) (h' : ¬ t.val % 2 = 1) : left18 m c t = outC18 m c t h h' (found m c t) :=
  (dif_neg h).trans (dif_neg h')
theorem left19_first (h : t.val = 0) : left19 m c t = outA19 m c t h := dif_pos h
theorem left19_odd (h : t.val % 2 = 1) : left19 m c t = outB19 m c t h (found m c t) :=
  (dif_neg (by omega)).trans (dif_pos h)
theorem left19_even (h : t.val ≠ 0) (h' : ¬ t.val % 2 = 1) : left19 m c t = outC19 m c t h h' (found m c t) :=
  (dif_neg h).trans (dif_neg h')
theorem left20_first (h : t.val = 0) : left20 m c t = outA20 m c t h := dif_pos h
theorem left20_odd (h : t.val % 2 = 1) : left20 m c t = outB20 m c t h (found m c t) :=
  (dif_neg (by omega)).trans (dif_pos h)
theorem left20_even (h : t.val ≠ 0) (h' : ¬ t.val % 2 = 1) : left20 m c t = outC20 m c t h h' (found m c t) :=
  (dif_neg h).trans (dif_neg h')
theorem left21_first (h : t.val = 0) : left21 m c t = outA21 m c t h := dif_pos h
theorem left21_odd (h : t.val % 2 = 1) : left21 m c t = outB21 m c t h (found m c t) :=
  (dif_neg (by omega)).trans (dif_pos h)
theorem left21_even (h : t.val ≠ 0) (h' : ¬ t.val % 2 = 1) : left21 m c t = outC21 m c t h h' (found m c t) :=
  (dif_neg h).trans (dif_neg h')

/-- The three scratch buffers, owned at given contents. -/
def owned (s : Bufs F) : sProp 𝕄 :=
  iprop(iprop(owns (c : Thread nD τ) scM0_0 fullShare s.1 ∗ owns (c : Thread nD τ) scM0_1 fullShare s.2.1
    ∗ owns (c : Thread nD τ) scM0_2 fullShare s.2.2) ∗ (∃ r, prngReg c r))

omit t in
/-- What holds between points: before the first the scratch buffers at anything, then at what the point before left. -/
def between : (n : ℕ) → n ≤ cfg0.N → sProp 𝕄
  | 0, _ => Pipeline.ΦA spec0 c
  | n + 1, hn => owned c (bufsAt m c n hn)

theorem between_first (h : t.val = 0) : between m c t.val (Nat.le_of_lt t.isLt) = Pipeline.ΦA spec0 c := by
  obtain ⟨n, hn⟩ := t
  cases n with
  | zero => rfl
  | succ n => exact absurd h (Nat.succ_ne_zero n)

theorem between_later (h : t.val ≠ 0) : between m c t.val (Nat.le_of_lt t.isLt) = owned c (found m c t) := by
  obtain ⟨n, hn⟩ := t
  cases n with
  | zero => exact absurd rfl h
  | succ n => rfl

omit t in
/-- The pipeline's data: the arrays as the region finds them, after the body the inputs' blocks and what the runs left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => left11 m c t
    | ⟨12, _⟩ => left12 m c t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨20, _⟩ => left20 m c t
    | ⟨21, _⟩ => left21 m c t
    | ⟨_ + 22, h⟩ => absurd h (Nat.not_lt.2 (Nat.le_add_left _ _))
  Φ t := between m c t.val (Nat.le_of_lt_succ t.isLt)
  q _ := fullShare
  owed _ := 0

omit t in
theorem A_eq (c : Dev nD) (w : Fin cfg0.W) : (dats m 0 c).A w = V m c (Pipeline.arrRef spec0 w) := by
  dsimp only [dats]

theorem at_start : (dats m 0 c).Φ t.castSucc = between m c t.val (Nat.le_of_lt t.isLt) := by
  dsimp only [dats]; exact Pipeline.Dat.Φ_castSucc (between m c) t

theorem at_end : (dats m 0 c).Φ t.succ = owned c (bufsAt m c t.val t.isLt) := rfl

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = left11 m c t := by dsimp only [dats]
theorem after12 : (dats m 0 c).after 12 t = left12 m c t := by dsimp only [dats]
theorem after13 : (dats m 0 c).after 13 t = left13 m c t := by dsimp only [dats]
theorem after14 : (dats m 0 c).after 14 t = left14 m c t := by dsimp only [dats]
theorem after15 : (dats m 0 c).after 15 t = left15 m c t := by dsimp only [dats]
theorem after16 : (dats m 0 c).after 16 t = left16 m c t := by dsimp only [dats]
theorem after17 : (dats m 0 c).after 17 t = left17 m c t := by dsimp only [dats]
theorem after18 : (dats m 0 c).after 18 t = left18 m c t := by dsimp only [dats]
theorem after19 : (dats m 0 c).after 19 t = left19 m c t := by dsimp only [dats]
theorem after20 : (dats m 0 c).after 20 t = left20 m c t := by dsimp only [dats]
theorem after21 : (dats m 0 c).after 21 t = left21 m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem before10 (d) : (dats m 0 c).before 10 t d = iblk m c 10 t :=
  before0_10_of m (dats m 0 c) (A_eq m c 10) (after10 m c) t d

theorem leaves11 : (dats m 0 c).leavesExact 11 t = owns (c : Thread nD τ) (ms0_11 t) fullShare (left11 m c t) := by
  unfold Dat.leavesExact; rw [(by decide +kernel : ∀ t : Fin cfg0.N, cfg0.idle 11 (grid0.coords t) = false) t, after11]
theorem leaves12 : (dats m 0 c).leavesExact 12 t = owns (c : Thread nD τ) (ms0_12 t) fullShare (left12 m c t) := by
  unfold Dat.leavesExact; rw [(by decide +kernel : ∀ t : Fin cfg0.N, cfg0.idle 12 (grid0.coords t) = false) t, after12]
theorem leaves13 : (dats m 0 c).leavesExact 13 t = owns (c : Thread nD τ) (ms0_13 t) fullShare (left13 m c t) := by
  unfold Dat.leavesExact; rw [(by decide +kernel : ∀ t : Fin cfg0.N, cfg0.idle 13 (grid0.coords t) = false) t, after13]
theorem leaves14 : (dats m 0 c).leavesExact 14 t = owns (c : Thread nD τ) (ms0_14 t) fullShare (left14 m c t) := by
  unfold Dat.leavesExact; rw [(by decide +kernel : ∀ t : Fin cfg0.N, cfg0.idle 14 (grid0.coords t) = false) t, after14]
theorem leaves15 : (dats m 0 c).leavesExact 15 t = owns (c : Thread nD τ) (ms0_15 t) fullShare (left15 m c t) := by
  unfold Dat.leavesExact; rw [(by decide +kernel : ∀ t : Fin cfg0.N, cfg0.idle 15 (grid0.coords t) = false) t, after15]
theorem leaves16 : (dats m 0 c).leavesExact 16 t = owns (c : Thread nD τ) (ms0_16 t) fullShare (left16 m c t) := by
  unfold Dat.leavesExact; rw [(by decide +kernel : ∀ t : Fin cfg0.N, cfg0.idle 16 (grid0.coords t) = false) t, after16]
theorem leaves17 : (dats m 0 c).leavesExact 17 t = owns (c : Thread nD τ) (ms0_17 t) fullShare (left17 m c t) := by
  unfold Dat.leavesExact; rw [(by decide +kernel : ∀ t : Fin cfg0.N, cfg0.idle 17 (grid0.coords t) = false) t, after17]
theorem leaves18 : (dats m 0 c).leavesExact 18 t = owns (c : Thread nD τ) (ms0_18 t) fullShare (left18 m c t) := by
  unfold Dat.leavesExact; rw [(by decide +kernel : ∀ t : Fin cfg0.N, cfg0.idle 18 (grid0.coords t) = false) t, after18]
theorem leaves19 : (dats m 0 c).leavesExact 19 t = owns (c : Thread nD τ) (ms0_19 t) fullShare (left19 m c t) := by
  unfold Dat.leavesExact; rw [(by decide +kernel : ∀ t : Fin cfg0.N, cfg0.idle 19 (grid0.coords t) = false) t, after19]
theorem leaves20 : (dats m 0 c).leavesExact 20 t = owns (c : Thread nD τ) (ms0_20 t) fullShare (left20 m c t) := by
  unfold Dat.leavesExact; rw [(by decide +kernel : ∀ t : Fin cfg0.N, cfg0.idle 20 (grid0.coords t) = false) t, after20]
theorem leaves21 : (dats m 0 c).leavesExact 21 t = owns (c : Thread nD τ) (ms0_21 t) fullShare (left21 m c t) := by
  unfold Dat.leavesExact; rw [(by decide +kernel : ∀ t : Fin cfg0.N, cfg0.idle 21 (grid0.coords t) = false) t, after21]
theorem leaves0 : (dats m 0 c).leavesExact 0 t = owns (c : Thread nD τ) (ms0_0 t) fullShare (iblk m c 0 t) := by
  unfold Dat.leavesExact; rw [liveAt0_0 t, after0]
theorem leaves1 : (dats m 0 c).leavesExact 1 t = owns (c : Thread nD τ) (ms0_1 t) fullShare (iblk m c 1 t) := by
  unfold Dat.leavesExact; rw [liveAt0_1 t, after1]
theorem leaves2 : (dats m 0 c).leavesExact 2 t = owns (c : Thread nD τ) (ms0_2 t) fullShare (iblk m c 2 t) := by
  unfold Dat.leavesExact; rw [liveAt0_2 t, after2]
theorem leaves3 : (dats m 0 c).leavesExact 3 t = owns (c : Thread nD τ) (ms0_3 t) fullShare (iblk m c 3 t) := by
  unfold Dat.leavesExact; rw [liveAt0_3 t, after3]
theorem leaves4 : (dats m 0 c).leavesExact 4 t = owns (c : Thread nD τ) (ms0_4 t) fullShare (iblk m c 4 t) := by
  unfold Dat.leavesExact; rw [liveAt0_4 t, after4]
theorem leaves5 : (dats m 0 c).leavesExact 5 t = owns (c : Thread nD τ) (ms0_5 t) fullShare (iblk m c 5 t) := by
  unfold Dat.leavesExact; rw [liveAt0_5 t, after5]
theorem leaves6 : (dats m 0 c).leavesExact 6 t = owns (c : Thread nD τ) (ms0_6 t) fullShare (iblk m c 6 t) := by
  unfold Dat.leavesExact; rw [liveAt0_6 t, after6]
theorem leaves7 : (dats m 0 c).leavesExact 7 t = owns (c : Thread nD τ) (ms0_7 t) fullShare (iblk m c 7 t) := by
  unfold Dat.leavesExact; rw [liveAt0_7 t, after7]
theorem leaves8 : (dats m 0 c).leavesExact 8 t = owns (c : Thread nD τ) (ms0_8 t) fullShare (iblk m c 8 t) := by
  unfold Dat.leavesExact; rw [liveAt0_8 t, after8]
theorem leaves9 : (dats m 0 c).leavesExact 9 t = owns (c : Thread nD τ) (ms0_9 t) fullShare (iblk m c 9 t) := by
  unfold Dat.leavesExact; rw [liveAt0_9 t, after9]
theorem leaves10 : (dats m 0 c).leavesExact 10 t = owns (c : Thread nD τ) (ms0_10 t) fullShare (iblk m c 10 t) := by
  unfold Dat.leavesExact; rw [liveAt0_10 t, after10]

/-- What the body is called with at point `t`. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 28800000 in
/-- The body at the first point. -/
theorem sound_first (h : t.val = 0) :
    bodyPre m c t ⊢ wp frame (wpE (defs₀ (F := F)) Variants.none c none) Set.univ (bodyAt0 t) (fun _ => bodyPost m c t) := by
  unfold bodyPre bodyPost bodyAt0
  simp only [
    before0, before1, before2, before3, before4, before5, before6, before7,
    before8, before9, before10]
  rw [at_end, at_start, show (dats m 0 c).owesAt () t.succ = (dats m 0 c).owesAt () t.castSucc from rfl,
    between_first m c t h, PhiA0_eq, bufsAt_first m c t h,
    leaves0, leaves1, leaves2, leaves3, leaves4, leaves5, leaves6, leaves7,
    leaves8, leaves9, leaves10, leaves11, leaves12, leaves13, leaves14, leaves15,
    leaves16, leaves17, leaves18, leaves19, leaves20, leaves21,
    left11_first m c t h, left12_first m c t h, left13_first m c t h, left14_first m c t h,
    left15_first m c t h, left16_first m c t h, left17_first m c t h, left18_first m c t h,
    left19_first m c t h, left20_first m c t h, left21_first m c t h]
  unfold owned outA11 outA12 outA13 outA14 outA15 outA16 outA17 outA18 outA19 outA20 outA21 scrA0 scrA1 scrA2
  dsimp only
  iintro ⟨⟨⟨HS0, HS1, HS2⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩⟩
  iapply ((runA m c t h).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  iintro ⟨
    H0, H1, H2, H3, H4, H5, H6, H7,
    H8, H9, H10, ⟨%e11, H11⟩, ⟨%e12, H12⟩, ⟨%e13, H13⟩, ⟨%e14, H14⟩, ⟨%e15, H15⟩,
    ⟨%e16, H16⟩, ⟨%e17, H17⟩, ⟨%e18, H18⟩, ⟨%e19, H19⟩, ⟨%e20, H20⟩, ⟨%e21, H21⟩, ⟨%f0, HS0⟩, ⟨%f1, HS1⟩,
    ⟨%f2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scovA0 m c t h)
      isplitl [HS1]
      · unfold owns; iexists _; isplitr
        swap; · iexact HS1
        ipureintro; exact View.read_writes_of_cover _ _ _ _ _ (scovA1 m c t h)
      unfold owns; iexists _; isplitr
      swap; · iexact HS2
      ipureintro; exact View.read_writes_of_cover _ _ _ _ _ (scovA2 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covA11 m c t h)
  isplitl [H12]
  · unfold owns; iexists _; isplitr
    swap; · iexact H12
    ipureintro; exact View.read_writes_of_cover _ _ _ _ _ (covA12 m c t h)
  isplitl [H13]
  · unfold owns; iexists _; isplitr
    swap; · iexact H13
    ipureintro; exact View.read_writes_of_cover _ _ _ _ _ (covA13 m c t h)
  isplitl [H14]
  · unfold owns; iexists _; isplitr
    swap; · iexact H14
    ipureintro; exact View.read_writes_of_cover _ _ _ _ _ (covA14 m c t h)
  isplitl [H15]
  · unfold owns; iexists _; isplitr
    swap; · iexact H15
    ipureintro; exact View.read_writes_of_cover _ _ _ _ _ (covA15 m c t h)
  isplitl [H16]
  · unfold owns; iexists _; isplitr
    swap; · iexact H16
    ipureintro; exact View.read_writes_of_cover _ _ _ _ _ (covA16 m c t h)
  isplitl [H17]
  · unfold owns; iexists _; isplitr
    swap; · iexact H17
    ipureintro; exact View.read_writes_of_cover _ _ _ _ _ (covA17 m c t h)
  isplitl [H18]
  · unfold owns; iexists _; isplitr
    swap; · iexact H18
    ipureintro; exact View.read_writes_of_cover _ _ _ _ _ (covA18 m c t h)
  isplitl [H19]
  · unfold owns; iexists _; isplitr
    swap; · iexact H19
    ipureintro; exact View.read_writes_of_cover _ _ _ _ _ (covA19 m c t h)
  isplitl [H20]
  · unfold owns; iexists _; isplitr
    swap; · iexact H20
    ipureintro; exact View.read_writes_of_cover _ _ _ _ _ (covA20 m c t h)
  unfold owns; iexists _; isplitr
  swap; · iexact H21
  ipureintro; exact View.read_writes_of_cover _ _ _ _ _ (covA21 m c t h)

set_option maxHeartbeats 28800000 in
/-- The body at an odd point. -/
theorem sound_odd (h : t.val % 2 = 1) :
    bodyPre m c t ⊢ wp frame (wpE (defs₀ (F := F)) Variants.none c none) Set.univ (bodyAt0 t) (fun _ => bodyPost m c t) := by
  unfold bodyPre bodyPost bodyAt0
  simp only [
    before0, before1, before2, before3, before4, before5, before6, before7,
    before8, before9, before10]
  rw [at_end, at_start, show (dats m 0 c).owesAt () t.succ = (dats m 0 c).owesAt () t.castSucc from rfl,
    between_later m c t (by omega), bufsAt_odd m c t h,
    leaves0, leaves1, leaves2, leaves3, leaves4, leaves5, leaves6, leaves7,
    leaves8, leaves9, leaves10, leaves11, leaves12, leaves13, leaves14, leaves15,
    leaves16, leaves17, leaves18, leaves19, leaves20, leaves21,
    left11_odd m c t h, left12_odd m c t h, left13_odd m c t h, left14_odd m c t h,
    left15_odd m c t h, left16_odd m c t h, left17_odd m c t h, left18_odd m c t h,
    left19_odd m c t h, left20_odd m c t h, left21_odd m c t h]
  unfold owned outB11 outB12 outB13 outB14 outB15 outB16 outB17 outB18 outB19 outB20 outB21 scrB0 scrB2
  dsimp only
  iintro ⟨⟨⟨HS0, HS1, HS2⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩⟩
  iapply ((runB m c t h (found m c t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexists _; iexact HS2
  iintro ⟨
    H0, H1, H2, H3, H4, H5, H6, H7,
    H8, H9, H10, ⟨%e11, H11⟩, ⟨%e12, H12⟩, ⟨%e13, H13⟩, ⟨%e14, H14⟩, ⟨%e15, H15⟩,
    ⟨%e16, H16⟩, ⟨%e17, H17⟩, ⟨%e18, H18⟩, ⟨%e19, H19⟩, ⟨%e20, H20⟩, ⟨%e21, H21⟩, ⟨%f0, HS0⟩, HS1,
    ⟨%f2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scovB0 m c t h (found m c t))
      isplitl [HS1]
      · iexact HS1
      unfold owns; iexists _; isplitr
      swap; · iexact HS2
      ipureintro; exact View.read_writes_of_cover _ _ _ _ _ (scovB2 m c t h (found m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covB11 m c t h (found m c t))
  isplitl [H12]
  · unfold owns; iexists _; isplitr
    swap; · iexact H12
    ipureintro; exact View.read_writes_of_cover _ _ _ _ _ (covB12 m c t h (found m c t))
  isplitl [H13]
  · unfold owns; iexists _; isplitr
    swap; · iexact H13
    ipureintro; exact View.read_writes_of_cover _ _ _ _ _ (covB13 m c t h (found m c t))
  isplitl [H14]
  · unfold owns; iexists _; isplitr
    swap; · iexact H14
    ipureintro; exact View.read_writes_of_cover _ _ _ _ _ (covB14 m c t h (found m c t))
  isplitl [H15]
  · unfold owns; iexists _; isplitr
    swap; · iexact H15
    ipureintro; exact View.read_writes_of_cover _ _ _ _ _ (covB15 m c t h (found m c t))
  isplitl [H16]
  · unfold owns; iexists _; isplitr
    swap; · iexact H16
    ipureintro; exact View.read_writes_of_cover _ _ _ _ _ (covB16 m c t h (found m c t))
  isplitl [H17]
  · unfold owns; iexists _; isplitr
    swap; · iexact H17
    ipureintro; exact View.read_writes_of_cover _ _ _ _ _ (covB17 m c t h (found m c t))
  isplitl [H18]
  · unfold owns; iexists _; isplitr
    swap; · iexact H18
    ipureintro; exact View.read_writes_of_cover _ _ _ _ _ (covB18 m c t h (found m c t))
  isplitl [H19]
  · unfold owns; iexists _; isplitr
    swap; · iexact H19
    ipureintro; exact View.read_writes_of_cover _ _ _ _ _ (covB19 m c t h (found m c t))
  isplitl [H20]
  · unfold owns; iexists _; isplitr
    swap; · iexact H20
    ipureintro; exact View.read_writes_of_cover _ _ _ _ _ (covB20 m c t h (found m c t))
  unfold owns; iexists _; isplitr
  swap; · iexact H21
  ipureintro; exact View.read_writes_of_cover _ _ _ _ _ (covB21 m c t h (found m c t))

set_option maxHeartbeats 28800000 in
/-- The body at a later even point. -/
theorem sound_even (h : t.val ≠ 0) (h' : ¬ t.val % 2 = 1) :
    bodyPre m c t ⊢ wp frame (wpE (defs₀ (F := F)) Variants.none c none) Set.univ (bodyAt0 t) (fun _ => bodyPost m c t) := by
  unfold bodyPre bodyPost bodyAt0
  simp only [
    before0, before1, before2, before3, before4, before5, before6, before7,
    before8, before9, before10]
  rw [at_end, at_start, show (dats m 0 c).owesAt () t.succ = (dats m 0 c).owesAt () t.castSucc from rfl,
    between_later m c t h, bufsAt_even m c t h h',
    leaves0, leaves1, leaves2, leaves3, leaves4, leaves5, leaves6, leaves7,
    leaves8, leaves9, leaves10, leaves11, leaves12, leaves13, leaves14, leaves15,
    leaves16, leaves17, leaves18, leaves19, leaves20, leaves21,
    left11_even m c t h h', left12_even m c t h h', left13_even m c t h h', left14_even m c t h h',
    left15_even m c t h h', left16_even m c t h h', left17_even m c t h h', left18_even m c t h h',
    left19_even m c t h h', left20_even m c t h h', left21_even m c t h h']
  unfold owned outC11 outC12 outC13 outC14 outC15 outC16 outC17 outC18 outC19 outC20 outC21 scrC0 scrC1
  dsimp only
  iintro ⟨⟨⟨HS0, HS1, HS2⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩⟩
  iapply ((runC m c t h h' (found m c t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexists _; iexact HS1
  isplitl [HS2]; · iexact HS2
  iintro ⟨
    H0, H1, H2, H3, H4, H5, H6, H7,
    H8, H9, H10, ⟨%e11, H11⟩, ⟨%e12, H12⟩, ⟨%e13, H13⟩, ⟨%e14, H14⟩, ⟨%e15, H15⟩,
    ⟨%e16, H16⟩, ⟨%e17, H17⟩, ⟨%e18, H18⟩, ⟨%e19, H19⟩, ⟨%e20, H20⟩, ⟨%e21, H21⟩, ⟨%f0, HS0⟩, ⟨%f1, HS1⟩,
    HS2⟩
  isplitl [HS0 HS1 HS2 Hg]
  · isplitl [HS0 HS1 HS2]
    · isplitl [HS0]
      · unfold owns; iexists _; isplitr
        swap; · iexact HS0
        ipureintro; exact View.read_writes_of_cover _ _ _ _ _ (scovC0 m c t h h' (found m c t))
      isplitl [HS1]
      · unfold owns; iexists _; isplitr
        swap; · iexact HS1
        ipureintro; exact View.read_writes_of_cover _ _ _ _ _ (scovC1 m c t h h' (found m c t))
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (covC11 m c t h h' (found m c t))
  isplitl [H12]
  · unfold owns; iexists _; isplitr
    swap; · iexact H12
    ipureintro; exact View.read_writes_of_cover _ _ _ _ _ (covC12 m c t h h' (found m c t))
  isplitl [H13]
  · unfold owns; iexists _; isplitr
    swap; · iexact H13
    ipureintro; exact View.read_writes_of_cover _ _ _ _ _ (covC13 m c t h h' (found m c t))
  isplitl [H14]
  · unfold owns; iexists _; isplitr
    swap; · iexact H14
    ipureintro; exact View.read_writes_of_cover _ _ _ _ _ (covC14 m c t h h' (found m c t))
  isplitl [H15]
  · unfold owns; iexists _; isplitr
    swap; · iexact H15
    ipureintro; exact View.read_writes_of_cover _ _ _ _ _ (covC15 m c t h h' (found m c t))
  isplitl [H16]
  · unfold owns; iexists _; isplitr
    swap; · iexact H16
    ipureintro; exact View.read_writes_of_cover _ _ _ _ _ (covC16 m c t h h' (found m c t))
  isplitl [H17]
  · unfold owns; iexists _; isplitr
    swap; · iexact H17
    ipureintro; exact View.read_writes_of_cover _ _ _ _ _ (covC17 m c t h h' (found m c t))
  isplitl [H18]
  · unfold owns; iexists _; isplitr
    swap; · iexact H18
    ipureintro; exact View.read_writes_of_cover _ _ _ _ _ (covC18 m c t h h' (found m c t))
  isplitl [H19]
  · unfold owns; iexists _; isplitr
    swap; · iexact H19
    ipureintro; exact View.read_writes_of_cover _ _ _ _ _ (covC19 m c t h h' (found m c t))
  isplitl [H20]
  · unfold owns; iexists _; isplitr
    swap; · iexact H20
    ipureintro; exact View.read_writes_of_cover _ _ _ _ _ (covC20 m c t h h' (found m c t))
  unfold owns; iexists _; isplitr
  swap; · iexact H21
  ipureintro; exact View.read_writes_of_cover _ _ _ _ _ (covC21 m c t h h' (found m c t))

/-- The body at any point. -/
theorem sound_body :
    bodyPre m c t ⊢ wp frame (wpE (defs₀ (F := F)) Variants.none c none) Set.univ (bodyAt0 t) (fun _ => bodyPost m c t) := by
  by_cases h : t.val = 0
  · exact sound_first m c t h
  by_cases h' : t.val % 2 = 1
  · exact sound_odd m c t h'
  · exact sound_even m c t h h'

theorem body_row : defs₀ (F := F) .tc cfg0.body (cfg0.bodyArgs t (cfg0.slots t)) = bodyAt0 t := by
  unfold defs₀; rw [Defs.onTc_tc]

omit t in
set_option maxHeartbeats 8000000 in
/-- The obligation of the pipeline: the body at every point. -/
theorem obligation : BodyObligation (dats (F := F) m 0 c) (defs₀ (F := F)) Variants.none () Set.univ := fun t => by
  rw [bigSep_W0, bigSep_W0, body_row]
  exact triple_restated (sound_body m c t) rfl .rfl fun _ => .rfl

omit t in
theorem enter : Pipeline.ΦA spec0 c ⊢ (dats m 0 c).Φ 0 := by
  rw [show (dats m 0 c).Φ 0 = Pipeline.ΦA spec0 c from rfl]
  try exact Idealize.SL.BI.Entails.refl _

omit t in
theorem leave : (dats m 0 c).Φ (Fin.last cfg0.N) ⊢ Pipeline.ΦA spec0 c := by
  rw [show (dats m 0 c).Φ (Fin.last cfg0.N) = owned c (bufsAt m c 64 (by rw [show cfg0.N = 65 from N_0]; decide)) from rfl, PhiA0_eq]
  unfold owned
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

omit c t

set_option backward.isDefEq.respectTransparency.types false in
set_option maxHeartbeats 8000000 in
/-- The launch, every semaphore at zero at its end. -/
theorem run_quiet : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

end Cert.MixIdeal.Launched
-- ==== Proof.MixReference.lean ====
/-
  The mixing of the prompt's tokens as the reference writes it, sixteen sequences of 2048 tokens: the projected tokens,
  their value features, their turned indexer keys and the inputs of the convolution that are kept; each read at an index.
-/
module

public import proofs.«01_k».proof.Proof.Gen.MixReferenceIdeal.Run
public import proofs.«01_k».proof.Proof.MixRow
public import Idealize.ShloMosaic.Lib.Claim
public import Idealize.ShloMosaic.Lib.Pipeline.ValueKit

@[expose] public section

set_option maxRecDepth 16384

noncomputable section

namespace Cert.MixReferenceIdeal.Value

open Cert.MixReferenceIdeal Cert.MixReferenceIdeal.Gen
open Idealize.ShloMosaic Idealize.ShloMosaic.TcCoe Idealize.SL.Sem

/-- The projected tokens. -/
def projected (x : FVec Ideal S32768x1024 .f32) (g : FVec Ideal S1x1024 .f32) (w : FVec Ideal S1x1024x2888 .f32) :
    FVec Ideal S16x2048x2888 .f32 :=
  Host.dotGeneral dot_S16x2048x1024_S1024x2888_S16x2048x2888_2_0_01_1_n_n none (mulf (mulf (shapeCast S16x2048x1024 x
    shapeCasts_S32768x1024_S16x2048x1024) (broadcastInDim S16x2048x1024 ![0, 1, 2]
    bcast_S16x2048x1_S16x2048x1024_0_1_2 (Host.rsqrt (addf (Host.divf (broadcastInDim S16x2048x1 ![0, 1]
    bcast_S16x2048_S16x2048x1_0_1 (Host.reduceAdd (mulf (shapeCast S16x2048x1024 x
    shapeCasts_S32768x1024_S16x2048x1024) (shapeCast S16x2048x1024 x shapeCasts_S32768x1024_S16x2048x1024)) (constant
    S_ .f32 0x00000000#32) reducesTo_S16x2048x1024_S16x2048_d2 h_S_)) (broadcastInDim S16x2048x1 ![]
    bcast_S_S16x2048x1 (constant S_ .f32 0x44800000#32))) (broadcastInDim S16x2048x1 ![] bcast_S_S16x2048x1 (constant
    S_ .f32 0x358637BD#32)))))) (broadcastInDim S16x2048x1024 ![0, 1, 2] bcast_S1x1x1024_S16x2048x1024_0_1_2
    (broadcastInDim S1x1x1024 ![2] bcast_S1024_S1x1x1024_2 (shapeCast S1024 g shapeCasts_S1x1024_S1024)))) (shapeCast
    S1024x2888 w shapeCasts_S1x1024x2888_S1024x2888)

/-- Their value features, by head. -/
def valued (P : FVec Ideal S16x2048x2888 .f32) : FVec Ideal S16x2048x2x64 .f32 :=
  shapeCast S16x2048x2x64 (extractStridedSlice S16x2048x128 ![0, 0, 2176] P
    slices_S16x2048x2888_S16x2048x128_0_0_2176) shapeCasts_S16x2048x128_S16x2048x2x64

/-- The inputs of the convolution that are kept: those of the last two tokens of each sequence. -/
def kept (P : FVec Ideal S16x2048x2888 .f32) : FVec Ideal S16x2x512 .f32 :=
  extractStridedSlice S16x2x512 ![0, 2048, 0] (concatenate S16x2050x512 1 [⟨S16x2x512, (broadcastInDim S16x2x512 ![]
    bcast_S_S16x2x512 (constant S_ .f32 0x00000000#32))⟩, ⟨S16x2048x512, (mulf (extractStridedSlice S16x2048x512 ![0,
    0, 512] P slices_S16x2048x2888_S16x2048x512_0_0_512) (extractStridedSlice S16x2048x512 ![0, 0, 1024] P
    slices_S16x2048x2888_S16x2048x512_0_0_1024))⟩] concatenates_S16x2x512_S16x2048x512_S16x2050x512_d1)
    slices_S16x2050x512_S16x2x512_0_2048_0

/-- The features the indexer's keys are turned from. -/
def unturned (P : FVec Ideal S16x2048x2888 .f32) : FVec Ideal S16x2048x1x64 .f32 :=
  broadcastInDim S16x2048x1x64 ![0, 1, 3] bcast_S16x2048x64_S16x2048x1x64_0_1_3 (extractStridedSlice S16x2048x64 ![0,
    0, 2816] P slices_S16x2048x2888_S16x2048x64_0_0_2816)

/-- The turned keys of the indexer, from the features and the angles of the 2048 positions. -/
def turnedKeys (y : FVec Ideal S16x2048x1x64 .f32) (cos sin : FVec Ideal S2048x8 .f32) : FVec Ideal S16x2048x64 .f32 :=
  shapeCast S16x2048x64 (concatenate S16x2048x1x64 3 [⟨S16x2048x1x16, (concatenate S16x2048x1x16 3 [⟨S16x2048x1x8,
    (subf (mulf (extractStridedSlice S16x2048x1x8 ![0, 0, 0, 0] y slices_S16x2048x1x64_S16x2048x1x8_0_0_0_0)
    (broadcastInDim S16x2048x1x8 ![0, 1, 2, 3] bcast_S1x2048x1x8_S16x2048x1x8_0_1_2_3 (broadcastInDim S1x2048x1x8 ![1,
    2, 3] bcast_S2048x1x8_S1x2048x1x8_1_2_3 (broadcastInDim S2048x1x8 ![0, 2] bcast_S2048x8_S2048x1x8_0_2 cos))))
    (mulf (extractStridedSlice S16x2048x1x8 ![0, 0, 0, 8] y slices_S16x2048x1x64_S16x2048x1x8_0_0_0_8) (broadcastInDim
    S16x2048x1x8 ![0, 1, 2, 3] bcast_S1x2048x1x8_S16x2048x1x8_0_1_2_3 (broadcastInDim S1x2048x1x8 ![1, 2, 3]
    bcast_S2048x1x8_S1x2048x1x8_1_2_3 (broadcastInDim S2048x1x8 ![0, 2] bcast_S2048x8_S2048x1x8_0_2 sin)))))⟩,
    ⟨S16x2048x1x8, (addf (mulf (extractStridedSlice S16x2048x1x8 ![0, 0, 0, 8] y
    slices_S16x2048x1x64_S16x2048x1x8_0_0_0_8) (broadcastInDim S16x2048x1x8 ![0, 1, 2, 3]
    bcast_S1x2048x1x8_S16x2048x1x8_0_1_2_3 (broadcastInDim S1x2048x1x8 ![1, 2, 3] bcast_S2048x1x8_S1x2048x1x8_1_2_3
    (broadcastInDim S2048x1x8 ![0, 2] bcast_S2048x8_S2048x1x8_0_2 cos)))) (mulf (extractStridedSlice S16x2048x1x8 ![0,
    0, 0, 0] y slices_S16x2048x1x64_S16x2048x1x8_0_0_0_0) (broadcastInDim S16x2048x1x8 ![0, 1, 2, 3]
    bcast_S1x2048x1x8_S16x2048x1x8_0_1_2_3 (broadcastInDim S1x2048x1x8 ![1, 2, 3] bcast_S2048x1x8_S1x2048x1x8_1_2_3
    (broadcastInDim S2048x1x8 ![0, 2] bcast_S2048x8_S2048x1x8_0_2 sin)))))⟩]
    concatenates_S16x2048x1x8_S16x2048x1x8_S16x2048x1x16_d3)⟩, ⟨S16x2048x1x48, (extractStridedSlice S16x2048x1x48 ![0,
    0, 0, 16] y slices_S16x2048x1x64_S16x2048x1x48_0_0_0_16)⟩]
    concatenates_S16x2048x1x16_S16x2048x1x48_S16x2048x1x64_d3) shapeCasts_S16x2048x1x64_S16x2048x64

/-- A projected token is its row's features. -/
theorem projected_apply (x : FVec Ideal S32768x1024 .f32) (g : FVec Ideal S1x1024 .f32) (w : FVec Ideal S1x1024x2888 .f32)
    (b : Fin 16) (t : Fin 2048) (j : Fin 2888) : projected x g w (ix3 b t j) =
    Mix.feature (fun l => x (ix2 ⟨b.val * 2048 + t.val, by omega⟩ l)) (fun l => g (ix2 0 l)) (fun k => w (ix3 0 k j)) := by
  pointwise [projected, Mix.feature, Swiglu.unitRow]

theorem valued_apply (P : FVec Ideal S16x2048x2888 .f32) (b : Fin 16) (t : Fin 2048) (h : Fin 2) (e : Fin 64) :
    valued P (ix4 b t h e) = P (ix3 b t ⟨2176 + (h.val * 64 + e.val), by omega⟩) := by
  pointwise [valued]

theorem kept_apply (P : FVec Ideal S16x2048x2888 .f32) (b : Fin 16) (t : Fin 2) (l : Fin 512) :
    kept P (ix3 b t l) = P (ix3 b ⟨2046 + t.val, by omega⟩ ⟨512 + l.val, by omega⟩) * P (ix3 b ⟨2046 + t.val, by omega⟩ ⟨1024 + l.val, by omega⟩) := by
  pointwise [kept]
  rw [dif_neg (by omega)]
  have e : (⟨2048 + t.val - 2, by omega⟩ : Fin 2048) = ⟨2046 + t.val, by omega⟩ := Fin.ext (by dsimp only; omega)
  rw [e]

theorem unturned_apply (P : FVec Ideal S16x2048x2888 .f32) (b : Fin 16) (t : Fin 2048) (e : Fin 64) :
    unturned P (ix4 b t 0 e) = P (ix3 b t ⟨2816 + e.val, by omega⟩) := by
  pointwise [unturned]

theorem turnedKeys_apply (y : FVec Ideal S16x2048x1x64 .f32) (cos sin : FVec Ideal S2048x8 .f32) (b : Fin 16) (t : Fin 2048) (e : Fin 64) :
    turnedKeys y cos sin (ix3 b t e) = Mix.turned (fun d => y (ix4 b t 0 d)) (fun d => cos (ix2 t d)) (fun d => sin (ix2 t d)) e := by
  pointwise [turnedKeys, Mix.turned]
  by_cases h8 : e.val < 8
  · have i : (⟨8 + e.val, by omega⟩ : Fin 64) = ⟨e.val + 8, by omega⟩ := Fin.ext (Nat.add_comm _ _)
    rw [dif_pos (by omega), dif_pos h8, dif_pos h8, i]
  · by_cases h16 : e.val < 16
    · have i : (⟨8 + (e.val - 8), by omega⟩ : Fin 64) = e := Fin.ext (by dsimp only; omega)
      rw [dif_pos h16, dif_neg h8, dif_neg h8, dif_pos h16, i]
    · have i : (⟨16 + (e.val - 16), by omega⟩ : Fin 64) = e := Fin.ext (by dsimp only; omega)
      rw [dif_neg h16, dif_neg h8, dif_neg h16, i]

/-- The three results over arguments. -/
abbrev resultV (m : (ℓ : Loc nD τ sig) → Buf (Elt Ideal) ℓ) (c : Dev nD) : FVec Ideal S16x2048x2x64 .f32 :=
  valued (projected (m ((c.tc : Thread nD τ).loc main_arg0)) (m ((c.tc : Thread nD τ).loc main_arg1)) (m ((c.tc : Thread nD τ).loc main_arg2)))
abbrev resultKeys (m : (ℓ : Loc nD τ sig) → Buf (Elt Ideal) ℓ) (c : Dev nD) : FVec Ideal S16x2048x64 .f32 :=
  turnedKeys (unturned (projected (m ((c.tc : Thread nD τ).loc main_arg0)) (m ((c.tc : Thread nD τ).loc main_arg1))
    (m ((c.tc : Thread nD τ).loc main_arg2)))) (m ((c.tc : Thread nD τ).loc main_arg7)) (m ((c.tc : Thread nD τ).loc main_arg8))
abbrev resultKept (m : (ℓ : Loc nD τ sig) → Buf (Elt Ideal) ℓ) (c : Dev nD) : FVec Ideal S16x2x512 .f32 :=
  kept (projected (m ((c.tc : Thread nD τ).loc main_arg0)) (m ((c.tc : Thread nD τ).loc main_arg1)) (m ((c.tc : Thread nD τ).loc main_arg2)))

/-- The run, its results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = resultV m c
      ∧ r.2.mem ((c.tc : Thread nD τ).loc main_v57) = resultKeys m c
      ∧ r.2.mem ((c.tc : Thread nD τ).loc main_v33) = resultKept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2.1.trans rfl, (h c).2.2.1.trans rfl, (h c).2.2.2⟩) (run m ρ)

end Cert.MixReferenceIdeal.Value
-- ==== Proof.MixValue.lean ====
/-
  The prompt's mixing call: what it leaves of a token's value features, its turned indexer key and its convolution
  inputs, against the reference. Row tile `t - 1` is worked up at point `t`, from the projection the point before left.
-/
module

public import proofs.«01_k».proof.Defs
public import proofs.«01_k».proof.Proof.MixLaunch
public import proofs.«01_k».proof.Proof.MixReference
public import proofs.«01_k».proof.Proof.MixRow
public import Idealize.ShloMosaic.Lib.Claim
public import Idealize.ShloMosaic.Lib.Pipeline.ValueKit
public import Idealize.ShloMosaic.Lib.Pipeline.ReadBack

@[expose] public section

set_option maxRecDepth 16384

noncomputable section

namespace Cert.MixIdeal.Value

open Cert.MixIdeal Cert.MixIdeal.Gen Cert.MixIdeal.Launched
open Idealize.ShloMosaic Idealize.ShloMosaic.TcCoe Idealize.SL.Sem

/-- A table of one hundred and twenty-eight lanes: sixty-four, from three pieces, twice. -/
def table (a b : FVec Ideal S2048x8 .f32) (k : FVec Ideal S2048x48 .f32) : FVec Ideal S2048x128 .f32 :=
  concatenate S2048x128 1
    [⟨S2048x64, concatenate S2048x64 1 [⟨S2048x8, a⟩, ⟨S2048x8, b⟩, ⟨S2048x48, k⟩] concatenates_S2048x8_S2048x8_S2048x48_S2048x64_d1⟩,
     ⟨S2048x64, concatenate S2048x64 1 [⟨S2048x8, a⟩, ⟨S2048x8, b⟩, ⟨S2048x48, k⟩] concatenates_S2048x8_S2048x8_S2048x48_S2048x64_d1⟩]
    concatenates_S2048x64_S2048x64_S2048x128_d1

def zeros8 : FVec Ideal S2048x8 .f32 := broadcastInDim S2048x8 ![] bcast_S_S2048x8 (constant S_ .f32 0x00000000#32)
def zeros48 : FVec Ideal S2048x48 .f32 := broadcastInDim S2048x48 ![] bcast_S_S2048x48 (constant S_ .f32 0x00000000#32)
def ones48 : FVec Ideal S2048x48 .f32 := broadcastInDim S2048x48 ![] bcast_S_S2048x48 (constant S_ .f32 0x3F800000#32)

theorem table_cos (a : FVec Ideal S2048x8 .f32) (r : Fin 2048) (e : Fin 64) : table a a ones48 (ix2 r ⟨e.val, by omega⟩) =
    Mix.tableC (fun d => a (ix2 r d)) e.val := by
  pointwise [table, ones48, Mix.tableC]
  simp only [show e.val - 8 < 8 ↔ e.val < 16 by omega]

theorem table_ahead (a : FVec Ideal S2048x8 .f32) (r : Fin 2048) (e : Fin 64) :
    table (Host.negf a) zeros8 zeros48 (ix2 r ⟨e.val, by omega⟩) = Mix.tableA (fun d => a (ix2 r d)) e.val := by
  pointwise [table, zeros8, zeros48, Mix.tableA]
  simp only [dite_eq_ite, ite_self]

theorem table_behind (a : FVec Ideal S2048x8 .f32) (r : Fin 2048) (e : Fin 64) :
    table zeros8 a zeros48 (ix2 r ⟨e.val, by omega⟩) = Mix.tableB (fun d => a (ix2 r d)) e.val := by
  pointwise [table, zeros8, zeros48, Mix.tableB]
  simp only [show e.val - 8 < 8 ↔ e.val < 16 by omega]

/-- Where the windows stand at a point. -/
theorem idx : ∀ t : Fin grid0.N, win0_0.index t = ![min t.val 63, 0] ∧ win0_1.index t = ![0, 0] ∧ win0_2.index t = ![0, 0]
    ∧ win0_8.index t = ![(t.val - 1) % 4, 0] ∧ win0_9.index t = ![(t.val - 1) % 4, 0] ∧ win0_10.index t = ![(t.val - 1) % 4, 0]
    ∧ win0_18.index t = ![t.val - 1, 0] ∧ win0_20.index t = ![(t.val - 1) / 4, 0, (t.val - 1) % 4]
    ∧ win0_21.index t = ![(t.val - 1) / 4, 0, (t.val - 1) % 4] := by decide +kernel

theorem bound (t : Fin cfg0.N) : t.val < 65 := Nat.lt_of_lt_of_eq t.isLt N_0

theorem pick_second {α β γ : Type} {s : α × β × γ} {a : α} {b : β} {d : γ} (h : s = (a, b, d)) : s.2.1 = b := by rw [h]
theorem pick_third {α β γ : Type} {s : α × β × γ} {a : α} {b : β} {d : γ} (h : s = (a, b, d)) : s.2.2 = d := by rw [h]

section Components

variable {F : FTy → Type} [FloatOps F] (m : (ℓ : Loc nD τ sig) → Buf (Elt F) ℓ) (c : Dev nD)

/-! What the buffers hold, one component at a time. -/

set_option maxHeartbeats 8000000 in
theorem second_first (t : Fin cfg0.N) (h : t.val = 0) : (bufsAt m c t.val t.isLt).2.1 = scrA1 m c t h :=
  pick_second (bufsAt_first m c t h)
set_option maxHeartbeats 8000000 in
theorem second_even (t : Fin cfg0.N) (h : t.val ≠ 0) (h' : ¬ t.val % 2 = 1) :
    (bufsAt m c t.val t.isLt).2.1 = scrC1 m c t h h' (found m c t) :=
  pick_second (bufsAt_even m c t h h')
set_option maxHeartbeats 8000000 in
theorem third_odd (t : Fin cfg0.N) (h : t.val % 2 = 1) : (bufsAt m c t.val t.isLt).2.2 = scrB2 m c t h (found m c t) :=
  pick_third (bufsAt_odd m c t h)

end Components

variable (m : (ℓ : Loc nD τ sig) → Buf (Elt Ideal) ℓ) (c : Dev nD)

/-- The arguments by name. -/
abbrev argX : FVec Ideal S32768x1024 .f32 := m ((c.tc : Thread nD τ).loc main_arg0)
abbrev argG : FVec Ideal S1x1024 .f32 := m ((c.tc : Thread nD τ).loc main_arg1)
abbrev argW : FVec Ideal S1x1024x2888 .f32 := m ((c.tc : Thread nD τ).loc main_arg2)
abbrev argCos : FVec Ideal S2048x8 .f32 := m ((c.tc : Thread nD τ).loc main_arg7)
abbrev argSin : FVec Ideal S2048x8 .f32 := m ((c.tc : Thread nD τ).loc main_arg8)

/-- The tokens as the region finds them. -/
theorem entry_x : (V m c main_arg0 : S32768x1024.Idx → EReal) = argX m c := by
  show StableHlo.after [hostOps0, hostOps0_1, hostOps0_2].flatten (fun b => m (c, b)) (Proc.tc.devRef main_arg0) = _
  simp only [List.flatten_cons, List.flatten_nil, List.append_nil, List.cons_append, List.nil_append]
  after_results

/-- The gain. -/
theorem entry_g : (V m c main_v4 : S1x1024.Idx → EReal) = broadcastInDim S1x1024 ![1] bcast_S1024_S1x1024_1 (shapeCast S1024 (argG m c) shapeCasts_S1x1024_S1024) := by
  show StableHlo.after [hostOps0, hostOps0_1, hostOps0_2].flatten (fun b => m (c, b)) (Proc.tc.devRef main_v4) = _
  simp only [List.flatten_cons, List.flatten_nil, List.append_nil, List.cons_append, List.nil_append]
  after_results
  rfl

/-- The weights: columns of zeros after them. -/
theorem entry_w : (V m c main_v2 : S1024x2944.Idx → EReal) = pad S1024x2944 ![0, 0] ![0, 56] ![0, 0]
    (shapeCast S1024x2888 (argW m c) shapeCasts_S1x1024x2888_S1024x2888) (sitofp (F := Ideal) .f32 (constantI S_ 32 0#32)) pads_S1024x2888_S1024x2944_000_0560 h_S_ := by
  show StableHlo.after [hostOps0, hostOps0_1, hostOps0_2].flatten (fun b => m (c, b)) (Proc.tc.devRef main_v2) = _
  simp only [List.flatten_cons, List.flatten_nil, List.append_nil, List.cons_append, List.nil_append]
  after_results
  rfl

/-- The table of cosines. -/
theorem entry_cos : (V m c main_v21 : S2048x128.Idx → EReal) = table (argCos m c) (argCos m c) ones48 := by
  show StableHlo.after [hostOps0, hostOps0_1, hostOps0_2].flatten (fun b => m (c, b)) (Proc.tc.devRef main_v21) = _
  simp only [List.flatten_cons, List.flatten_nil, List.append_nil, List.cons_append, List.nil_append]
  after_results
  rfl

/-- The table for the features ahead. -/
theorem entry_ahead : (V m c main_v22 : S2048x128.Idx → EReal) = table (Host.negf (argSin m c)) zeros8 zeros48 := by
  show StableHlo.after [hostOps0, hostOps0_1, hostOps0_2].flatten (fun b => m (c, b)) (Proc.tc.devRef main_v22) = _
  simp only [List.flatten_cons, List.flatten_nil, List.append_nil, List.cons_append, List.nil_append]
  after_results
  rfl

/-- The table for the features behind. -/
theorem entry_behind : (V m c main_v23 : S2048x128.Idx → EReal) = table zeros8 (argSin m c) zeros48 := by
  show StableHlo.after [hostOps0, hostOps0_1, hostOps0_2].flatten (fun b => m (c, b)) (Proc.tc.devRef main_v23) = _
  simp only [List.flatten_cons, List.flatten_nil, List.append_nil, List.cons_append, List.nil_append]
  after_results
  rfl

theorem read_x (t : Fin cfg0.N) (r : Fin 512) (l : Fin 1024) :
    iblk m c 0 t (ix2 r l) = argX m c (ix2 ⟨min t.val 63 * 512 + r.val, by omega⟩ l) := by
  have hp : ((cfg0.win 0).blk t).view.emb (ix2 r l) = ix2 ⟨min t.val 63 * 512 + r.val, by omega⟩ l := by blk_ext [idx t]
  refine (congrArg (V m c main_arg0 : S32768x1024.Idx → EReal) hp).trans ?_
  rw [entry_x]

theorem read_g (t : Fin cfg0.N) (l : Fin 1024) : iblk m c 1 t (ix2 0 l) = argG m c (ix2 0 l) := by
  have hp : ((cfg0.win 1).blk t).view.emb (ix2 0 l) = (ix2 0 l) := by blk_ext [idx t]
  refine (congrArg (V m c main_v4 : S1x1024.Idx → EReal) hp).trans ?_
  rw [entry_g]
  pointwise

theorem read_w (t : Fin cfg0.N) (k : Fin 1024) (j : Fin 2888) : iblk m c 2 t (ix2 k ⟨j.val, by omega⟩) = argW m c (ix3 0 k j) := by
  have hp : ((cfg0.win 2).blk t).view.emb (ix2 k ⟨j.val, by omega⟩) = (ix2 k ⟨j.val, by omega⟩) := by blk_ext [idx t]
  refine (congrArg (V m c main_v2 : S1024x2944.Idx → EReal) hp).trans ?_
  rw [entry_w]
  pointwise

/-- The position of a token of the tile worked up at a point. -/
def place (t : Fin cfg0.N) (r : Fin 512) : Fin 2048 := ⟨(t.val - 1) % 4 * 512 + r.val, by omega⟩

theorem read_cos (t : Fin cfg0.N) (r : Fin 512) (e : Fin 64) :
    iblk m c 8 t (ix2 r ⟨e.val, by omega⟩) = Mix.tableC (fun d => argCos m c (ix2 (place t r) d)) e.val := by
  have hp : ((cfg0.win 8).blk t).view.emb (ix2 r ⟨e.val, by omega⟩) = ix2 (place t r) ⟨e.val, by omega⟩ := by
    unfold place
    blk_ext [idx t]
  refine (congrArg (V m c main_v21 : S2048x128.Idx → EReal) hp).trans ?_
  rw [entry_cos]
  exact table_cos _ _ e

theorem read_ahead (t : Fin cfg0.N) (r : Fin 512) (e : Fin 64) :
    iblk m c 9 t (ix2 r ⟨e.val, by omega⟩) = Mix.tableA (fun d => argSin m c (ix2 (place t r) d)) e.val := by
  have hp : ((cfg0.win 9).blk t).view.emb (ix2 r ⟨e.val, by omega⟩) = ix2 (place t r) ⟨e.val, by omega⟩ := by
    unfold place
    blk_ext [idx t]
  refine (congrArg (V m c main_v22 : S2048x128.Idx → EReal) hp).trans ?_
  rw [entry_ahead]
  exact table_ahead _ _ e

theorem read_behind (t : Fin cfg0.N) (r : Fin 512) (e : Fin 64) :
    iblk m c 10 t (ix2 r ⟨e.val, by omega⟩) = Mix.tableB (fun d => argSin m c (ix2 (place t r) d)) e.val := by
  have hp : ((cfg0.win 10).blk t).view.emb (ix2 r ⟨e.val, by omega⟩) = ix2 (place t r) ⟨e.val, by omega⟩ := by
    unfold place
    blk_ext [idx t]
  refine (congrArg (V m c main_v23 : S2048x128.Idx → EReal) hp).trans ?_
  rw [entry_behind]
  exact table_behind _ _ e

/-- A feature of a projected token. -/
theorem projA_apply (x : Vec Ideal S512x1024 .f32) (g : Vec Ideal S1x1024 .f32) (w : Vec Ideal S1024x2944 .bf16) (r : Fin 512) (j : Fin 2944) :
    k0_pay7 x g w (ix2 r j) = Mix.feature (fun l => x (ix2 r l)) (fun l => g (ix2 0 l)) (fun k => w (ix2 k j)) := by
  pointwise [k0_pay7, Mix.feature, Swiglu.unitRow]

theorem projB_apply (x : Vec Ideal S512x1024 .f32) (g : Vec Ideal S1x1024 .f32) (w : Vec Ideal S1024x2944 .bf16) (r : Fin 512) (j : Fin 2944) :
    k0_pay43 x g w (ix2 r j) = Mix.feature (fun l => x (ix2 r l)) (fun l => g (ix2 0 l)) (fun k => w (ix2 k j)) := by
  pointwise [k0_pay43, Mix.feature, Swiglu.unitRow]

/-- The features of a token of the arguments. -/
def token (r : Fin 32768) (j : Fin 2888) : EReal :=
  Mix.feature (fun l => argX m c (ix2 r l)) (fun l => argG m c (ix2 0 l)) (fun k => argW m c (ix3 0 k j))

/-- The first sixty-four lanes are those the indexer's key is turned on. -/
theorem lane : ∀ e : Fin 64, IntOp.cmpi CmpIPredicate.slt (BitVec.ofNat 32 e.val) 64#32 = 1#1 := by decide

/-- Three products with the tables. -/
def products (P : S512x2944.Idx → EReal) (ca sa sb : S512x128.Idx → EReal) (r : Fin 512) (e : Fin 64) : EReal :=
  P (ix2 r ⟨2816 + e.val, by omega⟩) * ca (ix2 r ⟨e.val, by omega⟩)
    + P (ix2 r ⟨2816 + (e.val + 128 - 120) % 128, by omega⟩) * sa (ix2 r ⟨e.val, by omega⟩)
    + P (ix2 r ⟨2816 + (e.val + 128 - 8) % 128, by omega⟩) * sb (ix2 r ⟨e.val, by omega⟩)

/-! What an odd point stores, from the buffer `P` it works up. -/

theorem valuesB_apply (P : S512x2944.Idx → EReal) (e : Fin 128) (r : Fin 512) :
    k0_pay73 (F := Ideal) (View.ld (Val := Elt Ideal) (e' := .f32) P (Rect.unit (s := S512x2944) ![0, 2176] ![512, 128] inb_S512x2944_S512x128_0_2176)) (ix3 0 e r) = P (ix2 r ⟨2176 + e.val, by omega⟩) := by
  pointwise [k0_pay73, k0_pay72]

theorem inputsB_apply (P : S512x2944.Idx → EReal) (r : Fin 8) (l : Fin 512) :
    k0_pay47 (F := Ideal) (k0_pay44 (View.ld (Val := Elt Ideal) (e' := .f32) P (Rect.unit (s := S512x2944) ![0, 512] ![512, 512] inb_S512x2944_S512x512_0_512))
      (View.ld (Val := Elt Ideal) (e' := .f32) P (Rect.unit (s := S512x2944) ![0, 1024] ![512, 512] inb_S512x2944_S512x512_0_1024))) (ix2 r l) =
      P (ix2 ⟨504 + r.val, by omega⟩ ⟨512 + l.val, by omega⟩) * P (ix2 ⟨504 + r.val, by omega⟩ ⟨1024 + l.val, by omega⟩) := by
  pointwise [k0_pay47, k0_pay44]

theorem keysB_apply (P : S512x2944.Idx → EReal) (ca sa sb : Vec Ideal S512x128 .f32) (e : Fin 64) (r : Fin 512) :
    k0_pay5 (F := Ideal) (k0_pay78 (k0_pay49 ca) (k0_pay50 sa) (k0_pay51 sb) (iota .tc S512x128 32 [1] iota_S512x128_d1_w32)
      (View.ld (Val := Elt Ideal) (e' := .f32) P (Rect.unit (s := S512x2944) ![0, 2816] ![512, 128] inb_S512x2944_S512x128_0_2816))) (ix3 0 e r) = products P ca sa sb r e := by
  pointwise [k0_pay5, k0_pay78, k0_pay77, k0_pay75, k0_pay49, k0_pay50, k0_pay51, products]
  simp only [lane e]
  rfl

/-! What an even point stores, from the buffer `P` it works up. -/

theorem valuesC_apply (P : S512x2944.Idx → EReal) (e : Fin 128) (r : Fin 512) :
    k0_pay37 (F := Ideal) (View.ld (Val := Elt Ideal) (e' := .f32) P (Rect.unit (s := S512x2944) ![0, 2176] ![512, 128] inb_S512x2944_S512x128_0_2176)) (ix3 0 e r) = P (ix2 r ⟨2176 + e.val, by omega⟩) := by
  pointwise [k0_pay37, k0_pay36]

theorem inputsC_apply (P : S512x2944.Idx → EReal) (r : Fin 8) (l : Fin 512) :
    k0_pay11 (F := Ideal) (k0_pay8 (View.ld (Val := Elt Ideal) (e' := .f32) P (Rect.unit (s := S512x2944) ![0, 512] ![512, 512] inb_S512x2944_S512x512_0_512))
      (View.ld (Val := Elt Ideal) (e' := .f32) P (Rect.unit (s := S512x2944) ![0, 1024] ![512, 512] inb_S512x2944_S512x512_0_1024))) (ix2 r l) =
      P (ix2 ⟨504 + r.val, by omega⟩ ⟨512 + l.val, by omega⟩) * P (ix2 ⟨504 + r.val, by omega⟩ ⟨1024 + l.val, by omega⟩) := by
  pointwise [k0_pay11, k0_pay8]

theorem keysC_apply (P : S512x2944.Idx → EReal) (ca sa sb : Vec Ideal S512x128 .f32) (e : Fin 64) (r : Fin 512) :
    k0_pay3 (F := Ideal) (k0_pay42 (k0_pay13 ca) (k0_pay14 sa) (k0_pay15 sb) (iota .tc S512x128 32 [1] iota_S512x128_d1_w32)
      (View.ld (Val := Elt Ideal) (e' := .f32) P (Rect.unit (s := S512x2944) ![0, 2816] ![512, 128] inb_S512x2944_S512x128_0_2816))) (ix3 0 e r) = products P ca sa sb r e := by
  pointwise [k0_pay3, k0_pay42, k0_pay41, k0_pay39, k0_pay13, k0_pay14, k0_pay15, products]
  simp only [lane e]
  rfl

/-! The projections the points leave. -/

theorem projectA (t : Fin cfg0.N) (h : t.val = 0) (r : Fin 512) (j : Fin 2888) :
    scrA1 m c t h (ix2 r ⟨j.val, by omega⟩) = token m c ⟨min t.val 63 * 512 + r.val, by omega⟩ j := by
  unfold scrA1 runA
  frame_out
  refine (projA_apply _ _ _ _ _).trans ?_
  unfold token
  congr 1
  · exact funext fun l => read_x m c t r l
  · exact funext fun l => read_g m c t l
  · exact funext fun k => read_w m c t k j

theorem projectB (t : Fin cfg0.N) (h : t.val % 2 = 1) (s : Bufs Ideal) (r : Fin 512) (j : Fin 2888) :
    scrB2 m c t h s (ix2 r ⟨j.val, by omega⟩) = token m c ⟨min t.val 63 * 512 + r.val, by omega⟩ j := by
  unfold scrB2 runB
  frame_out
  refine (projB_apply _ _ _ _ _).trans ?_
  unfold token
  congr 1
  · exact funext fun l => read_x m c t r l
  · exact funext fun l => read_g m c t l
  · exact funext fun k => read_w m c t k j

theorem projectC (t : Fin cfg0.N) (h : t.val ≠ 0) (h' : ¬ t.val % 2 = 1) (s : Bufs Ideal) (r : Fin 512) (j : Fin 2888) :
    scrC1 m c t h h' s (ix2 r ⟨j.val, by omega⟩) = token m c ⟨min t.val 63 * 512 + r.val, by omega⟩ j := by
  unfold scrC1 runC
  frame_out
  refine (projA_apply _ _ _ _ _).trans ?_
  unfold token
  congr 1
  · exact funext fun l => read_x m c t r l
  · exact funext fun l => read_g m c t l
  · exact funext fun k => read_w m c t k j

/-- After an even point the second buffer holds that point's tile, projected. -/
theorem held_even (t : Fin cfg0.N) (h : ¬ t.val % 2 = 1) (r : Fin 512) (j : Fin 2888) :
    (bufsAt m c t.val t.isLt).2.1 (ix2 r ⟨j.val, by omega⟩) = token m c ⟨min t.val 63 * 512 + r.val, by omega⟩ j := by
  by_cases h0 : t.val = 0
  · rw [second_first m c t h0, projectA]
  · rw [second_even m c t h0 h, projectC]

/-- After an odd point the third buffer does. -/
theorem held_odd (t : Fin cfg0.N) (h : t.val % 2 = 1) (r : Fin 512) (j : Fin 2888) :
    (bufsAt m c t.val t.isLt).2.2 (ix2 r ⟨j.val, by omega⟩) = token m c ⟨min t.val 63 * 512 + r.val, by omega⟩ j := by
  rw [third_odd m c t h, projectB]

/-- A token of the tile worked up at a point, by its row. -/
def row (t : Fin cfg0.N) (r : Fin 512) : Fin 32768 := ⟨(t.val - 1) * 512 + r.val, by have := bound t; omega⟩

theorem found_odd (t : Fin cfg0.N) (h : t.val % 2 = 1) (r : Fin 512) (j : Fin 2888) :
    (found m c t).2.1 (ix2 r ⟨j.val, by omega⟩) = token m c (row t r) j := by
  have hb := bound t
  refine (held_even m c ⟨t.val - 1, lt_of_le_of_lt (Nat.sub_le _ _) t.isLt⟩ (by dsimp only; omega) r j).trans ?_
  exact congrArg (token m c · j) (Fin.ext (by unfold row; dsimp only; omega))

theorem found_even (t : Fin cfg0.N) (h : t.val ≠ 0) (h' : ¬ t.val % 2 = 1) (r : Fin 512) (j : Fin 2888) :
    (found m c t).2.2 (ix2 r ⟨j.val, by omega⟩) = token m c (row t r) j := by
  have hb := bound t
  refine (held_odd m c ⟨t.val - 1, lt_of_le_of_lt (Nat.sub_le _ _) t.isLt⟩ (by dsimp only; omega) r j).trans ?_
  exact congrArg (token m c · j) (Fin.ext (by unfold row; dsimp only; omega))

/-- The turned key of a token, at its position's angles. -/
def key (R : Fin 32768) (e : Fin 64) : EReal :=
  Mix.turned (fun d => token m c R ⟨2816 + d.val, by omega⟩) (fun d => argCos m c (ix2 ⟨R.val % 2048, Nat.mod_lt _ (by decide)⟩ d))
    (fun d => argSin m c (ix2 ⟨R.val % 2048, Nat.mod_lt _ (by decide)⟩ d)) e

theorem place_row (t : Fin cfg0.N) (r : Fin 512) : (⟨(row t r).val % 2048, Nat.mod_lt _ (by decide)⟩ : Fin 2048) = place t r :=
  Fin.ext (by unfold row place; dsimp only; omega)

/-- Three products with the tables, from a token's features, are its turned key. -/
theorem key_of (P : S512x2944.Idx → EReal) (t : Fin cfg0.N) (r : Fin 512) (e : Fin 64)
    (hP : ∀ j : Fin 2888, P (ix2 r ⟨j.val, by omega⟩) = token m c (row t r) j) :
    products P (iblk m c 8 t) (iblk m c 9 t) (iblk m c 10 t) r e = key m c (row t r) e := by
  unfold products key
  rw [read_cos, read_ahead, read_behind, place_row, hP ⟨2816 + e.val, by omega⟩]
  refine Mix.turned_of_tables (fun d => token m c (row t r) ⟨2816 + d.val, by omega⟩) _ _ e _ _ (fun h => ?_) (fun h => ?_)
  · have i : (⟨2816 + (e.val + 128 - 120) % 128, by omega⟩ : Fin 2944) = ⟨2816 + (e.val + 8), by omega⟩ := Fin.ext (by dsimp only; omega)
    rw [i]
    exact hP ⟨2816 + (e.val + 8), by omega⟩
  · have i : (⟨2816 + (e.val + 128 - 8) % 128, by omega⟩ : Fin 2944) = ⟨2816 + (e.val - 8), by omega⟩ := Fin.ext (by dsimp only; omega)
    rw [i]
    exact hP ⟨2816 + (e.val - 8), by omega⟩

/-! What each point after the first leaves in the three outputs' buffers. -/

theorem stored_inputs (t : Fin cfg0.N) (h : t.val ≠ 0) (r : Fin 8) (l : Fin 512) : left18 m c t (ix2 r l) =
    token m c (row t ⟨504 + r.val, by omega⟩) ⟨512 + l.val, by omega⟩ * token m c (row t ⟨504 + r.val, by omega⟩) ⟨1024 + l.val, by omega⟩ := by
  by_cases h' : t.val % 2 = 1
  · rw [left18_odd m c t h']
    unfold outB18 runB
    frame_out
    rw [read_unread_whole]
    refine (inputsB_apply _ r l).trans ?_
    exact congrArg₂ (· * ·) (found_odd m c t h' _ ⟨512 + l.val, by omega⟩) (found_odd m c t h' _ ⟨1024 + l.val, by omega⟩)
  · rw [left18_even m c t h h']
    unfold outC18 runC
    frame_out
    rw [read_unread_whole]
    refine (inputsC_apply _ r l).trans ?_
    exact congrArg₂ (· * ·) (found_even m c t h h' _ ⟨512 + l.val, by omega⟩) (found_even m c t h h' _ ⟨1024 + l.val, by omega⟩)

theorem stored_values (t : Fin cfg0.N) (h : t.val ≠ 0) (e : Fin 128) (r : Fin 512) : left20 m c t (ix3 0 e r) =
    token m c (row t r) ⟨2176 + e.val, by omega⟩ := by
  by_cases h' : t.val % 2 = 1
  · rw [left20_odd m c t h']
    unfold outB20 runB
    frame_out
    rw [read_unread_whole]
    exact (valuesB_apply _ e r).trans (found_odd m c t h' r ⟨2176 + e.val, by omega⟩)
  · rw [left20_even m c t h h']
    unfold outC20 runC
    frame_out
    rw [read_unread_whole]
    exact (valuesC_apply _ e r).trans (found_even m c t h h' r ⟨2176 + e.val, by omega⟩)

theorem stored_keys (t : Fin cfg0.N) (h : t.val ≠ 0) (e : Fin 64) (r : Fin 512) : left21 m c t (ix3 0 e r) = key m c (row t r) e := by
  by_cases h' : t.val % 2 = 1
  · rw [left21_odd m c t h']
    unfold outB21 runB
    frame_out
    rw [read_unread_whole]
    exact (keysB_apply _ _ _ _ e r).trans (key_of m c _ t r e (found_odd m c t h' r))
  · rw [left21_even m c t h h']
    unfold outC21 runC
    frame_out
    rw [read_unread_whole]
    exact (keysC_apply _ _ _ _ e r).trans (key_of m c _ t r e (found_even m c t h h' r))

/-- The arrays the kernel leaves: of each tile the last eight tokens' inputs, the value features and the turned keys. -/
def inputsLeft : FVec Ideal S512x512 .f32 := fun y =>
  token m c ⟨(y 0).val / 8 * 512 + (504 + (y 0).val % 8), by have := (y 0).isLt; change (y 0).val < 512 at this; omega⟩
      ⟨512 + (y 1).val, by have := (y 1).isLt; change (y 1).val < 512 at this; omega⟩
    * token m c ⟨(y 0).val / 8 * 512 + (504 + (y 0).val % 8), by have := (y 0).isLt; change (y 0).val < 512 at this; omega⟩
      ⟨1024 + (y 1).val, by have := (y 1).isLt; change (y 1).val < 512 at this; omega⟩
def valuesLeft : FVec Ideal S16x128x2048 .f32 := fun y =>
  token m c ⟨(y 0).val * 2048 + (y 2).val, by
      have := (y 0).isLt; change (y 0).val < 16 at this; have := (y 2).isLt; change (y 2).val < 2048 at this; omega⟩
    ⟨2176 + (y 1).val, by have := (y 1).isLt; change (y 1).val < 128 at this; omega⟩
def keysLeft : FVec Ideal S16x64x2048 .f32 := fun y =>
  key m c ⟨(y 0).val * 2048 + (y 2).val, by
      have := (y 0).isLt; change (y 0).val < 16 at this; have := (y 2).isLt; change (y 2).val < 2048 at this; omega⟩ (y 1)

theorem place18 (t : Fin cfg0.N) (r : Fin 8) (l : Fin 512) :
    ((cfg0.win 18).blk t).view.emb (ix2 r l) = ix2 ⟨(t.val - 1) * 8 + r.val, by have := bound t; omega⟩ l := by
  blk_ext [idx t]
theorem place20 (t : Fin cfg0.N) (e : Fin 128) (r : Fin 512) :
    ((cfg0.win 20).blk t).view.emb (ix3 0 e r) = ix3 ⟨(t.val - 1) / 4, by have := bound t; omega⟩ e (place t r) := by
  unfold place
  blk_ext [idx t]
theorem place21 (t : Fin cfg0.N) (e : Fin 64) (r : Fin 512) :
    ((cfg0.win 21).blk t).view.emb (ix3 0 e r) = ix3 ⟨(t.val - 1) / 4, by have := bound t; omega⟩ e (place t r) := by
  unfold place
  blk_ext [idx t]

/-- The blocks written back are those of the points after the first. -/
theorem written : ∀ t : Fin cfg0.N, ((cfg0.win 18).flush t = true → t.val ≠ 0) ∧ ((cfg0.win 20).flush t = true → t.val ≠ 0)
    ∧ ((cfg0.win 21).flush t = true → t.val ≠ 0) := by decide +kernel

theorem row_inputs (t : Fin cfg0.N) (r : Fin 8) : (⟨((t.val - 1) * 8 + r.val) / 8 * 512 + (504 + ((t.val - 1) * 8 + r.val) % 8),
    by have := bound t; omega⟩ : Fin 32768) = row t ⟨504 + r.val, by omega⟩ :=
  Fin.ext (by unfold row; dsimp only; omega)
theorem row_place (t : Fin cfg0.N) (r : Fin 512) : (⟨(t.val - 1) / 4 * 2048 + (place t r).val, by have := bound t; omega⟩ : Fin 32768) = row t r :=
  Fin.ext (by unfold row place; dsimp only; omega)

/-- The convolution's inputs. -/
theorem left_inputs : (dats m 0 c).arrAt 18 cfg0.N = inputsLeft m c := by
  refine (dats m 0 c).arrAt_eq_of_covers 18 _ (by decide +kernel) fun t hf y => ?_
  have ht := (written t).1 hf
  blk_simp
  rw [after18]
  idx_vars y
  refine (stored_inputs m c t ht y0 y1).trans ?_
  refine Eq.trans ?_ (congrArg (inputsLeft m c) (place18 t y0 y1)).symm
  rw [← row_inputs t y0]
  rfl

/-- The value features. -/
theorem left_values : (dats m 0 c).arrAt 20 cfg0.N = valuesLeft m c := by
  refine (dats m 0 c).arrAt_eq_of_covers 20 _ (by decide +kernel) fun t hf y => ?_
  have ht := (written t).2.1 hf
  blk_simp
  rw [after20]
  idx_vars y
  obtain rfl : y0 = 0 := Subsingleton.elim _ _
  refine (stored_values m c t ht y1 y2).trans ?_
  refine Eq.trans ?_ (congrArg (valuesLeft m c) (place20 t y1 y2)).symm
  rw [← row_place t y2]
  rfl

/-- The turned keys. -/
theorem left_keys : (dats m 0 c).arrAt 21 cfg0.N = keysLeft m c := by
  refine (dats m 0 c).arrAt_eq_of_covers 21 _ (by decide +kernel) fun t hf y => ?_
  have ht := (written t).2.2 hf
  blk_simp
  rw [after21]
  idx_vars y
  obtain rfl : y0 = 0 := Subsingleton.elim _ _
  refine (stored_keys m c t ht y1 y2).trans ?_
  refine Eq.trans ?_ (congrArg (keysLeft m c) (place21 t y1 y2)).symm
  rw [← row_place t y2]
  rfl

/-! What the operations after the region leave of the three arrays. -/

theorem tail_values : (Pipeline.afterTail₀ cfgs (dats m) 0 (V0 m) [hostOps1] c main_v29 : S16x2048x2x64.Idx → EReal) =
    transpose S16x2048x2x64 [0, 3, 1, 2] (shapeCast S16x2x64x2048 (valuesLeft m c) shapeCasts_S16x128x2048_S16x2x64x2048)
      transposes_S16x2x64x2048_S16x2048x2x64_0_3_1_2 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v24_9) =
    valuesLeft m c from (Pipeline.Dat.withArrays_arrAt (dats m 0 c) (by decide) _ (fun _ => rfl) 20).trans (left_values m c)]
  rfl

theorem tail_keys : (Pipeline.afterTail₀ cfgs (dats m) 0 (V0 m) [hostOps1] c main_v30 : S16x2048x64.Idx → EReal) =
    transpose S16x2048x64 [0, 2, 1] (keysLeft m c) transposes_S16x64x2048_S16x2048x64_0_2_1 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v24_10) =
    keysLeft m c from (Pipeline.Dat.withArrays_arrAt (dats m 0 c) (by decide) _ (fun _ => rfl) 21).trans (left_keys m c)]

theorem tail_kept : (Pipeline.afterTail₀ cfgs (dats m) 0 (V0 m) [hostOps1] c main_v27 : S16x2x512.Idx → EReal) =
    shapeCast S16x2x512 (extractStridedSlice S16x1x2x512 ![0, 3, 6, 0] (shapeCast S16x4x8x512 (inputsLeft m c)
      shapeCasts_S512x512_S16x4x8x512) slices_S16x4x8x512_S16x1x2x512_0_3_6_0) shapeCasts_S16x1x2x512_S16x2x512 := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v24_7) =
    inputsLeft m c from (Pipeline.Dat.withArrays_arrAt (dats m 0 c) (by decide) _ (fun _ => rfl) 18).trans (left_inputs m c)]
  rfl

/-- The reference's three results over the kernel's arguments. -/
abbrev resultV : FVec Ideal S16x2048x2x64 .f32 := Cert.MixReferenceIdeal.Value.valued (Cert.MixReferenceIdeal.Value.projected (argX m c) (argG m c) (argW m c))
abbrev resultKeys : FVec Ideal S16x2048x64 .f32 :=
  Cert.MixReferenceIdeal.Value.turnedKeys (Cert.MixReferenceIdeal.Value.unturned (Cert.MixReferenceIdeal.Value.projected (argX m c) (argG m c) (argW m c))) (argCos m c) (argSin m c)
abbrev resultKept : FVec Ideal S16x2x512 .f32 := Cert.MixReferenceIdeal.Value.kept (Cert.MixReferenceIdeal.Value.projected (argX m c) (argG m c) (argW m c))

theorem values_eq : (Pipeline.afterTail₀ cfgs (dats m) 0 (V0 m) [hostOps1] c main_v29 : S16x2048x2x64.Idx → EReal) = resultV m c := by
  rw [tail_values]
  funext y
  idx_vars y
  refine Eq.trans (b := valuesLeft m c (ix3 y0 ⟨y2.val * 64 + y3.val, by omega⟩ y1)) ?_ ?_
  · generalize valuesLeft m c = A
    pointwise
  · refine Eq.trans ?_ (Cert.MixReferenceIdeal.Value.valued_apply _ y0 y1 y2 y3).symm
    exact (Cert.MixReferenceIdeal.Value.projected_apply _ _ _ y0 y1 _).symm

theorem kept_eq : (Pipeline.afterTail₀ cfgs (dats m) 0 (V0 m) [hostOps1] c main_v27 : S16x2x512.Idx → EReal) = resultKept m c := by
  rw [tail_kept]
  funext y
  idx_vars y
  refine Eq.trans (b := inputsLeft m c (ix2 ⟨(y0.val * 4 + 3) * 8 + (6 + y1.val), by omega⟩ y2)) ?_ ?_
  · generalize inputsLeft m c = A
    pointwise
    exact congrArg (fun k => A (ix2 k y2)) (Fin.ext (by dsimp only; omega))
  · refine Eq.trans ?_ (Cert.MixReferenceIdeal.Value.kept_apply _ y0 y1 y2).symm
    have hr : (⟨((y0.val * 4 + 3) * 8 + (6 + y1.val)) / 8 * 512 + (504 + ((y0.val * 4 + 3) * 8 + (6 + y1.val)) % 8), by omega⟩ : Fin 32768) =
        ⟨y0.val * 2048 + (2046 + y1.val), by omega⟩ := Fin.ext (by dsimp only; omega)
    refine (congrArg (fun R => token m c R ⟨512 + y2.val, by omega⟩ * token m c R ⟨1024 + y2.val, by omega⟩) hr).trans ?_
    exact congrArg₂ (· * ·) (Cert.MixReferenceIdeal.Value.projected_apply _ _ _ y0 ⟨2046 + y1.val, by omega⟩ _).symm
      (Cert.MixReferenceIdeal.Value.projected_apply _ _ _ y0 ⟨2046 + y1.val, by omega⟩ _).symm

theorem keys_eq : (Pipeline.afterTail₀ cfgs (dats m) 0 (V0 m) [hostOps1] c main_v30 : S16x2048x64.Idx → EReal) = resultKeys m c := by
  rw [tail_keys]
  funext y
  idx_vars y
  refine Eq.trans (b := keysLeft m c (ix3 y0 y2 y1)) ?_ ?_
  · generalize keysLeft m c = A
    pointwise
  · refine Eq.trans ?_ (Cert.MixReferenceIdeal.Value.turnedKeys_apply _ _ _ y0 y1 y2).symm
    show key m c ⟨y0.val * 2048 + y1.val, by omega⟩ y2 = _
    have hp : (⟨(y0.val * 2048 + y1.val) % 2048, Nat.mod_lt _ (by decide)⟩ : Fin 2048) = y1 := Fin.ext (by dsimp only; omega)
    unfold key
    simp only [hp]
    refine congrArg (fun y => Mix.turned y _ _ y2) (funext fun d => ?_)
    refine Eq.trans ?_ (Cert.MixReferenceIdeal.Value.unturned_apply _ y0 y1 d).symm
    exact (Cert.MixReferenceIdeal.Value.projected_apply _ _ _ y0 y1 _).symm

/-- The kernel's run: the reference's three results over the same arguments, which stand. -/
theorem run_named (ρ : Dev nD → PrngReg) :
    θ_run defs (onTc (τ := τ) (main (F := Ideal))) ⟨m, fun _ => 0, ρ⟩ fun r => ∀ c : Dev nD,
      r.2.mem ((c.tc : Thread nD τ).loc main_v29) = resultV m c
      ∧ r.2.mem ((c.tc : Thread nD τ).loc main_v30) = resultKeys m c
      ∧ r.2.mem ((c.tc : Thread nD τ).loc main_v27) = resultKept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h.1 c).2 main_v29 (Pipeline.mem_restRefs_of main_v29 (by decide) (by decide))).trans (values_eq m c),
      ((h.1 c).2 main_v30 (Pipeline.mem_restRefs_of main_v30 (by decide) (by decide))).trans (keys_eq m c),
      ((h.1 c).2 main_v27 (Pipeline.mem_restRefs_of main_v27 (by decide) (by decide))).trans (kept_eq m c), h.2 c⟩)
    (θ_run_and (run m ρ) (frame_of m ρ (dats m) (A_eq m) (run m ρ)))

theorem equal : Cert.algebraic_MixIdeal_MixReferenceIdeal := by
  intro m g m' g' _ hagree
  refine ⟨fun c => resultV m c, fun c => resultKeys m c, fun c => resultKept m c, run_named m g, ?_⟩
  refine (θ_run Cert.MixReferenceIdeal.defs _ _).mono (fun r h c => ?_) (Cert.MixReferenceIdeal.Value.run_named m' g')
  obtain ⟨h0, h1, h2, h3, h4, h5, h6, h7, h8⟩ := hagree c
  refine ⟨(h c).1.trans ?_, (h c).2.1.trans ?_, (h c).2.2.1.trans ?_, (h c).2.2.2⟩
  · unfold Cert.MixReferenceIdeal.Value.resultV
    rw [h0, h1, h2]
  · unfold Cert.MixReferenceIdeal.Value.resultKeys
    rw [h0, h1, h2, h7, h8]
  · unfold Cert.MixReferenceIdeal.Value.resultKept
    rw [h0, h1, h2]

end Cert.MixIdeal.Value
-- ==== Proof.lean ====
/-
  The certificate: each program's run and, of the value claims, the equality of what the two ideal programs leave.
-/
module

public import proofs.«01_k».proof.Proof.Gen.MixSample
public import proofs.«01_k».proof.Proof.Gen.MixSample.Launch
public import proofs.«01_k».proof.Proof.Gen.MixSample.Skeleton
public import proofs.«01_k».proof.Proof.Gen.MixSample.Points
public import proofs.«01_k».proof.Proof.Gen.MixSampleIdeal
public import proofs.«01_k».proof.Proof.Gen.MixSampleIdeal.Launch
public import proofs.«01_k».proof.Proof.Gen.MixSampleIdeal.Skeleton
public import proofs.«01_k».proof.Proof.Gen.MixSampleIdeal.Points
public import proofs.«01_k».proof.Proof.Gen.MixSampleReferenceIdeal
public import proofs.«01_k».proof.Proof.Gen.MixSampleReferenceIdeal.Run
public import proofs.«01_k».proof.Proof.Gen.Mix
public import proofs.«01_k».proof.Proof.Gen.Mix.Launch
public import proofs.«01_k».proof.Proof.Gen.Mix.Skeleton
public import proofs.«01_k».proof.Proof.Gen.Mix.Points
public import proofs.«01_k».proof.Proof.Gen.MixIdeal
public import proofs.«01_k».proof.Proof.Gen.MixIdeal.Launch
public import proofs.«01_k».proof.Proof.Gen.MixIdeal.Skeleton
public import proofs.«01_k».proof.Proof.Gen.MixIdeal.Points
public import proofs.«01_k».proof.Proof.Gen.MixReferenceIdeal
public import proofs.«01_k».proof.Proof.Gen.MixReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Pre_pages_in_pool
public import proofs.«01_k».proof.Proof.IdxLaunch
public import proofs.«01_k».proof.Proof.IdxPre
public import proofs.«01_k».proof.Proof.Word.IdxLaunch
public import proofs.«01_k».proof.Proof.FfnValue
public import proofs.«01_k».proof.Proof.OutValue
public import proofs.«01_k».proof.Proof.OutSampleValue
public import proofs.«01_k».proof.Proof.MixSampleLaunch
public import proofs.«01_k».proof.Proof.Word.MixSampleLaunch
public import proofs.«01_k».proof.Proof.MixSampleValue
public import proofs.«01_k».proof.Proof.MixLaunch
public import proofs.«01_k».proof.Proof.Word.MixLaunch
public import proofs.«01_k».proof.Proof.MixReference
public import proofs.«01_k».proof.Proof.MixValue
public import proofs.«01_k».proof.Proof.Gen.OutSample
public import proofs.«01_k».proof.Proof.Gen.OutSample.Frame
public import proofs.«01_k».proof.Proof.Gen.OutSample.Launch
public import proofs.«01_k».proof.Proof.Gen.OutSample.Skeleton
public import proofs.«01_k».proof.Proof.Gen.OutSample.Points
public import proofs.«01_k».proof.Proof.Gen.OutSampleIdeal
public import proofs.«01_k».proof.Proof.Gen.OutSampleIdeal.Frame
public import proofs.«01_k».proof.Proof.Gen.OutSampleIdeal.Launch
public import proofs.«01_k».proof.Proof.Gen.OutSampleIdeal.Skeleton
public import proofs.«01_k».proof.Proof.Gen.OutSampleIdeal.Points
public import proofs.«01_k».proof.Proof.Gen.OutSampleIdeal.Value
public import proofs.«01_k».proof.Proof.Gen.OutSampleReferenceIdeal
public import proofs.«01_k».proof.Proof.Gen.OutSampleReferenceIdeal.Run
public import Idealize.ShloMosaic.Adequacy
public import Idealize.ShloMosaic.Init
public import Idealize.ShloMosaic.Lib.Claim

@[expose] public section

noncomputable section

namespace Cert.Proof

open Idealize.ShloMosaic Idealize.SL.Sem

/-- The indexer kernel as printed. -/
theorem idx_kernel : Cert.quiescent_Kernel := fun m ρ h =>
  Cert.Kernel.Idx.unchanged (F := Bits) m ρ fun c x => by
    rw [Cert.Kernel.Idx.kept_arg0]; exact Cert.KernelIdeal.Idx.page_lt _ _ _ _ _ (h c) x

/-- The indexer kernel in exact arithmetic. -/
theorem idx_ideal : Cert.quiescent_KernelIdeal := fun m ρ h =>
  Cert.KernelIdeal.Idx.unchanged (F := Ideal) m ρ fun c x => by
    rw [Cert.KernelIdeal.Idx.kept_arg0]; exact Cert.KernelIdeal.Idx.page_lt _ _ _ _ _ (h c) x

/-- The indexer's reference. -/
theorem idx_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem ffn_kernel : Cert.quiescent_Ffn := fun m ρ _ => Cert.Ffn.Gen.frame m ρ
theorem ffn_ideal : Cert.quiescent_FfnIdeal := fun m ρ _ => Cert.FfnIdeal.Gen.frame m ρ
theorem ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run m ρ)
theorem out_kernel : Cert.quiescent_Out := fun m ρ _ => Cert.Out.Gen.frame m ρ
theorem out_ideal : Cert.quiescent_OutIdeal := fun m ρ _ => Cert.OutIdeal.Gen.frame m ρ
theorem out_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run m ρ)

theorem out_sample_kernel : Cert.quiescent_OutSample := fun m ρ _ => Cert.OutSample.Gen.frame m ρ
theorem out_sample_ideal : Cert.quiescent_OutSampleIdeal := fun m ρ _ => Cert.OutSampleIdeal.Gen.frame m ρ
theorem out_sample_reference : Cert.quiescent_OutSampleReferenceIdeal := fun m ρ _ =>
  (θ_run Cert.OutSampleReferenceIdeal.defs _ _).mono (fun r h => ⟨fun c => (h c).2, sem_eq_zero_of_no_sems (by decide) r.2⟩)
    (Cert.OutSampleReferenceIdeal.Value.run m ρ)

theorem mix_sample_kernel : Cert.quiescent_MixSample := fun m ρ _ =>
  θ_run_and (Cert.MixSample.Gen.frame_of m ρ (Cert.MixSample.Launched.dats m) (Cert.MixSample.Launched.A_eq m)
      (Cert.MixSample.Launched.run m ρ))
    ((θ_run Cert.MixSample.defs _ _).mono (fun _ h => h.2) (Cert.MixSample.Launched.run_quiet m ρ))
theorem mix_sample_ideal : Cert.quiescent_MixSampleIdeal := fun m ρ _ =>
  θ_run_and (Cert.MixSampleIdeal.Gen.frame_of m ρ (Cert.MixSampleIdeal.Launched.dats m) (Cert.MixSampleIdeal.Launched.A_eq m)
      (Cert.MixSampleIdeal.Launched.run m ρ))
    ((θ_run Cert.MixSampleIdeal.defs _ _).mono (fun _ h => h.2) (Cert.MixSampleIdeal.Launched.run_quiet m ρ))
theorem mix_sample_reference : Cert.quiescent_MixSampleReferenceIdeal := fun m ρ _ =>
  (θ_run Cert.MixSampleReferenceIdeal.defs _ _).mono (fun r h => ⟨fun c => (h c).2.2.2, sem_eq_zero_of_no_sems (by decide) r.2⟩)
    (Cert.MixSampleReferenceIdeal.Value.run m ρ)

theorem mix_kernel : Cert.quiescent_Mix := fun m ρ _ =>
  θ_run_and (Cert.Mix.Gen.frame_of m ρ (Cert.Mix.Launched.dats m) (Cert.Mix.Launched.A_eq m)
      (Cert.Mix.Launched.run m ρ))
    ((θ_run Cert.Mix.defs _ _).mono (fun _ h => h.2) (Cert.Mix.Launched.run_quiet m ρ))
theorem mix_ideal : Cert.quiescent_MixIdeal := fun m ρ _ =>
  θ_run_and (Cert.MixIdeal.Gen.frame_of m ρ (Cert.MixIdeal.Launched.dats m) (Cert.MixIdeal.Launched.A_eq m)
      (Cert.MixIdeal.Launched.run m ρ))
    ((θ_run Cert.MixIdeal.defs _ _).mono (fun _ h => h.2) (Cert.MixIdeal.Launched.run_quiet m ρ))
theorem mix_reference : Cert.quiescent_MixReferenceIdeal := fun m ρ _ =>
  (θ_run Cert.MixReferenceIdeal.defs _ _).mono (fun r h => ⟨fun c => (h c).2.2.2, sem_eq_zero_of_no_sems (by decide) r.2⟩)
    (Cert.MixReferenceIdeal.Value.run m ρ)

/-- Everything claimed. -/
theorem claim : Cert.Claim :=
  ⟨inferInstance, inferInstance, inferInstance, inferInstance, inferInstance, inferInstance, inferInstance,
    inferInstance, inferInstance, inferInstance, inferInstance, inferInstance, inferInstance, inferInstance, inferInstance, inferInstance,
    inferInstance, inferInstance, inferInstance,
    idx_kernel, idx_ideal, idx_reference, ffn_kernel, ffn_ideal,
    ffn_reference, out_kernel, out_ideal, out_reference, out_sample_kernel, out_sample_ideal, out_sample_reference,
    mix_sample_kernel, mix_sample_ideal, mix_sample_reference,
    mix_kernel, mix_ideal, mix_reference, trivial, trivial, Cert.FfnIdeal.Value.equal,
    trivial, Cert.OutIdeal.Value.equal, trivial, Cert.OutSampleIdeal.Value.equal,
    trivial, Cert.MixSampleIdeal.Value.equal, trivial, Cert.MixIdeal.Value.equal⟩

end Cert.Proof

end
